-- ==== Defs.lean ====
def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Gather [hPre_slots_in_range : Cert.Pre_slots_in_range.Facts] (m : (ℓ : Loc Cert.Gather.nD Cert.Gather.τ Cert.Gather.sig) → Buf (Elt Bits) ℓ) : Prop :=
  ∀ c : Dev Cert.Gather.nD,
    (Cert.Pre_slots_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_slots_in_range : Cert.Pre_slots_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_slots_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_slots_in_range [hPre_slots_in_range : Cert.Pre_slots_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_slots_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Gather [hGather : Cert.Gather.Facts] [hPre_slots_in_range : Cert.Pre_slots_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_slots_in_range : Cert.Pre_slots_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_slots_in_range [hGatherReferenceIdeal : Cert.GatherReferenceIdeal.Facts] [hPre_slots_in_range : Cert.Pre_slots_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_slots_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Gather_GatherIdeal : Prop :=
  True

def algebraic_GatherIdeal_GatherReferenceIdeal [hGatherIdeal : Cert.GatherIdeal.Facts] [hGatherReferenceIdeal : Cert.GatherReferenceIdeal.Facts] [hPre_slots_in_range : Cert.Pre_slots_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v10)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v10) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v7) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_logits_finite : Cert.Pre_logits_finite.Facts) (hPre_slots_in_range : Cert.Pre_slots_in_range.Facts),
    quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Gather (hGather := hGather) (hPre_slots_in_range := hPre_slots_in_range)
    ∧ quiescent_GatherIdeal (hGatherIdeal := hGatherIdeal) (hPre_slots_in_range := hPre_slots_in_range)
    ∧ quiescent_GatherReferenceIdeal (hGatherReferenceIdeal := hGatherReferenceIdeal)
    ∧ quiescent_GatherReferenceIdeal_pre_slots_in_range (hGatherReferenceIdeal := hGatherReferenceIdeal) (hPre_slots_in_range := hPre_slots_in_range)
    ∧ algebraic_KernelIdeal_ReferenceIdeal_pre_logits_finite (hKernelIdeal := hKernelIdeal) (hReferenceIdeal := hReferenceIdeal) (hPre_logits_finite := hPre_logits_finite)
    ∧ preserves_Gather_GatherIdeal
    ∧ algebraic_GatherIdeal_GatherReferenceIdeal (hGatherIdeal := hGatherIdeal) (hGatherReferenceIdeal := hGatherReferenceIdeal) (hPre_slots_in_range := hPre_slots_in_range)
-- ==== Pre_logits_finite.lean ====
abbrev S1x2048x1024 : Shape := ⟨3, ![1, 2048, 1024]⟩
abbrev S1x2048 : Shape := ⟨2, ![1, 2048]⟩
abbrev S8x1024 : Shape := ⟨2, ![8, 1024]⟩
abbrev S8 : Shape := ⟨1, ![8]⟩
abbrev S8x1024x1024 : Shape := ⟨3, ![8, 1024, 1024]⟩
abbrev S1x1024x1024 : Shape := ⟨3, ![1, 1024, 1024]⟩
abbrev S1024 : Shape := ⟨1, ![1024]⟩
abbrev S2048x1 : Shape := ⟨2, ![2048, 1]⟩
abbrev S_ : Shape := ⟨0, ![]⟩
abbrev S2048x1024 : Shape := ⟨2, ![2048, 1024]⟩
abbrev S1024x8 : Shape := ⟨2, ![1024, 8]⟩
abbrev S2048x8 : Shape := ⟨2, ![2048, 8]⟩
abbrev S1x8 : Shape := ⟨2, ![1, 8]⟩

class Facts : Prop where
  shapeCasts_S1x2048_S2048x1 : S1x2048.ShapeCasts S2048x1
  bcast_S_S2048x1 : S_.BroadcastsInDim S2048x1 (![] : Fin 0 → Fin S2048x1.rank)
  shapeCasts_S1x2048x1024_S2048x1024 : S1x2048x1024.ShapeCasts S2048x1024
  transposes_S8x1024_S1024x8_1_0 : S8x1024.Transposes [1, 0] S1024x8
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  dot_S2048x1024_S1024x8_S2048x8_1_0_0_1_n_n_wf : DotDims.WF S2048x1024 S1024x8 S2048x8 [1] [0] [0] [1] [] []

variable [Facts]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def fn_clip {F : FTy → Type} [FloatOps F] (arg0 : FVec F S2048x1 .f32) (arg1 : FVec F S_ .f32) (arg2 : FVec F S_ .f32) : FVec F S2048x1 .f32 :=
  let v0 : FVec F S_ .f32 := id arg1
  let v1 : FVec F S2048x1 .f32 := broadcastInDim S2048x1 ![] bcast_S_S2048x1 v0
  let v2 : FVec F S2048x1 .f32 := maximumf v1 arg0
  let v3 : FVec F S_ .f32 := id arg2
  let v4 : FVec F S2048x1 .f32 := broadcastInDim S2048x1 ![] bcast_S_S2048x1 v3
  let v5 : FVec F S2048x1 .f32 := minimumf v4 v2
  v5

def fn {F : FTy → Type} [FloatOps F] (main_arg0 : FVec F S1x2048x1024 .f32) (main_arg1 : FVec F S1x2048 .f32) (main_arg2 : FVec F S8x1024 .f32) (main_arg3 : FVec F S8 .f32) (main_arg4 : FVec F S8 .f32) (main_arg5 : FVec F S8x1024x1024 .f32) (main_arg6 : FVec F S8x1024x1024 .f32) (main_arg7 : FVec F S8x1024x1024 .f32) (main_arg8 : FVec F S1x1024x1024 .f32) (main_arg9 : FVec F S1x1024x1024 .f32) (main_arg10 : FVec F S1x1024x1024 .f32) (main_arg11 : FVec F S1024 .f32) : IVec S2048x8 1 :=
  let main_v0 : FVec F S2048x1 .f32 := shapeCast S2048x1 main_arg1 shapeCasts_S1x2048_S2048x1
  let main_cst : FVec F S_ .f32 := constant S_ .f32 0x00000000#32
  let main_cst_0 : FVec F S_ .f32 := constant S_ .f32 0x3F800000#32
  let main_v1 : FVec F S2048x1 .f32 := fn_clip (F := F) main_v0 main_cst main_cst_0
  let main_v2 : FVec F S2048x1024 .f32 := shapeCast S2048x1024 main_arg0 shapeCasts_S1x2048x1024_S2048x1024
  let main_v3 : FVec F S1024x8 .f32 := (transpose S1024x8 [1, 0] · transposes_S8x1024_S1024x8_1_0) main_arg2
  let main_v4 : FVec F S2048x8 .f32 := (fun l r => Host.dotGeneral dot_S2048x1024_S1024x8_S2048x8_1_0_0_1_n_n none l r) main_v2 main_v3
  let main_v5 : FVec F S1x8 .f32 := broadcastInDim S1x8 ![1] bcast_S8_S1x8_1 main_arg3
  let main_v6 : FVec F S2048x8 .f32 := broadcastInDim S2048x8 ![0, 1] bcast_S2048x1_S2048x8_0_1 main_v1
  let main_v7 : FVec F S2048x8 .f32 := broadcastInDim S2048x8 ![0, 1] bcast_S1x8_S2048x8_0_1 main_v5
  let main_v8 : FVec F S2048x8 .f32 := mulf main_v6 main_v7
  let main_v9 : FVec F S2048x8 .f32 := addf main_v4 main_v8
  let main_cst_1 : FVec F S_ .f32 := constant S_ .f32 0x3F800000#32
  let main_v10 : FVec F S2048x1 .f32 := broadcastInDim S2048x1 ![] bcast_S_S2048x1 main_cst_1
  let main_v11 : FVec F S2048x1 .f32 := subf main_v10 main_v1
  let main_v12 : FVec F S1x8 .f32 := broadcastInDim S1x8 ![1] bcast_S8_S1x8_1 main_arg4
  let main_v13 : FVec F S2048x8 .f32 := broadcastInDim S2048x8 ![0, 1] bcast_S2048x1_S2048x8_0_1 main_v11
  let main_v14 : FVec F S2048x8 .f32 := broadcastInDim S2048x8 ![0, 1] bcast_S1x8_S2048x8_0_1 main_v12
  let main_v15 : FVec F S2048x8 .f32 := mulf main_v13 main_v14
  let main_v16 : FVec F S2048x8 .f32 := addf main_v9 main_v15
  let main_v17 : FVec F S2048x8 .f32 := Host.absf main_v16
  let main_cst_2 : FVec F S_ .f32 := constant S_ .f32 0x7F800000#32
  let main_v18 : FVec F S2048x8 .f32 := broadcastInDim S2048x8 ![] bcast_S_S2048x8 main_cst_2
  let main_v19 : IVec S2048x8 1 := cmpf .olt main_v17 main_v18
  main_v19
-- ==== Pre_slots_in_range.lean ====
abbrev S7680x1024 : Shape := ⟨2, ![7680, 1024]⟩
abbrev S4096x1 : Shape := ⟨2, ![4096, 1]⟩
abbrev S_ : Shape := ⟨0, ![]⟩

class Facts : Prop where
  bcast_S_S4096x1 : S_.BroadcastsInDim S4096x1 (![] : Fin 0 → Fin S4096x1.rank)

variable [Facts]

def fn {F : FTy → Type} [FloatOps F] (main_arg0 : FVec F S7680x1024 .f32) (main_arg1 : IVec S4096x1 32) : IVec S4096x1 1 :=
  let main_c : IVec S_ 32 := constantI S_ 32 0#32
  let main_v0 : IVec S4096x1 32 := broadcastInDim S4096x1 ![] bcast_S_S4096x1 main_c
  let main_v1 : IVec S4096x1 1 := cmpi .sge main_arg1 main_v0
  let main_c_0 : IVec S_ 32 := constantI S_ 32 7680#32
  let main_v2 : IVec S4096x1 32 := broadcastInDim S4096x1 ![] bcast_S_S4096x1 main_c_0
  let main_v3 : IVec S4096x1 1 := cmpi .slt main_arg1 main_v2
  let main_v4 : IVec S4096x1 1 := andi main_v1 main_v3
  main_v4
-- ==== KernelIdeal.lean ====
abbrev S1x2048x1024 : Shape := ⟨3, ![1, 2048, 1024]⟩
abbrev S1x2048 : Shape := ⟨2, ![1, 2048]⟩
abbrev S8x1024 : Shape := ⟨2, ![8, 1024]⟩
abbrev S8 : Shape := ⟨1, ![8]⟩
abbrev S8x1024x1024 : Shape := ⟨3, ![8, 1024, 1024]⟩
abbrev S1x1024x1024 : Shape := ⟨3, ![1, 1024, 1024]⟩
abbrev S1024 : Shape := ⟨1, ![1024]⟩
abbrev S2048x1024 : Shape := ⟨2, ![2048, 1024]⟩
abbrev S2048x1 : Shape := ⟨2, ![2048, 1]⟩
abbrev S1x8 : Shape := ⟨2, ![1, 8]⟩
abbrev S4096x1 : Shape := ⟨2, ![4096, 1]⟩
abbrev S31x1 : Shape := ⟨2, ![31, 1]⟩
abbrev S1x1 : Shape := ⟨2, ![1, 1]⟩
abbrev S2048x8 : Shape := ⟨2, ![2048, 8]⟩
abbrev S2048 : Shape := ⟨1, ![2048]⟩
abbrev S1x1x8 : Shape := ⟨3, ![1, 1, 8]⟩
abbrev S1 : Shape := ⟨1, ![1]⟩
abbrev S1x1x1 : Shape := ⟨3, ![1, 1, 1]⟩
abbrev S4096x8 : Shape := ⟨2, ![4096, 8]⟩
abbrev S512x512 : Shape := ⟨2, ![512, 512]⟩
abbrev S512x8 : Shape := ⟨2, ![512, 8]⟩
abbrev S8x8 : Shape := ⟨2, ![8, 8]⟩
abbrev S512 : Shape := ⟨1, ![512]⟩
abbrev S512x1 : Shape := ⟨2, ![512, 1]⟩
abbrev S15x8 : Shape := ⟨2, ![15, 8]⟩
abbrev S15 : Shape := ⟨1, ![15]⟩
abbrev S15x1 : Shape := ⟨2, ![15, 1]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S32x4x128 : Shape := ⟨3, ![32, 4, 128]⟩
abbrev S31 : Shape := ⟨1, ![31]⟩
abbrev S8192x2x128 : Shape := ⟨3, ![8192, 2, 128]⟩
abbrev S30720x2x128 : Shape := ⟨3, ![30720, 2, 128]⟩
abbrev S4x128 : Shape := ⟨2, ![4, 128]⟩
abbrev S128x2x128 : Shape := ⟨3, ![128, 2, 128]⟩
abbrev S1x4x128 : Shape := ⟨3, ![1, 4, 128]⟩
abbrev S1x128 : Shape := ⟨2, ![1, 128]⟩
abbrev S128 : Shape := ⟨1, ![128]⟩
abbrev S7680x1024 : Shape := ⟨2, ![7680, 1024]⟩
abbrev S1024x1024 : Shape := ⟨2, ![1024, 1024]⟩
abbrev S512x1024 : Shape := ⟨2, ![512, 1024]⟩
abbrev S16384x2x128 : Shape := ⟨3, ![16384, 2, 128]⟩
abbrev S4096x1024 : Shape := ⟨2, ![4096, 1024]⟩
abbrev S1x1024 : Shape := ⟨2, ![1, 1024]⟩
abbrev S1024x1 : Shape := ⟨2, ![1024, 1]⟩

abbrev nBuf : Table → Nat
  | .hbm => 41
  | .local .tc .vmem => 39
  | .local .tc .smem => 1
  | .local .scVector .vmem => 6
  | _ => 0

abbrev bufTy : (tb : Table) → Fin (nBuf tb) → BufTy
  | .hbm, ⟨0, _⟩ => ⟨S1x2048x1024, .f32⟩
  | .hbm, ⟨1, _⟩ => ⟨S1x2048, .f32⟩
  | .hbm, ⟨2, _⟩ => ⟨S8x1024, .f32⟩
  | .hbm, ⟨3, _⟩ => ⟨S8, .f32⟩
  | .hbm, ⟨4, _⟩ => ⟨S8, .f32⟩
  | .hbm, ⟨5, _⟩ => ⟨S8x1024x1024, .f32⟩
  | .hbm, ⟨6, _⟩ => ⟨S8x1024x1024, .f32⟩
  | .hbm, ⟨7, _⟩ => ⟨S8x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1024, .f32⟩
  | .hbm, ⟨12, _⟩ => ⟨S2048x1024, .f32⟩
  | .hbm, ⟨13, _⟩ => ⟨S2048x1, .f32⟩
  | .hbm, ⟨14, _⟩ => ⟨S1x8, .f32⟩
  | .hbm, ⟨15, _⟩ => ⟨S1x8, .f32⟩
  | .hbm, ⟨16, _⟩ => ⟨S4096x1, .f32⟩
  | .hbm, ⟨17, _⟩ => ⟨S4096x1, .i32⟩
  | .hbm, ⟨18, _⟩ => ⟨S31x1, .i32⟩
  | .hbm, ⟨19, _⟩ => ⟨S1x1, .f32⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4, .i32⟩
  | .hbm, ⟨24, _⟩ => ⟨S1x4, .i32⟩
  | .hbm, ⟨25, _⟩ => ⟨S4096x4, .i32⟩
  | .hbm, ⟨26, _⟩ => ⟨S4096x4, .i32⟩
  | .hbm, ⟨27, _⟩ => ⟨S4096x4, .i32⟩
  | .hbm, ⟨28, _⟩ => ⟨S32x4x128, .i32⟩
  | .hbm, ⟨29, _⟩ => ⟨S8192x2x128, .f32⟩
  | .hbm, ⟨30, _⟩ => ⟨S30720x2x128, .f32⟩
  | .hbm, ⟨31, _⟩ => ⟨S7680x1024, .f32⟩
  | .hbm, ⟨32, _⟩ => ⟨S2048x1024, .f32⟩
  | .hbm, ⟨33, _⟩ => ⟨S7680x1024, .f32⟩
  | .hbm, ⟨34, _⟩ => ⟨S30720x2x128, .f32⟩
  | .hbm, ⟨35, _⟩ => ⟨S16384x2x128, .f32⟩
  | .hbm, ⟨36, _⟩ => ⟨S4096x1024, .f32⟩
  | .hbm, ⟨37, _⟩ => ⟨S1x1024, .f32⟩
  | .hbm, ⟨38, _⟩ => ⟨S2048x1024, .f32⟩
  | .hbm, ⟨39, _⟩ => ⟨S1x2048x1024, .f32⟩
  | .hbm, ⟨40, _⟩ => ⟨S_, .f32⟩
  | .local .tc .vmem, ⟨0, _⟩ => ⟨S2048x1024, .f32⟩
  | .local .tc .vmem, ⟨1, _⟩ => ⟨S2048x1, .f32⟩
  | .local .tc .vmem, ⟨2, _⟩ => ⟨S8x1024, .f32⟩
  | .local .tc .vmem, ⟨3, _⟩ => ⟨S1x8, .f32⟩
  | .local .tc .vmem, ⟨4, _⟩ => ⟨S1x8, .f32⟩
  | .local .tc .vmem, ⟨5, _⟩ => ⟨S4096x1, .f32⟩
  | .local .tc .vmem, ⟨6, _⟩ => ⟨S4096x1, .i32⟩
  | .local .tc .vmem, ⟨7, _⟩ => ⟨S31x1, .i32⟩
  | .local .tc .vmem, ⟨8, _⟩ => ⟨S1x1, .f32⟩
  | .local .tc .vmem, ⟨9, _⟩ => ⟨S1024x1024, .f32⟩
  | .local .tc .vmem, ⟨10, _⟩ => ⟨S1024x1024, .f32⟩
  | .local .tc .vmem, ⟨11, _⟩ => ⟨S1x1024x1024, .f32⟩
  | .local .tc .vmem, ⟨12, _⟩ => ⟨S1x1024x1024, .f32⟩
  | .local .tc .vmem, ⟨13, _⟩ => ⟨S1x1024x1024, .f32⟩
  | .local .tc .vmem, ⟨14, _⟩ => ⟨S1024x1024, .f32⟩
  | .local .tc .vmem, ⟨15, _⟩ => ⟨S1024x1024, .f32⟩
  | .local .tc .vmem, ⟨16, _⟩ => ⟨S512x1024, .f32⟩
  | .local .tc .vmem, ⟨17, _⟩ => ⟨S512x1024, .f32⟩
  | .local .tc .vmem, ⟨18, _⟩ => ⟨S1x1024x1024, .f32⟩
  | .local .tc .vmem, ⟨19, _⟩ => ⟨S1x1024x1024, .f32⟩
  | .local .tc .vmem, ⟨20, _⟩ => ⟨S1x1024x1024, .f32⟩
  | .local .tc .vmem, ⟨21, _⟩ => ⟨S1x1024x1024, .f32⟩
  | .local .tc .vmem, ⟨22, _⟩ => ⟨S1x1024x1024, .f32⟩
  | .local .tc .vmem, ⟨23, _⟩ => ⟨S1x1024x1024, .f32⟩
  | .local .tc .vmem, ⟨24, _⟩ => ⟨S512x1024, .f32⟩
  | .local .tc .vmem, ⟨25, _⟩ => ⟨S512x1024, .f32⟩
  | .local .tc .vmem, ⟨26, _⟩ => ⟨S1024x1, .f32⟩
  | .local .tc .vmem, ⟨27, _⟩ => ⟨S1024x1, .f32⟩
  | .local .tc .vmem, ⟨28, _⟩ => ⟨S1024x1, .f32⟩
  | .local .tc .vmem, ⟨29, _⟩ => ⟨S1024x1, .f32⟩
  | .local .tc .vmem, ⟨30, _⟩ => ⟨S1024x1024, .f32⟩
  | .local .tc .vmem, ⟨31, _⟩ => ⟨S1024x1024, .f32⟩
  | .local .tc .vmem, ⟨32, _⟩ => ⟨S1024x1024, .f32⟩
  | .local .tc .vmem, ⟨33, _⟩ => ⟨S1024x1024, .f32⟩
  | .local .tc .vmem, ⟨34, _⟩ => ⟨S1024x1024, .f32⟩
  | .local .tc .vmem, ⟨35, _⟩ => ⟨S1024x1024, .f32⟩
  | .local .tc .vmem, ⟨36, _⟩ => ⟨S1x1024, .f32⟩
  | .local .tc .vmem, ⟨37, _⟩ => ⟨S1024x1024, .f32⟩
  | .local .tc .vmem, ⟨38, _⟩ => ⟨S1024x1024, .f32⟩
  | .local .tc .smem, ⟨0, _⟩ => ⟨S31, .i32⟩
  | .local .scVector .vmem, ⟨0, _⟩ => ⟨S4x128, .i32⟩
  | .local .scVector .vmem, ⟨1, _⟩ => ⟨S128x2x128, .f32⟩
  | .local .scVector .vmem, ⟨2, _⟩ => ⟨S128x2x128, .f32⟩
  | .local .scVector .vmem, ⟨3, _⟩ => ⟨S4x128, .i32⟩
  | .local .scVector .vmem, ⟨4, _⟩ => ⟨S128x2x128, .f32⟩
  | .local .scVector .vmem, ⟨5, _⟩ => ⟨S128x2x128, .f32⟩
  | _, _ => ⟨S1x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => false
  | ⟨32, _⟩ => false
  | ⟨33, _⟩ => false
  | ⟨34, _⟩ => false
  | ⟨35, _⟩ => false
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTables nBuf rfl bufTy 4 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v13 : Ref sig .tc := ⟨.smem, 0, rfl⟩
abbrev main_v14_scv : Ref sig .scVector := ⟨.hbm, 29, rfl⟩
abbrev main_v12_scv : Ref sig .scVector := ⟨.hbm, 28, rfl⟩
abbrev main_v15_scv : Ref sig .scVector := ⟨.hbm, 30, rfl⟩
abbrev main_v19_scv : Ref sig .scVector := ⟨.hbm, 34, rfl⟩
abbrev main_v20_scv : Ref sig .scVector := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc5_stg4_0 : Ref sig .tc := ⟨.vmem, 34, rfl⟩
abbrev cc5_stg4_1 : Ref sig .tc := ⟨.vmem, 35, rfl⟩
abbrev cc5_stg5_0 : Ref sig .tc := ⟨.vmem, 36, rfl⟩
abbrev cc5_stg6_0 : Ref sig .tc := ⟨.vmem, 37, rfl⟩
abbrev cc5_stg6_1 : Ref sig .tc := ⟨.vmem, 38, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc4_scratch0 : Ref sig .scVector := ⟨.vmem, 3, rfl⟩
abbrev cc4_scratch1 : Ref sig .scVector := ⟨.vmem, 4, rfl⟩
abbrev cc4_scratch2 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc5_sem4_0 : DmaSem sig := 44
abbrev cc5_sem4_1 : DmaSem sig := 45
abbrev cc5_sem5_0 : DmaSem sig := 46
abbrev cc5_sem6_0 : DmaSem sig := 47
abbrev cc5_sem6_1 : DmaSem sig := 48
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S31x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_77_r0 : BitVec 32 := 0#32
  let c0_i32_78_r0 : BitVec 32 := 0#32
  ![v1.toNat, 0, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let c4_i32 : BitVec 32 := 4#32
  let v13 : BitVec 32 := Scalar.muli v12 c4_i32
  let c0_i32_3 : BitVec 32 := 0#32
  let c0_i32_4 : BitVec 32 := 0#32
  ![v13.toNat, 0, 0]
def k1_off3 (i : grid1.Coords) (c32_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v12 : BitVec 32 := Scalar.muli v11 c128_i32
  let v18 : BitVec 32 := Scalar.addi v12 c32_i32
  let c4_i32_11 : BitVec 32 := 4#32
  let v19 : BitVec 32 := Scalar.muli v18 c4_i32_11
  let c0_i32_12 : BitVec 32 := 0#32
  let c0_i32_13 : BitVec 32 := 0#32
  ![v19.toNat, 0, 0]
abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![15], ![false]⟩

abbrev pre3 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) (c16_i32 : BitVec 32) : Fin 1 → Nat :=
  let arg0 : BitVec 32 := BitVec.ofNat 32 (i 0).val
  let v0 : BitVec 32 := Scalar.addi c16_i32 arg0
  let v1 : Index := Scalar.indexCast v0
  ![v1.toNat]
def k3_cond1 (i : grid3.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc3_transform_0 (k3_off1_inb : ∀ i : grid3.Coords, ∀ (r : Fin 2), ∀ a, (k3_off1 i (BitVec.ofNat 32 (1 + 15 * r.val))) a + S1.size a ≤ S31.size a) (numel1_S1 : S1.numel = 1) (pf : pre3.Contents (Elt F)) (i : grid3.Coords) : Fin 2 → Nat :=
  let arg0 : BitVec 32 := BitVec.ofNat 32 (i 0).val
  let c16_i32 : BitVec 32 := 16#32
  let v0 : BitVec 32 := Scalar.addi c16_i32 arg0
  let v1 : Index := Scalar.indexCast v0
  let v2 : BitVec 32 := pf.at 0 (Rect.unit (s := S31) ![v1.toNat] S1.size (k3_off1_inb i 1)) numel1_S1
  let c0_i32 : BitVec 32 := 0#32
  let c0_i32_0 : BitVec 32 := 0#32
  ![v2.toNat, c0_i32.toNat]

def cc3_transform_1 (k3_off1_inb : ∀ i : grid3.Coords, ∀ (r : Fin 2), ∀ a, (k3_off1 i (BitVec.ofNat 32 (1 + 15 * r.val))) a + S1.size a ≤ S31.size a) (numel1_S1 : S1.numel = 1) (pf : pre3.Contents (Elt F)) (i : grid3.Coords) : Fin 3 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S31) ![v1.toNat] S1.size (k3_off1_inb i 0)) numel1_S1
  let c0_i32 : BitVec 32 := 0#32
  let c0_i32_0 : BitVec 32 := 0#32
  let c0_i32_1 : BitVec 32 := 0#32
  ![v2.toNat, c0_i32.toNat, c0_i32_0.toNat]

def cc3_transform_2 (k3_off1_inb : ∀ i : grid3.Coords, ∀ (r : Fin 2), ∀ a, (k3_off1 i (BitVec.ofNat 32 (1 + 15 * r.val))) a + S1.size a ≤ S31.size a) (numel1_S1 : S1.numel = 1) (pf : pre3.Contents (Elt F)) (i : grid3.Coords) : Fin 3 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S31) ![v1.toNat] S1.size (k3_off1_inb i 0)) numel1_S1
  let c0_i32 : BitVec 32 := 0#32
  let c0_i32_0 : BitVec 32 := 0#32
  let c0_i32_1 : BitVec 32 := 0#32
  ![v2.toNat, c0_i32.toNat, c0_i32_0.toNat]

def cc3_transform_3 (k3_off1_inb : ∀ i : grid3.Coords, ∀ (r : Fin 2), ∀ a, (k3_off1 i (BitVec.ofNat 32 (1 + 15 * r.val))) a + S1.size a ≤ S31.size a) (numel1_S1 : S1.numel = 1) (pf : pre3.Contents (Elt F)) (i : grid3.Coords) : Fin 3 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S31) ![v1.toNat] S1.size (k3_off1_inb i 0)) numel1_S1
  let c0_i32 : BitVec 32 := 0#32
  let c0_i32_0 : BitVec 32 := 0#32
  let c0_i32_1 : BitVec 32 := 0#32
  ![v2.toNat, c0_i32.toNat, c0_i32_0.toNat]

def cc3_transform_4 (k3_off1_inb : ∀ i : grid3.Coords, ∀ (r : Fin 2), ∀ a, (k3_off1 i (BitVec.ofNat 32 (1 + 15 * r.val))) a + S1.size a ≤ S31.size a) (numel1_S1 : S1.numel = 1) (pf : pre3.Contents (Elt F)) (i : grid3.Coords) : Fin 2 → Nat :=
  let arg0 : BitVec 32 := BitVec.ofNat 32 (i 0).val
  let c16_i32 : BitVec 32 := 16#32
  let v0 : BitVec 32 := Scalar.addi c16_i32 arg0
  let v1 : Index := Scalar.indexCast v0
  let v2 : BitVec 32 := pf.at 0 (Rect.unit (s := S31) ![v1.toNat] S1.size (k3_off1_inb i 1)) numel1_S1
  let c0_i32 : BitVec 32 := 0#32
  let c0_i32_0 : BitVec 32 := 0#32
  ![v2.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_73_r0 : BitVec 32 := 0#32
  let c0_i32_74_r0 : BitVec 32 := 0#32
  ![v1.toNat, 0, 0]
def k4_off2 (i : grid4.Coords) (c0_i32_13 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v12 : BitVec 32 := Scalar.addi v2 c0_i32_13
  let c4_i32 : BitVec 32 := 4#32
  let v13 : BitVec 32 := Scalar.muli v12 c4_i32
  let c0_i32_14 : BitVec 32 := 0#32
  let c0_i32_15 : BitVec 32 := 0#32
  ![v13.toNat, 0, 0]
abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1024x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1024x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1x2048x1024 : Shape := ⟨3, ![1, 2048, 1024]⟩
abbrev S1x2048 : Shape := ⟨2, ![1, 2048]⟩
abbrev S8x1024 : Shape := ⟨2, ![8, 1024]⟩
abbrev S8 : Shape := ⟨1, ![8]⟩
abbrev S8x1024x1024 : Shape := ⟨3, ![8, 1024, 1024]⟩
abbrev S1x1024x1024 : Shape := ⟨3, ![1, 1024, 1024]⟩
abbrev S1024 : Shape := ⟨1, ![1024]⟩
abbrev S2048x1024 : Shape := ⟨2, ![2048, 1024]⟩
abbrev S2048x1 : Shape := ⟨2, ![2048, 1]⟩
abbrev S_ : Shape := ⟨0, ![]⟩
abbrev S1024x8 : Shape := ⟨2, ![1024, 8]⟩
abbrev S2048x8 : Shape := ⟨2, ![2048, 8]⟩
abbrev S1x8 : Shape := ⟨2, ![1, 8]⟩
abbrev S2048 : Shape := ⟨1, ![2048]⟩
abbrev S2048x2 : Shape := ⟨2, ![2048, 2]⟩
abbrev S2048x8x1024 : Shape := ⟨3, ![2048, 8, 1024]⟩
abbrev S8x1024x2048 : Shape := ⟨3, ![8, 1024, 2048]⟩
abbrev S1024x1024 : Shape := ⟨2, ![1024, 1024]⟩
abbrev S1x2048x1 : Shape := ⟨3, ![1, 2048, 1]⟩
abbrev S1x1x1024 : Shape := ⟨3, ![1, 1, 1024]⟩

abbrev nBuf : Space → Nat
  | .hbm => 143
  | .vmem => 0
  | .smem => 0
  | _ => 0

abbrev hbmTy0_0 (i : Nat) : BufTy := match i % 128 with
  | 0 => ⟨S1x2048x1024, .f32⟩
  | 1 => ⟨S1x2048, .f32⟩
  | 2 => ⟨S8x1024, .f32⟩
  | 3 => ⟨S8, .f32⟩
  | 4 => ⟨S8, .f32⟩
  | 5 => ⟨S8x1024x1024, .f32⟩
  | 6 => ⟨S8x1024x1024, .f32⟩
  | 7 => ⟨S8x1024x1024, .f32⟩
  | 8 => ⟨S1x1024x1024, .f32⟩
  | 9 => ⟨S1x1024x1024, .f32⟩
  | 10 => ⟨S1x1024x1024, .f32⟩
  | 11 => ⟨S1024, .f32⟩
  | 12 => ⟨S2048x1024, .f32⟩
  | 13 => ⟨S2048x1, .f32⟩
  | 14 => ⟨S_, .f32⟩
  | 15 => ⟨S_, .f32⟩
  | 16 => ⟨S_, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S1024x8, .f32⟩
  | 23 => ⟨S2048x8, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S_, .f32⟩
  | 30 => ⟨S2048x1, .f32⟩
  | 31 => ⟨S2048x1, .f32⟩
  | 32 => ⟨S1x8, .f32⟩
  | 33 => ⟨S2048x8, .f32⟩
  | 34 => ⟨S2048x8, .f32⟩
  | 35 => ⟨S2048x8, .f32⟩
  | 36 => ⟨S2048x8, .f32⟩
  | 37 => ⟨S_, .f32⟩
  | 38 => ⟨S2048, .f32⟩
  | 39 => ⟨S_, .f32⟩
  | 40 => ⟨S2048, .f32⟩
  | 41 => ⟨S2048, .f32⟩
  | 42 => ⟨S2048x1, .f32⟩
  | 43 => ⟨S2048x8, .f32⟩
  | 44 => ⟨S2048x8, .f32⟩
  | 45 => ⟨S2048x8, .f32⟩
  | 46 => ⟨S_, .f32⟩
  | 47 => ⟨S2048, .f32⟩
  | 48 => ⟨S2048x1, .f32⟩
  | 49 => ⟨S2048x8, .f32⟩
  | 50 => ⟨S2048x8, .f32⟩
  | 51 => ⟨S2048x2, .f32⟩
  | 52 => ⟨S2048x2, .i32⟩
  | 53 => ⟨S_, .f32⟩
  | 54 => ⟨S8, .f32⟩
  | 55 => ⟨S_, .f32⟩
  | 56 => ⟨S8, .f32⟩
  | 57 => ⟨S8, .f32⟩
  | 58 => ⟨S8, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S2048x8x1024, .f32⟩
  | 66 => ⟨S2048x8x1024, .f32⟩
  | 67 => ⟨S2048x8x1024, .f32⟩
  | 68 => ⟨S2048x8x1024, .f32⟩
  | 69 => ⟨S_, .f32⟩
  | 70 => ⟨S2048x8x1024, .f32⟩
  | 71 => ⟨S2048x8x1024, .f32⟩
  | 72 => ⟨S_, .f32⟩
  | 73 => ⟨S2048x8x1024, .f32⟩
  | 74 => ⟨S2048x8x1024, .f32⟩
  | 75 => ⟨S2048x8x1024, .f32⟩
  | 76 => ⟨S2048x8x1024, .f32⟩
  | 77 => ⟨S8x1024x2048, .f32⟩
  | 78 => ⟨S2048x8x1024, .f32⟩
  | 79 => ⟨S_, .f32⟩
  | 80 => ⟨S2048x8, .f32⟩
  | 81 => ⟨S2048x1, .i32⟩
  | 82 => ⟨S2048, .i32⟩
  | 83 => ⟨S2048x1, .i32⟩
  | 84 => ⟨S1x8, .i32⟩
  | 85 => ⟨S2048x8, .i32⟩
  | 86 => ⟨S2048x8, .i32⟩
  | 87 => ⟨S2048x8, .i1⟩
  | 88 => ⟨S2048x8, .f32⟩
  | 89 => ⟨S2048x1, .f32⟩
  | 90 => ⟨S2048x8, .f32⟩
  | 91 => ⟨S2048x8, .f32⟩
  | 92 => ⟨S2048x8, .f32⟩
  | 93 => ⟨S2048x1, .i32⟩
  | 94 => ⟨S2048, .i32⟩
  | 95 => ⟨S2048x1, .i32⟩
  | 96 => ⟨S1x8, .i32⟩
  | 97 => ⟨S2048x8, .i32⟩
  | 98 => ⟨S2048x8, .i32⟩
  | 99 => ⟨S2048x8, .i1⟩
  | 100 => ⟨S2048x8, .f32⟩
  | 101 => ⟨S2048x1, .f32⟩
  | 102 => ⟨S2048x8, .f32⟩
  | 103 => ⟨S2048x8, .f32⟩
  | 104 => ⟨S2048x8, .f32⟩
  | 105 => ⟨S2048x1024, .f32⟩
  | 106 => ⟨S1024x1024, .f32⟩
  | 107 => ⟨S1024x1024, .f32⟩
  | 108 => ⟨S2048x1024, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S_, .f32⟩
  | 115 => ⟨S2048x1024, .f32⟩
  | 116 => ⟨S2048x1024, .f32⟩
  | 117 => ⟨S2048x1024, .f32⟩
  | 118 => ⟨S1024x1024, .f32⟩
  | 119 => ⟨S1024x1024, .f32⟩
  | 120 => ⟨S2048x1024, .f32⟩
  | 121 => ⟨S2048x1024, .f32⟩
  | 122 => ⟨S1024x1024, .f32⟩
  | 123 => ⟨S1024x1024, .f32⟩
  | 124 => ⟨S2048x1024, .f32⟩
  | 125 => ⟨S2048x1024, .f32⟩
  | 126 => ⟨S1x2048x1024, .f32⟩
  | 127 => ⟨S1x2048x1024, .f32⟩
  | _ => ⟨S1x2048x1024, .f32⟩

abbrev hbmTy0_1 (i : Nat) : BufTy := match i % 128 with
  | 0 => ⟨S_, .f32⟩
  | 1 => ⟨S1x2048, .f32⟩
  | 2 => ⟨S1x2048x1, .f32⟩
  | 3 => ⟨S_, .f32⟩
  | 4 => ⟨S1x2048x1, .f32⟩
  | 5 => ⟨S1x2048x1, .f32⟩
  | 6 => ⟨S_, .f32⟩
  | 7 => ⟨S1x2048x1, .f32⟩
  | 8 => ⟨S1x2048x1, .f32⟩
  | 9 => ⟨S1x2048x1, .f32⟩
  | 10 => ⟨S1x2048x1024, .f32⟩
  | 11 => ⟨S1x2048x1024, .f32⟩
  | 12 => ⟨S1x1x1024, .f32⟩
  | 13 => ⟨S1x2048x1024, .f32⟩
  | 14 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_values : Ref sig .tc := ⟨.hbm, 51, rfl⟩
abbrev main_indices : Ref sig .tc := ⟨.hbm, 52, rfl⟩
abbrev main_cst_5 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_10 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_11 : Ref sig .tc := ⟨.hbm, 128, rfl⟩
abbrev main_v71 : Ref sig .tc := ⟨.hbm, 129, rfl⟩
abbrev main_v72 : Ref sig .tc := ⟨.hbm, 130, rfl⟩
abbrev main_cst_12 : Ref sig .tc := ⟨.hbm, 131, rfl⟩
abbrev main_v73 : Ref sig .tc := ⟨.hbm, 132, rfl⟩
abbrev main_v74 : Ref sig .tc := ⟨.hbm, 133, rfl⟩
abbrev main_cst_13 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩

abbrev nD : Nat := 1
abbrev τ : Topo := Topo.v7x

variable {F : FTy → Type} [FloatOps F]
-- ==== Gather.lean ====
abbrev S7680x1024 : Shape := ⟨2, ![7680, 1024]⟩
abbrev S4096x1 : Shape := ⟨2, ![4096, 1]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S32x4x128 : Shape := ⟨3, ![32, 4, 128]⟩
abbrev S30720x2x128 : Shape := ⟨3, ![30720, 2, 128]⟩
abbrev S16384x2x128 : Shape := ⟨3, ![16384, 2, 128]⟩
abbrev S4x128 : Shape := ⟨2, ![4, 128]⟩
abbrev S128x2x128 : Shape := ⟨3, ![128, 2, 128]⟩
abbrev S1x4x128 : Shape := ⟨3, ![1, 4, 128]⟩
abbrev S1x128 : Shape := ⟨2, ![1, 128]⟩
abbrev S128 : Shape := ⟨1, ![128]⟩
abbrev S4096x1024 : Shape := ⟨2, ![4096, 1024]⟩

abbrev nBuf : Table → Nat
  | .hbm => 14
  | .local .scVector .vmem => 3
  | _ => 0

abbrev bufTy : (tb : Table) → Fin (nBuf tb) → BufTy
  | .hbm, ⟨0, _⟩ => ⟨S7680x1024, .f32⟩
  | .hbm, ⟨1, _⟩ => ⟨S4096x1, .i32⟩
  | .hbm, ⟨2, _⟩ => ⟨S_, .i32⟩
  | .hbm, ⟨3, _⟩ => ⟨S4096x1, .i32⟩
  | .hbm, ⟨4, _⟩ => ⟨S4096x1, .i32⟩
  | .hbm, ⟨5, _⟩ => ⟨S4, .i32⟩
  | .hbm, ⟨6, _⟩ => ⟨S1x4, .i32⟩
  | .hbm, ⟨7, _⟩ => ⟨S4096x4, .i32⟩
  | .hbm, ⟨8, _⟩ => ⟨S4096x4, .i32⟩
  | .hbm, ⟨9, _⟩ => ⟨S4096x4, .i32⟩
  | .hbm, ⟨10, _⟩ => ⟨S32x4x128, .i32⟩
  | .hbm, ⟨11, _⟩ => ⟨S30720x2x128, .f32⟩
  | .hbm, ⟨12, _⟩ => ⟨S16384x2x128, .f32⟩
  | .hbm, ⟨13, _⟩ => ⟨S4096x1024, .f32⟩
  | .local .scVector .vmem, ⟨0, _⟩ => ⟨S4x128, .i32⟩
  | .local .scVector .vmem, ⟨1, _⟩ => ⟨S128x2x128, .f32⟩
  | .local .scVector .vmem, ⟨2, _⟩ => ⟨S128x2x128, .f32⟩
  | _, _ => ⟨S7680x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v8_scv : Ref sig .scVector := ⟨.hbm, 11, rfl⟩
abbrev main_v7_scv : Ref sig .scVector := ⟨.hbm, 10, rfl⟩
abbrev main_v9_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_73_r0 : BitVec 32 := 0#32
  let c0_i32_74_r0 : BitVec 32 := 0#32
  ![v1.toNat, 0, 0]
def k0_off2 (i : grid0.Coords) (c0_i32_13 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v12 : BitVec 32 := Scalar.addi v2 c0_i32_13
  let c4_i32 : BitVec 32 := 4#32
  let v13 : BitVec 32 := Scalar.muli v12 c4_i32
  let c0_i32_14 : BitVec 32 := 0#32
  let c0_i32_15 : BitVec 32 := 0#32
  ![v13.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S7680x1024 : Shape := ⟨2, ![7680, 1024]⟩
abbrev S4096x1 : Shape := ⟨2, ![4096, 1]⟩
abbrev S4096 : Shape := ⟨1, ![4096]⟩
abbrev S_ : Shape := ⟨0, ![]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S7680x1024, .f32⟩
  | .hbm, ⟨1, _⟩ => ⟨S4096x1, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x1024, .f32⟩
  | _, _ => ⟨S7680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.GatherTile.lean ====
/-
  The gather call's task: what one vector subcore of `combine_gather_sc` does. It fetches its four lists of 128
  words, gathers for each list the table rows that the list names, and writes them to its own part of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.GatherIdeal
public import proofs.«01_k».proof.Proof.Gen.GatherIdeal.Skeleton

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The call's operands -/

abbrev tLoc (d : Dev nD) : Loc nD τ sig := (SparseCore.T d).loc main_v8
abbrev iLoc (d : Dev nD) : Loc nD τ sig := (SparseCore.T d).loc main_v7
abbrev oLoc (d : Dev nD) : Loc nD τ sig := (SparseCore.T d).loc main_v9

local notation "tV" => (Memref.whole Cert.GatherIdeal.main_v8_scv : Memref Cert.GatherIdeal.sig Kind.scVector Space.hbm Cert.GatherIdeal.S30720x2x128 EltTy.f32)
local notation "iV" => (Memref.whole Cert.GatherIdeal.main_v7_scv : Memref Cert.GatherIdeal.sig Kind.scVector Space.hbm Cert.GatherIdeal.S32x4x128 EltTy.i32)
local notation "oV" => (Memref.whole Cert.GatherIdeal.main_v9_scv : Memref Cert.GatherIdeal.sig Kind.scVector Space.hbm Cert.GatherIdeal.S16384x2x128 EltTy.f32)
local notation "sV" => (Memref.whole Cert.GatherIdeal.cc0_scratch0 : Memref Cert.GatherIdeal.sig Kind.scVector Space.vmem Cert.GatherIdeal.S4x128 EltTy.i32)
local notation "aV" => (Memref.whole Cert.GatherIdeal.cc0_scratch1 : Memref Cert.GatherIdeal.sig Kind.scVector Space.vmem Cert.GatherIdeal.S128x2x128 EltTy.f32)
local notation "bV" => (Memref.whole Cert.GatherIdeal.cc0_scratch2 : Memref Cert.GatherIdeal.sig Kind.scVector Space.vmem Cert.GatherIdeal.S128x2x128 EltTy.f32)

theorem odiv : 128 ∣ S16384x2x128.size 0 := ⟨128, rfl⟩
/-- Part `p` of the result: rows `[128 p, 128 p + 128)`. -/
abbrev oPart (p : Fin 128) : Rect S16384x2x128 := Rect.part (s := S16384x2x128) (a₀ := 0) odiv p
abbrev oPartSet (p : Fin 128) : Finset S16384x2x128.Idx := ((oV).view.slice (oPart p)).set

section Tile

variable (d : Dev nD) (L : grid0.Coords)

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- The task's number, as the kernel counts its tasks: twice its subcore, plus its SparseCore. -/
def wid (L : grid0.Coords) : Fin 32 :=
  ⟨2 * (L 1).val + (L 0).val, by have h0 : (L 0).val < 2 := (L 0).isLt; have h1 : (L 1).val < 16 := (L 1).isLt; omega⟩

/-- The number of the task's chunk `k` among all 128. -/
def part (w : Fin 32) (k : Fin 4) : Fin 128 := ⟨4 * w.val + k.val, by omega⟩

abbrev iRowK (L : grid0.Coords) : Memref sig .scVector .hbm S4x128 .i32 :=
  ((iV).slice (Rect.unit (s := S32x4x128) (k0_off1 L) S1x4x128.size (k0_off1_inb L)) (fun _ => rfl)).squeeze S4x128 squeezes_S1x4x128_S4x128
abbrev oChunkR (L : grid0.Coords) (k : Fin 4) : Rect S16384x2x128 :=
  Rect.unit (s := S16384x2x128) (k0_off2 L (BitVec.ofNat 32 (32 * k.val))) S128x2x128.size (k0_off2_inb L k)
abbrev oChunk0 (L : grid0.Coords) : Memref sig .scVector .hbm S128x2x128 .f32 :=
  (oV).slice (Rect.unit (s := S16384x2x128) (k0_off2 L 0#32) S128x2x128.size (k0_off2_inb L 0)) (fun _ => rfl)
abbrev oChunk1 (L : grid0.Coords) : Memref sig .scVector .hbm S128x2x128 .f32 :=
  (oV).slice (Rect.unit (s := S16384x2x128) (k0_off2 L 32#32) S128x2x128.size (k0_off2_inb L 1)) (fun _ => rfl)
abbrev oChunk2 (L : grid0.Coords) : Memref sig .scVector .hbm S128x2x128 .f32 :=
  (oV).slice (Rect.unit (s := S16384x2x128) (k0_off2 L 64#32) S128x2x128.size (k0_off2_inb L 2)) (fun _ => rfl)
abbrev oChunk3 (L : grid0.Coords) : Memref sig .scVector .hbm S128x2x128 .f32 :=
  (oV).slice (Rect.unit (s := S16384x2x128) (k0_off2 L 96#32) S128x2x128.size (k0_off2_inb L 3)) (fun _ => rfl)

abbrev cell (d : Dev nD) (c : Fin τ.nSC) (i : Fin τ.nSub) (s : DmaSem sig) : GSem nD τ sig := (V d c i, .dma s)

theorem ownSems0_V :
    (ownSems0 (V d (cV L) (jV L)) : sProp 𝕄)
      = iprop(semVal (cell d (cV L) (jV L) cc0_scratch3.sem) 0 ∗ semVal (cell d (cV L) (jV L) cc0_scratch4.sem) 0
          ∗ semVal (cell d (cV L) (jV L) cc0_scratch5.sem) 0 ∗ semVal (cell d (cV L) (jV L) cc0_scratch6.sem) 0
          ∗ semVal (cell d (cV L) (jV L) cc0_scoped0.sem) 0
          ∗ bigSep ((((((ownCells (V d (cV L) (jV L))).erase (cell d (cV L) (jV L) cc0_scratch3.sem)).erase (cell d (cV L) (jV L) cc0_scratch4.sem)).erase
              (cell d (cV L) (jV L) cc0_scratch5.sem)).erase (cell d (cV L) (jV L) cc0_scratch6.sem)).erase (cell d (cV L) (jV L) cc0_scoped0.sem)) fun g => semVal g 0) := by
  unfold SparseCore.Cfg.ownSems0
  have hm : ∀ s : DmaSem sig, (SemLoc.dma s : SemLoc sig).isScoped .scVector = true → cell d (cV L) (jV L) s ∈ ownCells (V d (cV L) (jV L)) :=
    fun s h => (mem_ownCells (g := cell d (cV L) (jV L) s)).mpr ⟨rfl, h⟩
  have hne : ∀ s t : DmaSem sig, s ≠ t → cell d (cV L) (jV L) s ≠ cell d (cV L) (jV L) t := by
    intro s t h e; exact h (by simpa [cell] using e)
  rw [SparseCore.bigSep_erase' (hm cc0_scratch3.sem (by decide)),
    SparseCore.bigSep_erase' (Finset.mem_erase.mpr ⟨hne cc0_scratch4.sem _ (by decide), hm _ (by decide)⟩),
    SparseCore.bigSep_erase' (Finset.mem_erase.mpr ⟨hne cc0_scratch5.sem _ (by decide), Finset.mem_erase.mpr ⟨hne _ _ (by decide), hm _ (by decide)⟩⟩),
    SparseCore.bigSep_erase' (Finset.mem_erase.mpr ⟨hne cc0_scratch6.sem _ (by decide), Finset.mem_erase.mpr ⟨hne _ _ (by decide), Finset.mem_erase.mpr ⟨hne _ _ (by decide), hm _ (by decide)⟩⟩⟩),
    SparseCore.bigSep_erase' (Finset.mem_erase.mpr ⟨hne cc0_scoped0.sem _ (by decide), Finset.mem_erase.mpr ⟨hne _ _ (by decide), Finset.mem_erase.mpr ⟨hne _ _ (by decide), Finset.mem_erase.mpr ⟨hne _ _ (by decide), hm _ (by decide)⟩⟩⟩⟩)]

abbrev bufRef (L : grid0.Coords) (b : Ref sig .scVector) : DevRef τ sig := (Proc.scVector (cV L) (jV L)).devRef b

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (bufRef L cc0_scratch0)).erase (bufRef L cc0_scratch1)).erase (bufRef L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bufRef L cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := bufRef L cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := bufRef L cc0_scratch2) rfl⟩⟩)]

abbrev tPts (q : PosShare TreeShare) (tb : Buf (Elt F) (tLoc d)) : sProp 𝕄 := (tV).view.loc (V d (cV L) (jV L)) ↦{q} tb
abbrev iPts (q : PosShare TreeShare) (ix : Buf (Elt F) (iLoc d)) : sProp 𝕄 := (iV).view.loc (V d (cV L) (jV L)) ↦{q} ix
abbrev oPts0 (f : Buf (Elt F) (oLoc d)) : sProp 𝕄 := (oChunk0 L).view.loc (V d (cV L) (jV L)) ↦[(oChunk0 L).view.set]{fullShare} f
abbrev oPts1 (f : Buf (Elt F) (oLoc d)) : sProp 𝕄 := (oChunk1 L).view.loc (V d (cV L) (jV L)) ↦[(oChunk1 L).view.set]{fullShare} f
abbrev oPts2 (f : Buf (Elt F) (oLoc d)) : sProp 𝕄 := (oChunk2 L).view.loc (V d (cV L) (jV L)) ↦[(oChunk2 L).view.set]{fullShare} f
abbrev oPts3 (f : Buf (Elt F) (oLoc d)) : sProp 𝕄 := (oChunk3 L).view.loc (V d (cV L) (jV L)) ↦[(oChunk3 L).view.set]{fullShare} f

theorem pts_tV (q : PosShare TreeShare) (tb : Buf (Elt F) (tLoc d)) : (tPts d L q tb : sProp 𝕄) = tLoc d ↦{q} tb :=
  rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f :=
  rfl
theorem pts_aV (f : Buf (Elt F) ((V d (cV L) (jV L)).loc cc0_scratch1)) :
    ((aV).view.loc (V d (cV L) (jV L)) ↦{fullShare} f : sProp 𝕄) = (V d (cV L) (jV L)).loc cc0_scratch1 ↦{fullShare} f :=
  rfl
theorem pts_bV (f : Buf (Elt F) ((V d (cV L) (jV L)).loc cc0_scratch2)) :
    ((bV).view.loc (V d (cV L) (jV L)) ↦{fullShare} f : sProp 𝕄) = (V d (cV L) (jV L)).loc cc0_scratch2 ↦{fullShare} f :=
  rfl

variable [FloatOps F]

/-- The list a gather reads is a row of the fetched lists. -/
theorem read_list (g0 : Buf (Elt F) ((sV).view.loc (V d (cV L) (jV L)))) (pay : S4x128.Idx → Elt F .i32) (row : Fin 2 → Nat)
    (hk : ∀ a, row a + S1x128.size a ≤ S4x128.size a) (hs) (hq : (Rect.unit (s := S4x128) row S1x128.size hk).shape.Squeezes S128) (x : S128.Idx) :
    View.read (Elt F) (((sV).slice (Rect.unit (s := S4x128) row S1x128.size hk) hs).squeeze S128 hq).view
        ((sV).view.write (Elt F) g0 pay Finset.univ) x
      = pay ((Rect.unit (s := S4x128) row S1x128.size hk).emb ((Shape.reshapeEquiv hq.numel_eq) x)) := by
  have e : View.read (Elt F) (((sV).slice (Rect.unit (s := S4x128) row S1x128.size hk) hs).squeeze S128 hq).view
        ((sV).view.write (Elt F) g0 pay Finset.univ) x
      = View.read (Elt F) (sV).view ((sV).view.write (Elt F) g0 pay Finset.univ)
          ((Rect.unit (s := S4x128) row S1x128.size hk).emb ((Shape.reshapeEquiv hq.numel_eq) x)) := by
    rw [View.read_apply, View.read_apply]; rfl
  rw [e, View.read_write_univ]

/-! ## What the gather delivers -/

/-- The table row that a word of a list names. -/
def rowOf (v : BitVec 32) : Fin 30720 := ⟨v.toNat % 30720, Nat.mod_lt _ (by norm_num)⟩

/-- The place in the lists of the word that names result row `r`. -/
def listIx (r : Fin 16384) : S32x4x128.Idx :=
  ix3 (⟨r.val / 512, by have := r.isLt; omega⟩ : Fin 32) (⟨r.val / 128 % 4, Nat.mod_lt _ (by norm_num)⟩ : Fin 4) (⟨r.val % 128, Nat.mod_lt _ (by norm_num)⟩ : Fin 128)

/-- The gathered rows: result row `r` is the table row that the lists' word for `r` names. -/
def gath (tb : S30720x2x128.Idx → Elt F .f32) (ix : S32x4x128.Idx → BitVec 32) : S16384x2x128.Idx → Elt F .f32 :=
  fun j => tb (ix3 (rowOf (ix (listIx (j 0)))) (j 1 : Fin 2) (j 2 : Fin 128))

/-- The fetched lists are the task's own of all the lists. -/
theorem fetched (ix : Buf (Elt F) (iLoc d)) (a : Fin 4) (b : Fin 128) :
    (iRowK L).view.read (Elt F) ix (ix2 a b) = ix (ix3 (wid L) a b) := by
  rw [View.read_apply]
  show ix ((Rect.unit (s := S32x4x128) (k0_off1 L) S1x4x128.size (k0_off1_inb L)).emb (Shape.reshapeEquiv _ (ix2 a b))) = _
  rw [reshapeEquiv_ix2_1ab]
  congr 1; funext e
  have h1 := k0_off1_eq L
  match e with
  | 0 => apply Fin.ext; show k0_off1 L 0 + 1 * 0 = _; rw [h1]; rfl
  | 1 => apply Fin.ext; show k0_off1 L 1 + 1 * a.val = a.val; rw [h1]; simp
  | 2 => apply Fin.ext; show k0_off1 L 2 + 1 * b.val = b.val; rw [h1]; simp

/-- Chunk `k` of the task, as the gather delivers it. -/
theorem payload_apply (tb : Buf (Elt F) (tLoc d)) (ix : Buf (Elt F) (iLoc d)) (fs : Buf (Elt F) ((V d (cV L) (jV L)).loc cc0_scratch0))
    (hix : ∀ j : S32x4x128.Idx, (ix j : BitVec 32).toNat < 30720) (k : Fin 4) (row : Fin 2 → ℕ) (hrow : row = ![k.val, 0])
    (pay : S4x128.Idx → Elt F .i32) (hpay : pay = (iRowK L).view.read (Elt F) ix)
    (ht hts hk hs) (hq : (Rect.unit (s := S4x128) row S1x128.size hk).shape.Squeezes S128) (hn h) (y : S128x2x128.Idx) :
    SparseCore.gatherPayload gathers_S30720x2x128_S128x2x128
      (View.read (Elt F) ((tV).slice (Rect.unit (s := S30720x2x128) ![0, 0, 0] S30720x2x128.size ht) hts).view tb)
      (SparseCore.rows (View.read (Elt F) (((sV).slice (Rect.unit (s := S4x128) row S1x128.size hk) hs).squeeze S128 hq).view
        (View.write (Elt F) (sV).view fs pay Finset.univ)) hn h) y
      = tb (ix3 (rowOf (ix (ix3 (wid L) k (y 0 : Fin 128)))) (y 1 : Fin 2) (y 2 : Fin 128)) := by
  subst hrow hpay
  unfold SparseCore.gatherPayload
  rw [View.read_apply]
  show tb ((Rect.unit (s := S30720x2x128) ![0, 0, 0] S30720x2x128.size ht).emb _) = _
  congr 1; funext e
  have hlist : ∀ x : S128.Idx, View.read (Elt F) (((sV).slice (Rect.unit (s := S4x128) ![k.val, 0] S1x128.size hk) hs).squeeze S128 hq).view
        (View.write (Elt F) (sV).view fs ((iRowK L).view.read (Elt F) ix) Finset.univ) x = ix (ix3 (wid L) k (x 0 : Fin 128)) := by
    intro x
    rw [read_list d L, ← fetched d L ix k (x 0)]
    congr 1; funext e
    have hx : (Shape.reshapeEquiv hq.numel_eq) x = ix2 (0 : Fin 1) (x 0 : Fin 128) :=
      Shape.reshapeEquiv_eq_of_rowMajor _ (by
        show ((⟨2, ![1, 128]⟩ : Shape).rowMajor (ix2 (0 : Fin 1) (x 0 : Fin 128))).val = ((⟨1, ![128]⟩ : Shape).rowMajor x).val
        rw [Shape.rowMajor_val_two, Shape.rowMajor_val_one]; show 0 * 128 + (x 0).val = (x 0).val; omega)
    rw [hx]
    match e with
    | 0 => apply Fin.ext; show k.val + 1 * 0 = k.val; omega
    | 1 => apply Fin.ext; show 0 + 1 * (x 0).val = (x 0).val; omega
  match e with
  | 0 =>
    apply Fin.ext
    show 0 + 1 * (gathers_S30720x2x128_S128x2x128.idx _ y gathers_S30720x2x128_S128x2x128.axis).val = _
    rw [Shape.Gathers.idx_axis]
    show 0 + 1 * (View.read (Elt F) (((sV).slice (Rect.unit (s := S4x128) ![k.val, 0] S1x128.size hk) hs).squeeze S128 hq).view
        (View.write (Elt F) (sV).view fs ((iRowK L).view.read (Elt F) ix) Finset.univ) (S128.rowMajor.symm ((y 0).cast hn.symm)) : BitVec 32).toNat = _
    rw [hlist]
    have hx : ((S128.rowMajor.symm ((y 0).cast hn.symm)) 0).val = (y 0).val := by
      rw [← Shape.rowMajor_val_one, Equiv.apply_symm_apply]; rfl
    have hx' : (S128.rowMajor.symm ((y 0).cast hn.symm)) 0 = (y 0 : Fin 128) := Fin.ext hx
    rw [hx']
    show _ = (ix _ : BitVec 32).toNat % 30720
    rw [Nat.mod_eq_of_lt (hix _)]; omega
  | 1 =>
    apply Fin.ext
    show 0 + 1 * (gathers_S30720x2x128_S128x2x128.idx _ y 1).val = (y 1).val
    rw [Shape.Gathers.idx_of_ne _ _ _ _ (by decide)]; show 0 + 1 * (y 1).val = _; omega
  | 2 =>
    apply Fin.ext
    show 0 + 1 * (gathers_S30720x2x128_S128x2x128.idx _ y 2).val = (y 2).val
    rw [Shape.Gathers.idx_of_ne _ _ _ _ (by decide)]; show 0 + 1 * (y 2).val = _; omega

/-- Row `y` of the task's chunk `k` is row `512 w + 128 k + y` of the result. -/
theorem chunk_emb (k : Fin 4) (hs) (y : S128x2x128.Idx) :
    ((oV).slice (oChunkR L k) hs).view.emb y
      = ix3 (⟨512 * (wid L).val + 128 * k.val + (y 0).val, by have h0 : (y 0).val < 128 := (y 0).isLt; have := (wid L).isLt; have := k.isLt; omega⟩ : Fin 16384)
          (y 1 : Fin 2) (y 2 : Fin 128) := by
  have h2 := k0_off2_eq L k
  show (oChunkR L k).emb y = _
  funext a
  match a with
  | 0 =>
    apply Fin.ext
    show k0_off2 L (BitVec.ofNat 32 (32 * k.val)) 0 + 1 * (y 0).val = 512 * (2 * (L 1).val + (L 0).val) + 128 * k.val + (y 0).val
    rw [h2]; show 1024 * (L 1).val + 512 * (L 0).val + 128 * k.val + 1 * (y 0).val = _
    omega
  | 1 => apply Fin.ext; show k0_off2 L (BitVec.ofNat 32 (32 * k.val)) 1 + 1 * (y 1).val = (y 1).val; rw [h2]; show 0 + 1 * (y 1).val = _; omega
  | 2 => apply Fin.ext; show k0_off2 L (BitVec.ofNat 32 (32 * k.val)) 2 + 1 * (y 2).val = (y 2).val; rw [h2]; show 0 + 1 * (y 2).val = _; omega

theorem listIx_chunk (w : Fin 32) (k : Fin 4) (r : Fin 128) (h) : listIx ⟨512 * w.val + 128 * k.val + r.val, h⟩ = ix3 w k r := by
  unfold listIx
  have := k.isLt; have := r.isLt
  congr 1 <;> apply Fin.ext <;> simp only <;> omega

theorem gath_ix3 (tb : S30720x2x128.Idx → Elt F .f32) (ix : S32x4x128.Idx → BitVec 32) (r : Fin 16384) (a : Fin 2) (b : Fin 128) :
    gath tb ix (ix3 r a b) = tb (ix3 (rowOf (ix (listIx r))) a b) := rfl

/-- Chunk `k` written at what the gather delivers holds the gathered rows. -/
theorem chunk_congr (tb : Buf (Elt F) (tLoc d)) (ix : Buf (Elt F) (iLoc d)) (f0 : Buf (Elt F) (oLoc d)) (k : Fin 4) (hs)
    (pay : S128x2x128.Idx → Elt F .f32)
    (hpay : ∀ y, pay y = tb (ix3 (rowOf (ix (ix3 (wid L) k (y 0 : Fin 128)))) (y 1 : Fin 2) (y 2 : Fin 128))) :
    (((oV).slice (oChunkR L k) hs).view.loc (V d (cV L) (jV L)) ↦[((oV).slice (oChunkR L k) hs).view.set]{fullShare}
        ((oV).slice (oChunkR L k) hs).view.writes (Elt F) f0 [⟨Rect.whole S128x2x128, pay⟩] : sProp 𝕄)
      = ((oV).slice (oChunkR L k) hs).view.loc (V d (cV L) (jV L)) ↦[((oV).slice (oChunkR L k) hs).view.set]{fullShare} gath tb ix := by
  refine pointsTo_congr fun x hx => ?_
  obtain ⟨y, -, rfl⟩ := Finset.mem_map.mp hx
  have e := congrFun (View.read_writes_whole (Val := Elt F) ((oV).slice (oChunkR L k) hs).view f0 pay) y
  have e' : gath tb ix (((oV).slice (oChunkR L k) hs).view.emb y) = pay y := by
    rw [hpay, chunk_emb]
    exact (gath_ix3 tb ix _ (y 1 : Fin 2) (y 2 : Fin 128)).trans (congrArg (fun l => tb (ix3 (rowOf (ix l)) (y 1 : Fin 2) (y 2 : Fin 128))) (listIx_chunk (wid L) k (y 0 : Fin 128) _))
  rw [e', ← e, View.read_apply]
  exact (cast_eq rfl _).symm

set_option maxHeartbeats 4000000 in
theorem tile_body (hF : (K (F := F)).Facts) (q : PosShare TreeShare) (tb : Buf (Elt F) (tLoc d)) (ix : Buf (Elt F) (iLoc d))
    (f0 : Buf (Elt F) (oLoc d)) (hix : ∀ j : S32x4x128.Idx, (ix j : BitVec 32).toNat < 30720)
    (O : CellTallies nD τ sig (HIx 1)) (W : Waits sig (HIx 1)) (hO : ∀ g, O g none = 0) :
    iprop(levAts (K (F := F)).L (K (F := F)).lev ∗ emp
        ∗ (tPts d L q tb ∗ iPts d L q ix ∗ oPts0 d L f0 ∗ oPts1 d L f0 ∗ oPts2 d L f0 ∗ oPts3 d L f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_combine_gather_sc L tV (Memref.isWhole_whole _) iV (Memref.isWhole_whole _) oV (Memref.isWhole_whole _)
            sV (Memref.isWhole_whole _) aV (Memref.isWhole_whole _) bV (Memref.isWhole_whole _)
            cc0_scratch3 cc0_scratch4 cc0_scratch5 cc0_scratch6 cc0_scoped0)
          fun _ => iprop((tPts d L q tb ∗ iPts d L q ix ∗ oPts0 d L (gath tb ix) ∗ oPts1 d L (gath tb ix) ∗ oPts2 d L (gath tb ix) ∗ oPts3 d L (gath tb ix))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_combine_gather_sc_eq_skeleton]; unfold cc0_combine_gather_sc_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Ht, Hi, Ho0, Ho1, Ho2, Ho3⟩, ⟨⟨%fs, Hs⟩, ⟨%fa, Ha⟩, ⟨%fb, Hb⟩, Hbufs⟩, ⟨HsemA, HsemB, HsemC, HsemD, HsemE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  sl_exec
  have hpay : ∀ y, (tile_body.sl.dma0 d L ix y : BitVec 32).toNat < 30720 := fun y => hix _
  have hin : ∀ (g0 : Buf (Elt F) ((sV).view.loc (V d (cV L) (jV L)))) (row : Fin 2 → Nat)
      (hk : ∀ a, row a + S1x128.size a ≤ S4x128.size a) (hs) (hq : (Rect.unit (s := S4x128) row S1x128.size hk).shape.Squeezes S128) (x : S128.Idx),
      (View.read (Elt F) (((sV).slice (Rect.unit (s := S4x128) row S1x128.size hk) hs).squeeze S128 hq).view
        ((sV).view.write (Elt F) g0 (tile_body.sl.dma0 d L ix) Finset.univ) x).toNat < 30720 := by
    intro g0 row hk hs hq x
    rw [read_list d L]; exact hpay _
  sl_exec
  have e0 := (chunk_congr d L tb ix f0 0 (fun _ => rfl) (tile_body.sl.dma0_1 d L tb ix fs fa hin) fun y => by
    unfold tile_body.sl.dma0_1 tile_body.sl.gather0
    rw [ReadAs.apply_same, View.read_writes_whole]
    exact payload_apply d L tb ix fs hix 0 _ rfl _ rfl _ _ _ _ _ _ _ y)
  have e1 := (chunk_congr d L tb ix f0 1 (fun _ => rfl) (tile_body.sl.dma0_2 d L tb ix fs fb hin) fun y => by
    unfold tile_body.sl.dma0_2 tile_body.sl.gather1
    rw [ReadAs.apply_same, View.read_writes_whole]
    exact payload_apply d L tb ix fs hix 1 _ rfl _ rfl _ _ _ _ _ _ _ y)
  have e2 := (chunk_congr d L tb ix f0 2 (fun _ => rfl) (tile_body.sl.dma0_3 d L tb ix fs fa hin) fun y => by
    unfold tile_body.sl.dma0_3 tile_body.sl.gather3
    rw [ReadAs.apply_same]
    refine (congrFun (View.read_writes_whole _ (View.writes _ _ _ [_]) _) y).trans ?_
    exact payload_apply d L tb ix fs hix 2 _ rfl _ rfl _ _ _ _ _ _ _ y)
  have e3 := (chunk_congr d L tb ix f0 3 (fun _ => rfl) (tile_body.sl.dma0_4 d L tb ix fs fb hin) fun y => by
    unfold tile_body.sl.dma0_4 tile_body.sl.gather5
    rw [ReadAs.apply_same]
    refine (congrFun (View.read_writes_whole _ (View.writes _ _ _ [_]) _) y).trans ?_
    exact payload_apply d L tb ix fs hix 3 _ rfl _ rfl _ _ _ _ _ _ _ y)
  ihave Ho0' := (Entails.of_eq e0) $$ Ho0
  ihave Ho1' := (Entails.of_eq e1) $$ Ho1
  ihave Ho2' := (Entails.of_eq e2) $$ Ho2
  ihave Ho3' := (Entails.of_eq e3) $$ Ho3
  sl_step
  isplitl [Hi Ht Ho0' Ho1' Ho2' Ho3']
  · isplitl [Ht]; · iexact Ht
    isplitl [Hi]; · iexact Hi
    isplitl [Ho0']; · iexact Ho0'
    isplitl [Ho1']; · iexact Ho1'
    isplitl [Ho2']; · iexact Ho2'
    iexact Ho3'
  isplitl [Hs' Ha' Hb' Hbufs]
  · isplitl [Hs']; · iexists _; iexact Hs'
    isplitl [Ha']; · iexists _; iexact Ha'
    isplitl [Hb']; · iexists _; iexact Hb'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  simp only [Finset.mem_insert] at hp
  rcases hp with hp | hp | hp | hp | hp | hp | hp | hp | hp | hp
  iterate 9 exact .inr (hp ▸ rfl)
  exact .inl hp

end Tile

end Cert.Proof.Gather

end
-- ==== Proof.GatherRun.lean ====
/-
  The gather call run as a whole: the host operations before it, the two SparseCores' thirty-two tasks, the host
  operation after it. `run_main` says where the program ends.
-/
module

public import proofs.«01_k».proof.Proof.GatherTile

@[expose] public section

noncomputable section

namespace Cert.Proof.Gather

open Cert.GatherIdeal Cert.GatherIdeal.Gen

open Idealize.ShloMosaic
open Idealize.ShloMosaic.StableHlo (held after)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-- The coordinates of the task on SparseCore `c`, vector subcore `s`. -/
def coordsV (c : Fin 2) (s : Fin 16) : grid0.Coords :=
  fun | 0 => (c : Fin 2) | 1 => (s : Fin 16) | ⟨_ + 2, h⟩ => absurd h (Nat.not_lt.2 (Nat.le_add_left _ _))

/-! ## Dealing the operands to the tasks -/

local notation "oV" => (Memref.whole Cert.GatherIdeal.main_v9_scv : Memref Cert.GatherIdeal.sig Kind.scVector Space.hbm Cert.GatherIdeal.S16384x2x128 EltTy.f32)

/-- Chunk `k` of task `L`'s part of the result, as a set of positions. -/
def chunkSet (L : grid0.Coords) (k : Fin 4) : Finset S16384x2x128.Idx :=
  ((oV).slice (oChunkR L k) (fun _ => rfl)).view.set

/-- A position lies in chunk `k` of task `L` exactly when its row's block of 128 is the `4 w + k`-th. -/
theorem mem_chunkSet (L : grid0.Coords) (k : Fin 4) (x : S16384x2x128.Idx) :
    x ∈ chunkSet L k ↔ (x 0).val / 128 = 4 * (wid L).val + k.val := by
  have hk := k.isLt
  constructor
  · intro hx
    obtain ⟨y, -, rfl⟩ := Finset.mem_map.mp hx
    have h0 : (y 0).val < 128 := (y 0).isLt
    rw [chunk_emb]
    show (512 * (wid L).val + 128 * k.val + (y 0).val) / 128 = _
    omega
  · intro hx
    refine Finset.mem_map.mpr ⟨ix3 (⟨(x 0).val % 128, Nat.mod_lt _ (by norm_num)⟩ : Fin 128) (x 1 : Fin 2) (x 2 : Fin 128), Finset.mem_univ _, ?_⟩
    rw [chunk_emb]
    funext a
    match a with
    | 0 => apply Fin.ext; show 512 * (wid L).val + 128 * k.val + (x 0).val % 128 = (x 0).val; omega
    | 1 => rfl
    | 2 => rfl

theorem wid_coordsV (c : Fin 2) (s : Fin 16) : (wid (coordsV c s)).val = 2 * s.val + c.val := rfl

/-- The number of a task among 32, as an equivalence. -/
def task : Fin 2 × Fin 16 ≃ Fin 32 where
  toFun p := wid (coordsV p.1 p.2)
  invFun w := (⟨w.val % 2, by omega⟩, ⟨w.val / 2, by omega⟩)
  left_inv p := by
    have h0 := p.1.isLt; have h1 := p.2.isLt
    refine Prod.ext (Fin.ext ?_) (Fin.ext ?_)
    · show (wid (coordsV p.1 p.2)).val % 2 = _; rw [wid_coordsV]; omega
    · show (wid (coordsV p.1 p.2)).val / 2 = _; rw [wid_coordsV]; omega
  right_inv w := by apply Fin.ext; rw [wid_coordsV]; show 2 * (w.val / 2) + w.val % 2 = _; omega

theorem chunks_disjoint : ∀ p ∈ (Finset.univ : Finset ((Fin 2 × Fin 16) × Fin 4)), ∀ p' ∈ (Finset.univ : Finset ((Fin 2 × Fin 16) × Fin 4)), p ≠ p' →
    Disjoint (chunkSet (coordsV p.1.1 p.1.2) p.2) (chunkSet (coordsV p'.1.1 p'.1.2) p'.2) := by
  intro p _ p' _ hne
  refine Finset.disjoint_left.mpr fun x hx hx' => hne ?_
  rw [mem_chunkSet, wid_coordsV] at hx hx'
  have a := p.1.1.isLt; have b := p.1.2.isLt; have c := p.2.isLt
  have a' := p'.1.1.isLt; have b' := p'.1.2.isLt; have c' := p'.2.isLt
  refine Prod.ext (Prod.ext (Fin.ext ?_) (Fin.ext ?_)) (Fin.ext ?_) <;> omega

theorem chunks_cover : (Finset.univ : Finset ((Fin 2 × Fin 16) × Fin 4)).biUnion (fun p => chunkSet (coordsV p.1.1 p.1.2) p.2) = Finset.univ := by
  refine Finset.eq_univ_of_forall fun x => ?_
  have hx : (x 0).val < 16384 := (x 0).isLt
  refine Finset.mem_biUnion.mpr ⟨((⟨(x 0).val / 512 % 2, by omega⟩, ⟨(x 0).val / 1024, by omega⟩), ⟨(x 0).val / 128 % 4, by omega⟩), Finset.mem_univ _, ?_⟩
  rw [mem_chunkSet, wid_coordsV]
  show _ = 4 * (2 * ((x 0).val / 1024) + (x 0).val / 512 % 2) + (x 0).val / 128 % 4
  omega

/-- The share of the table and of the list that task `L` reads at. -/
def qOf (L : grid0.Coords) : PosShare TreeShare := Transfers.shareTok fullShare 32 (wid L)

/-- What task `L` is handed (`f` the launch contents of the result) and hands back (`f` the gathered rows). -/
def tile (d : Dev nD) (tb : Buf (Elt F) (tLoc d)) (ix : Buf (Elt F) (iLoc d)) (f : Buf (Elt F) (oLoc d)) (L : grid0.Coords) : sProp 𝕄 :=
  iprop(tPts d L (qOf L) tb ∗ iPts d L (qOf L) ix ∗ oPts0 d L f ∗ oPts1 d L f ∗ oPts2 d L f ∗ oPts3 d L f)

instance tile_storable (d : Dev nD) (tb : Buf (Elt F) (tLoc d)) (ix : Buf (Elt F) (iLoc d)) (f : Buf (Elt F) (oLoc d)) (L : grid0.Coords) :
    BI.Storable (upEmb : UEmb _ 𝕄) (tile d tb ix f L) := by unfold tile; infer_instance

/-- All 32 tasks' operands, SparseCore by SparseCore. -/
def tiles (d : Dev nD) (tb : Buf (Elt F) (tLoc d)) (ix : Buf (Elt F) (iLoc d)) (f : Buf (Elt F) (oLoc d)) (c : Fin 2) : sProp 𝕄 :=
  bigSep Finset.univ fun s : Fin 16 => tile d tb ix f (coordsV c s)

/-- What remains of the table and of the list beside the tasks' shares. -/
def rest (d : Dev nD) (tb : Buf (Elt F) (tLoc d)) (ix : Buf (Elt F) (iLoc d)) : sProp 𝕄 :=
  iprop((tLoc d ↦{Transfers.shareDrop fullShare 32} tb) ∗ iLoc d ↦{Transfers.shareDrop fullShare 32} ix)

theorem oPts_chunks (d : Dev nD) (f : Buf (Elt F) (oLoc d)) :
    (oLoc d ↦{fullShare} f : sProp 𝕄)
      = bigSep Finset.univ fun c : Fin 2 => bigSep Finset.univ fun s : Fin 16 =>
          iprop(oPts0 d (coordsV c s) f ∗ oPts1 d (coordsV c s) f ∗ oPts2 d (coordsV c s) f ∗ oPts3 d (coordsV c s) f) := by
  have h := pointsTo_biUnion (Ix := HIx 1) (Val := Elt F) (Name := ℕ) (U := UU) (Lvl := ℕ) (ℓ := oLoc d) (q := fullShare) (f := f) Finset.univ
    (fun p : (Fin 2 × Fin 16) × Fin 4 => chunkSet (coordsV p.1.1 p.1.2) p.2) chunks_disjoint
  rw [chunks_cover] at h
  rw [h, bigSep_univ_prod, bigSep_univ_prod]
  refine bigSep_congr fun c _ => bigSep_congr fun s _ => ?_
  rw [show (Finset.univ : Finset (Fin 4)) = {0, 1, 2, 3} by decide, SparseCore.bigSep_insert' (by decide), SparseCore.bigSep_insert' (by decide),
    SparseCore.bigSep_insert' (by decide), bigSep_singleton]
  rfl

theorem toks (ℓ : Loc nD τ sig) (f : Buf (Elt F) ℓ) :
    (ℓ ↦{fullShare} f : sProp 𝕄) = iprop((ℓ ↦{Transfers.shareDrop fullShare 32} f)
      ∗ bigSep Finset.univ fun c : Fin 2 => bigSep Finset.univ fun s : Fin 16 => ℓ ↦{qOf (coordsV c s)} f) := by
  have h := Transfers.pointsTo_toks (Ix := HIx 1) (Val := Elt F) (Name := ℕ) (U := UU) (Lvl := ℕ) (ℓ := ℓ) (S := Finset.univ) (f := f) fullShare 32
  rw [bigSep_univ_equiv task, bigSep_univ_prod] at h
  exact Entails.antisymm h.1 h.2

/-- The operands held whole are the tasks' and what remains. -/
theorem deal (d : Dev nD) (tb : Buf (Elt F) (tLoc d)) (ix : Buf (Elt F) (iLoc d)) (f : Buf (Elt F) (oLoc d)) :
    (iprop((tLoc d ↦{fullShare} tb) ∗ (iLoc d ↦{fullShare} ix) ∗ oLoc d ↦{fullShare} f) : sProp 𝕄)
      ⊣⊢ iprop(rest d tb ix ∗ bigSep Finset.univ fun c : Fin 2 => tiles d tb ix f c) := by
  unfold rest tiles tile
  simp only [bigSep_sep']
  rw [toks (tLoc d) tb, toks (iLoc d) ix, oPts_chunks]
  simp only [bigSep_sep']
  constructor
  · iintro ⟨⟨Ht, Ht'⟩, ⟨Hi, Hi'⟩, Ho⟩
    isplitl [Ht Hi]
    · isplitl [Ht] <;> iassumption
    isplitl [Ht']; · iexact Ht'
    isplitl [Hi']; · iexact Hi'
    iexact Ho
  · iintro ⟨⟨Ht, Hi⟩, Ht', Hi', Ho⟩
    isplitl [Ht Ht']
    · isplitl [Ht] <;> iassumption
    isplitl [Hi Hi']
    · isplitl [Hi] <;> iassumption
    iexact Ho

/-! ## The program's values -/

variable [FloatOps F] (m : (ℓ : Loc nD τ sig) → Buf (Elt F) ℓ) (ρ : Dev nD → PrngReg)

/-- The host operations before the call: the list of table rows from the slots, and the table in rows of 256. -/
def opsA : List (HloOp τ sig (Elt F)) :=
  [StableHlo.nullary main_c (constantI S_ 32 4#32),
   StableHlo.unary main_c main_v0 (broadcastInDim S4096x1 ![] bcast_S_S4096x1 : (⟨S_, .i32⟩ : BufTy).Contents (Elt F) → (⟨S4096x1, .i32⟩ : BufTy).Contents (Elt F)),
   StableHlo.binary main_arg1 main_v0 main_v1 (muli : (⟨S4096x1, .i32⟩ : BufTy).Contents (Elt F) → (⟨S4096x1, .i32⟩ : BufTy).Contents (Elt F) → (⟨S4096x1, .i32⟩ : BufTy).Contents (Elt F)),
   StableHlo.nullary main_v2 (iotaInDim S4 32 0),
   StableHlo.unary main_v2 main_v3 (broadcastInDim S1x4 ![1] bcast_S4_S1x4_1 : (⟨S4, .i32⟩ : BufTy).Contents (Elt F) → (⟨S1x4, .i32⟩ : BufTy).Contents (Elt F)),
   StableHlo.unary main_v1 main_v4 (broadcastInDim S4096x4 ![0, 1] bcast_S4096x1_S4096x4_0_1 : (⟨S4096x1, .i32⟩ : BufTy).Contents (Elt F) → (⟨S4096x4, .i32⟩ : BufTy).Contents (Elt F)),
   StableHlo.unary main_v3 main_v5 (broadcastInDim S4096x4 ![0, 1] bcast_S1x4_S4096x4_0_1 : (⟨S1x4, .i32⟩ : BufTy).Contents (Elt F) → (⟨S4096x4, .i32⟩ : BufTy).Contents (Elt F)),
   StableHlo.binary main_v4 main_v5 main_v6 (addi : (⟨S4096x4, .i32⟩ : BufTy).Contents (Elt F) → (⟨S4096x4, .i32⟩ : BufTy).Contents (Elt F) → (⟨S4096x4, .i32⟩ : BufTy).Contents (Elt F)),
   StableHlo.reshape main_v6 main_v7 (rfl : (.i32 : EltTy) = .i32) shapeCasts_S4096x4_S32x4x128,
   StableHlo.reshape main_arg0 main_v8 (rfl : (.f32 : EltTy) = .f32) shapeCasts_S7680x1024_S30720x2x128]

/-- The host operation after the call. -/
def opB : HloOp τ sig (Elt F) := StableHlo.reshape main_v9 main_v10 (rfl : (.f32 : EltTy) = .f32) shapeCasts_S16384x2x128_S4096x1024

abbrev rT : DevRef τ sig := Proc.devRef .tc (main_v8 : Ref sig .tc)
abbrev rI : DevRef τ sig := Proc.devRef .tc (main_v7 : Ref sig .tc)
abbrev rO : DevRef τ sig := Proc.devRef .tc (main_v9 : Ref sig .tc)
abbrev S₀ : Finset (DevRef τ sig) := Pipeline.ucRefs τ sig

/-- The arrays' contents: at the launch, before the call, after the call, at the end. -/
def V0 (d : Dev nD) : Valuation τ sig (Elt F) := fun b => m (d, b)
def V1 (d : Dev nD) : Valuation τ sig (Elt F) := after opsA (V0 m d)
def tbl (d : Dev nD) : Buf (Elt F) (tLoc d) := V1 m d rT
def lst (d : Dev nD) : Buf (Elt F) (iLoc d) := V1 m d rI
def got (d : Dev nD) : Buf (Elt F) (oLoc d) := gath (tbl m d) (lst m d)
def V2 (d : Dev nD) : Valuation τ sig (Elt F) := Function.update (V1 m d) rO (got m d)
def V3 (d : Dev nD) : Valuation τ sig (Elt F) := opB.result (V2 m d)

/-- What the run asks of the launch memory: every word of the list names a row of the table. -/
def ListOK : Prop := ∀ d j, (lst m d j : BitVec 32).toNat < 30720

/-! ## The launch -/

/-- What the call takes and hands back, per SparseCore and per task. -/
def P : (K (F := F)).Pay (nD := nD) (Val := Elt F) (Name := ℕ) (U := UU) where
  st := fun q d c => match q with | 0 => tiles d (tbl m d) (lst m d) (V1 m d rO) c
  dn := fun q d c => match q with | 0 => tiles d (tbl m d) (lst m d) (got m d) c
  go := fun q d c i => match q with | 0 => tile d (tbl m d) (lst m d) (V1 m d rO) (coordsV c (Fin.cast nSub_zero i))
  td := fun q d c i => match q with | 0 => tile d (tbl m d) (lst m d) (got m d) (coordsV c (Fin.cast nSub_zero i))
  x := fun _ _ => iprop(emp)

instance P_storable : (P m).IsStorable where
  st q d c := match q with | 0 => (by unfold tiles; infer_instance : BI.Storable (upEmb : UEmb _ 𝕄) (tiles d (tbl m d) (lst m d) (V1 m d rO) c))
  dn q d c := match q with | 0 => (by unfold tiles; infer_instance : BI.Storable (upEmb : UEmb _ 𝕄) (tiles d (tbl m d) (lst m d) (got m d) c))
  go q d c i := match q with
    | 0 => (inferInstance : BI.Storable (upEmb : UEmb _ 𝕄) (tile d (tbl m d) (lst m d) (V1 m d rO) (coordsV c (Fin.cast nSub_zero i))))
  td q d c i := match q with
    | 0 => (inferInstance : BI.Storable (upEmb : UEmb _ 𝕄) (tile d (tbl m d) (lst m d) (got m d) (coordsV c (Fin.cast nSub_zero i))))

theorem defs₀_vector (c : Fin τ.nSC) (s : Fin τ.nSub) :
    defs₀ (F := F) (.scVector c s) 0 ()
      = SparseCore.onTile hcore0 hsub0 (fun c s => cc0_combine_gather_sc (coordsV c s)
          (Memref.whole main_v8_scv) (Memref.isWhole_whole _) (Memref.whole main_v7_scv) (Memref.isWhole_whole _) (Memref.whole main_v9_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task runs as `tile_body` says. -/
theorem tileObl (hF : (K (F := F)).Facts) (hl : ListOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (qOf (coordsV ⟨_, hci.1⟩ ⟨_, hci.2⟩)) (tbl m d) (lst m d) (V1 m d rO) (hl d) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show tiles d (tbl m d) (lst m d) (V1 m d rO) c ⊢ |={Set.univ}=> iprop(
      (bigSep Finset.univ fun i : Fin ((K (F := F)).nSub 0) => tile d (tbl m d) (lst m d) (V1 m d rO) (coordsV c (Fin.cast nSub_zero i)))
      ∗ ((bigSep Finset.univ fun i : Fin ((K (F := F)).nSub 0) => tile d (tbl m d) (lst m d) (got m d) (coordsV c (Fin.cast nSub_zero i)))
          -∗ tiles d (tbl m d) (lst m d) (got m d) c))
  rw [bigSep_tasks (F := F) (fun i => tile d (tbl m d) (lst m d) (V1 m d rO) (coordsV c i)),
    bigSep_tasks (F := F) (fun i => tile d (tbl m d) (lst m d) (got m d) (coordsV c i))]
  unfold tiles
  iintro H; imodintro
  isplitl [H]; · iexact H
  iintro H; iexact H

/-- The certificate's ghost state at the launch. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

theorem opsA_bufs : ∀ op ∈ opsA (F := F), op.bufs ⊆ S₀ := by
  intro op h
  refine Pipeline.sub_ucRefs op ?_
  simp only [opsA, List.mem_cons, List.not_mem_nil, or_false] at h
  rcases h with rfl | rfl | rfl | rfl | rfl | rfl | rfl | rfl | rfl | rfl <;> simp

theorem opsA_fresh : ∀ op ∈ opsA (F := F), op.fresh = ∅ := by
  intro op h
  simp only [opsA, List.mem_cons, List.not_mem_nil, or_false] at h
  rcases h with rfl | rfl | rfl | rfl | rfl | rfl | rfl | rfl | rfl | rfl <;> rfl

theorem opB_bufs : (opB (F := F)).bufs ⊆ S₀ := Pipeline.sub_ucRefs _ (by simp [opB])

/-- The call's three operands among all the arrays. -/
theorem held_ops (d : Dev nD) (W : Valuation τ sig (Elt F)) :
    (held (T d) S₀ W : sProp 𝕄) = iprop(((tLoc d ↦{fullShare} W rT) ∗ (iLoc d ↦{fullShare} W rI) ∗ oLoc d ↦{fullShare} W rO)
      ∗ held (T d) (S₀ \ {rT, rI, rO}) W) := by
  rw [StableHlo.held_sub_split (T d) (show ({rT, rI, rO} : Finset (DevRef τ sig)) ⊆ S₀ by decide)]
  congr 1
  unfold held
  rw [SparseCore.bigSep_insert' (by decide), SparseCore.bigSep_insert' (by decide), bigSep_singleton]

theorem held_V1 (d : Dev nD) :
    (held d.tc S₀ (after opsA (V0 m d)) : sProp 𝕄) = iprop(((tLoc d ↦{fullShare} tbl m d) ∗ (iLoc d ↦{fullShare} lst m d) ∗ oLoc d ↦{fullShare} V1 m d rO)
      ∗ held (T d) (S₀ \ {rT, rI, rO}) (V1 m d)) := held_ops d (V1 m d)

theorem held_rest (d : Dev nD) : (held (T d) (S₀ \ {rT, rI, rO}) (V2 m d) : sProp 𝕄) = held (T d) (S₀ \ {rT, rI, rO}) (V1 m d) :=
  StableHlo.held_congr (T d) fun b hb => Function.update_of_ne (fun e => (Finset.mem_sdiff.mp hb).2 (by rw [e]; decide)) _ _

theorem V2_rT (d : Dev nD) : V2 m d rT = tbl m d := Function.update_of_ne (show rT ≠ rO by decide) _ _
theorem V2_rI (d : Dev nD) : V2 m d rI = lst m d := Function.update_of_ne (show rI ≠ rO by decide) _ _
theorem V2_rO (d : Dev nD) : V2 m d rO = got m d := Function.update_self _ _ _

theorem main_eq (d : Dev nD) : main (F := F) d
    = (StableHlo.seq (opsA (F := F)) >>= fun _ => (do (K (F := F)).run d 0; hlo rfl opB (fun _ => .ret ⟨⟩); pure ⟨⟩)) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) S₀ (V3 m d) ∗ (K (F := F)).tcEnd d) := by
  unfold SparseCore.Cfg.tcRes SparseCore.Cfg.tcEnd
  rw [main_eq, show (unscopedBufs d (fun b => m ((SparseCore.T d).loc b)) : sProp 𝕄) = held (T d) S₀ (V0 m d) from Pipeline.unscopedBufs_held d (V0 m d)]
  iintro ⟨#Hctx, Hst, ⟨Hb, Hheld, Hts, -⟩, -⟩
  iapply (StableHlo.wp_seq 𝒱 none Set.univ d S₀ _ opsA opsA_bufs opsA_fresh (V0 m d)) $$ [Hb Hheld]
  · isplitl [Hb] <;> iassumption
  iintro ⟨Hb, Hheld⟩
  simp only [wp_bind, wp_pure]
  ihave Hh := (Entails.of_eq (held_V1 m d)) $$ Hheld
  icases Hh with ⟨Hops, Hother⟩
  ihave Hd := (deal d (tbl m d) (lst m d) (V1 m d rO)).1 $$ Hops
  icases Hd with ⟨Hrest, Htiles⟩
  iapply ((K (F := F)).wp_run (D (F := F)) 𝒱 (EH := EH) (P := P m) κ d 0) $$ [Hst Htiles Hb Hts Hother Hrest]
  isplitr; · iexact Hctx
  isplitl [Hst]; · iexact Hst
  isplitl [Htiles]; · iexact Htiles
  iintro ⟨Hst, Hdn⟩
  ihave Hops := (deal d (tbl m d) (lst m d) (got m d)).2 $$ [Hrest Hdn]
  · isplitl [Hrest]; · iexact Hrest
    iexact Hdn
  iapply (StableHlo.wp_hlo_within 𝒱 (SparseCore.T d) none Set.univ (op := opB) (S := S₀) opB_bufs (V := V2 m d)) $$ [Hb Hops Hother]
  · isplitl [Hb]; · iexact Hb
    rw [held_ops, V2_rT, V2_rI, V2_rO, held_rest]
    isplitl [Hops] <;> iassumption
  iintro ⟨Hb, Hheld⟩
  rw [wp_ret]; imodintro; imodintro
  isplitl [Hst]; · iexact Hst
  isplitl [Hheld]; · iexact Hheld
  isplitl [Hb] <;> iassumption

/-- Every array of the TensorCore ends at its computed contents. -/
def fq (d : Dev nD) (s' : Phys nD τ sig (Elt F)) : Prop := ∀ b ∈ S₀, s'.mem.mem (d, b) = V3 m d b

theorem hfin (d : Dev nD) (s' : Phys nD τ sig (Elt F)) : iprop(held (T d) S₀ (V3 m d) ∗ SI s') ⊢ (⌜fq m d s'⌝ : sProp 𝕄) := by
  unfold held fq
  iintro ⟨Hh, HSI⟩
  ihave Hr := (pointsTo_read_all S₀ (fun b => (d, b)) (V3 m d) s') $$ [Hh HSI]
  · isplitl [Hh] <;> iassumption
  icases Hr with ⟨%h, -⟩
  ipureintro; exact h

def QC : PUnit × MemSt nD τ sig (Elt F) → Prop := fun r => (∀ c : Dev nD, ∀ b ∈ S₀, r.2.mem (c, b) = V3 m c b) ∧ r.2.sem = fun _ => 0

/-- The program terminates without fault, every array at its computed contents and every semaphore at zero. -/
theorem run_main [∀ e, Nonempty (Elt F e)] (hl : ListOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hl)
    (fun q _ => match q with | 0 => SparseCore.Cfg.VecSplit.of_plain (vecSplit m))
    m ρ main (fun _ => iprop(emp)) (fun d => held (T d) S₀ (V3 m d)) (u₀ (F := F)) (sep_elim_left.trans (hu₀ m)) (hmain m ρ) (fq m) (hfin m) (QC m)
    (fun _ h hz => ⟨h, hz⟩)

end Cert.Proof.Gather

end
-- ==== Proof.GatherValue.lean ====
/-
  What the gather call computes: result row `p` is table row `slot[p]`, and so is the reference's. From this the
  claims of the gather program follow.
-/
module

public import proofs.«01_k».proof.Proof.GatherRun
public import proofs.«01_k».proof.Proof.Gen.Gather
public import proofs.«01_k».proof.Proof.Gen.GatherReferenceIdeal
public import proofs.«01_k».proof.Proof.Gen.GatherReferenceIdeal.Run
public import proofs.«01_k».proof.Proof.Gen.Pre_slots_in_range
public import Idealize.ShloMosaic.Lib.Routing.Ops
public import Idealize.ShloMosaic.Adequacy
public import Idealize.ShloMosaic.Init

@[expose] public section

noncomputable section

namespace Cert.Proof.Gather

open Cert.GatherIdeal Cert.GatherIdeal.Gen

open Idealize.ShloMosaic Idealize.SL.Sem
open Idealize.ShloMosaic.StableHlo (after)
open Idealize.ShloMosaic.ValueIdx

variable {F : FTy → Type} [FloatOps F] (m : (ℓ : Loc nD τ sig) → Buf (Elt F) ℓ)

/-- The table and the slots as launched. -/
abbrev eo (d : Dev nD) : S7680x1024.Idx → Elt F .f32 := m ((d.tc : Thread nD τ).loc main_arg0)
abbrev slot (d : Dev nD) : S4096x1.Idx → BitVec 32 := m ((d.tc : Thread nD τ).loc main_arg1)

theorem tbl_eq (d : Dev nD) : tbl m d = shapeCast S30720x2x128 (eo m d) shapeCasts_S7680x1024_S30720x2x128 := by
  unfold tbl V1 opsA V0
  after_results <;> rfl

theorem lst_eq (d : Dev nD) : lst m d = shapeCast S32x4x128
    (addi (broadcastInDim S4096x4 ![0, 1] bcast_S4096x1_S4096x4_0_1 (muli (slot m d) (broadcastInDim S4096x1 ![] bcast_S_S4096x1 (constantI S_ 32 4#32))))
      (broadcastInDim S4096x4 ![0, 1] bcast_S1x4_S4096x4_0_1 (broadcastInDim S1x4 ![1] bcast_S4_S1x4_1 (iotaInDim S4 32 0)))) shapeCasts_S4096x4_S32x4x128 := by
  unfold lst V1 opsA V0
  after_results <;> rfl

theorem V3_arg0 (d : Dev nD) : V3 m d (Proc.devRef .tc main_arg0) = eo m d := by
  unfold V3 opB
  rw [StableHlo.reshape_result_ne _ _ _ _ _ _ _ (by decide)]
  unfold V2
  rw [Function.update_of_ne (by decide)]
  unfold V1 opsA V0
  after_results <;> rfl

theorem V3_arg1 (d : Dev nD) : V3 m d (Proc.devRef .tc main_arg1) = slot m d := by
  unfold V3 opB
  rw [StableHlo.reshape_result_ne _ _ _ _ _ _ _ (by decide)]
  unfold V2
  rw [Function.update_of_ne (by decide)]
  unfold V1 opsA V0
  after_results <;> rfl

theorem V3_result (d : Dev nD) : V3 m d (Proc.devRef .tc main_v10) = shapeCast S4096x1024 (got m d) shapeCasts_S16384x2x128_S4096x1024 := by
  show opB.result (V2 m d) _ = _
  rw [← V2_rO m d]
  unfold opB
  rw [StableHlo.reshape_result]
  rfl

/-- Word `r` of the list names row `r mod 4` of the four rows of slot `r / 4`. -/
theorem lst_listIx (d : Dev nD) (r : Fin 16384) (h : ∀ p, (slot m d p).toNat < 7680) :
    (lst m d (listIx r) : BitVec 32).toNat = (slot m d (ix2 (⟨r.val / 4, by omega⟩ : Fin 4096) (0 : Fin 1))).toNat * 4 + r.val % 4 := by
  have hr := r.isLt
  have e : (lst m d (listIx r) : BitVec 32)
      = slot m d (ix2 (⟨r.val / 4, by omega⟩ : Fin 4096) (0 : Fin 1)) * 4#32 + BitVec.ofNat 32 (r.val % 4) := by
    rw [lst_eq, shapeCast_apply _ _ (listIx r) (ix2 (⟨r.val / 4, by omega⟩ : Fin 4096) (⟨r.val % 4, by omega⟩ : Fin 4)) (by
      unfold listIx
      rw [Shape.rowMajor_val_two, Shape.rowMajor_val_three]
      show r.val / 4 * 4 + r.val % 4 = (r.val / 512 * 4 + r.val / 128 % 4) * 128 + r.val % 128
      omega)]
    refine (congrArg (fun i => slot m d i * 4#32 + BitVec.ofNat 32 (r.val % 4)) ?_)
    funext a
    match a with
    | 0 => rfl
    | 1 => rfl
  rw [e, BitVec.toNat_add, BitVec.toNat_mul, BitVec.toNat_ofNat, BitVec.toNat_ofNat]
  have := h (ix2 (⟨r.val / 4, by omega⟩ : Fin 4096) (0 : Fin 1))
  omega

theorem listOK (h : ∀ d p, (slot m d p).toNat < 7680) : ListOK m := by
  intro d j
  have j0 : (j 0).val < 32 := (j 0).isLt
  have j1 : (j 1).val < 4 := (j 1).isLt
  have j2 : (j 2).val < 128 := (j 2).isLt
  have e := lst_listIx m d ⟨512 * (j 0).val + 128 * (j 1).val + (j 2).val, by omega⟩ (h d)
  rw [show listIx ⟨512 * (j 0).val + 128 * (j 1).val + (j 2).val, by omega⟩ = j from
    (listIx_chunk (j 0 : Fin 32) (j 1 : Fin 4) (j 2 : Fin 128) _).trans (eq_ix3 (n0 := 32) (n1 := 4) (n2 := 128) j).symm] at e
  have aux : ∀ a b : ℕ, a < 7680 → a * 4 + b % 4 < 30720 := fun a b h => by omega
  rw [e]
  exact aux _ _ (h d _)

/-- The result at `(p, k)` is the table at `(slot[p], k)`. -/
theorem V3_apply (d : Dev nD) (h : ∀ p, (slot m d p).toNat < 7680) (p : Fin 4096) (k : Fin 1024) :
    (V3 m d (Proc.devRef .tc main_v10) : S4096x1024.Idx → Elt F .f32) (ix2 p k)
      = eo m d (ix2 (⟨(slot m d (ix2 p (0 : Fin 1))).toNat, h _⟩ : Fin 7680) k) := by
  have hp := p.isLt
  have hk := k.isLt
  have hs := h (ix2 p (0 : Fin 1))
  rw [V3_result, shapeCast_apply _ _ (ix2 p k) (ix3 (⟨4 * p.val + k.val / 256, by omega⟩ : Fin 16384) (⟨k.val / 128 % 2, by omega⟩ : Fin 2) (⟨k.val % 128, by omega⟩ : Fin 128)) (by
      rw [Shape.rowMajor_val_two, Shape.rowMajor_val_three]
      show ((4 * p.val + k.val / 256) * 2 + k.val / 128 % 2) * 128 + k.val % 128 = p.val * 1024 + k.val
      omega)]
  unfold got
  rw [gath_ix3, tbl_eq]
  have hl := lst_listIx m d ⟨4 * p.val + k.val / 256, by omega⟩ h
  have hp4 : (⟨(4 * p.val + k.val / 256) / 4, by omega⟩ : Fin 4096) = p := Fin.ext (by show (4 * p.val + k.val / 256) / 4 = p.val; omega)
  simp only [hp4] at hl
  refine shapeCast_apply _ _ _ _ ?_
  rw [Shape.rowMajor_val_two, Shape.rowMajor_val_three]
  show (slot m d (ix2 p (0 : Fin 1))).toNat * 1024 + k.val
    = ((lst m d (listIx ⟨4 * p.val + k.val / 256, by omega⟩) : BitVec 32).toNat % 30720 * 2 + k.val / 128 % 2) * 128 + k.val % 128
  rw [hl]
  omega

/-! ## The claims -/

/-- The precondition — `(0 ≤ slot) & (slot < 7680)` at every entry — read as numbers. -/
theorem slot_of_pre {v : S4096x1.Idx → BitVec 32} {e : FVec F S7680x1024 .f32} (h : Cert.Pre_slots_in_range.fn (F := F) e v = fun _ => 1#1)
    (p : S4096x1.Idx) : (v p).toNat < 7680 := by
  have andi_ofBool (a b : Bool) : IntOp.andi (BitVec.ofBool a) (BitVec.ofBool b) = BitVec.ofBool (a && b) := by
    cases a <;> cases b <;> decide
  have ofBool_eq_one (a : Bool) : (BitVec.ofBool a = 1#1) ↔ a = true := by cases a <;> decide
  have key : ∀ v : BitVec 32, IntOp.andi (IntOp.cmpi .sge v 0#32) (IntOp.cmpi .slt v 7680#32) = 1#1 → v.toNat < 7680 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h p
  simp only [Cert.Pre_slots_in_range.fn, andi, cmpi, broadcastInDim, constantI] at e
  exact key _ e

theorem mem_S₀ (b : Ref sig .tc) (h : (Proc.devRef (τ := τ) .tc b).isScoped = false) : (Proc.devRef .tc b : DevRef τ sig) ∈ S₀ :=
  Finset.mem_filter.mpr ⟨StableHlo.devRef_mem_tcRefs b, by rw [h]; exact Bool.false_ne_true⟩

/-- The run, read at the arguments and the result. -/
theorem run_values [∀ e, Nonempty (Elt F e)] (ρ : Dev nD → PrngReg) (h : ∀ d p, (slot m d p).toNat < 7680) :
    θ_run (Cert.GatherIdeal.defs (F := F)) (Cert.GatherIdeal.threads (F := F)) ⟨m, fun _ => 0, ρ⟩ fun r =>
      (∀ c : Dev nD, r.2.mem ((c.tc : Thread nD τ).loc main_v10) = V3 m c (Proc.devRef .tc main_v10)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run Cert.GatherIdeal.defs _ _).mono
    (fun _ hr => ⟨fun c => ⟨hr.1 c _ (mem_S₀ main_v10 rfl), (hr.1 c _ (mem_S₀ main_arg0 rfl)).trans (V3_arg0 m c), (hr.1 c _ (mem_S₀ main_arg1 rfl)).trans (V3_arg1 m c)⟩, hr.2⟩)
    (run_main m ρ (listOK m h))

section Reference

open Cert.GatherReferenceIdeal Cert.GatherReferenceIdeal.Facts₀

/-- The reference's list of rows from its slots: negative ones counted from the end of the table. -/
def refRows (w : Cert.GatherReferenceIdeal.S4096.Idx → BitVec 32) : Cert.GatherReferenceIdeal.S4096x1.Idx → BitVec 32 :=
  broadcastInDim Cert.GatherReferenceIdeal.S4096x1 ![0] bcast_S4096_S4096x1_0
    (select (cmpi .slt w (broadcastInDim Cert.GatherReferenceIdeal.S4096 ![] bcast_S_S4096 (constantI Cert.GatherReferenceIdeal.S_ 32 0#32)))
      (addi w (broadcastInDim Cert.GatherReferenceIdeal.S4096 ![] bcast_S_S4096 (constantI Cert.GatherReferenceIdeal.S_ 32 7680#32))) w)

theorem refRows_apply (w : Cert.GatherReferenceIdeal.S4096.Idx → BitVec 32) (p : Fin 4096) (h : (w (ix1 p)).toNat < 7680) :
    refRows w (ix2 p (0 : Fin 1)) = BitVec.ofNat 32 (w (ix1 p)).toNat := by
  have key : ∀ w : BitVec 32, w.toNat < 7680 → Scalar.select (IntOp.cmpi .slt w 0#32) (IntOp.addi w 7680#32) w = BitVec.ofNat 32 w.toNat := by
    intro w hw
    have e : IntOp.cmpi .slt w 0#32 = 0#1 := by
      simp only [IntOp.cmpi, BitVec.slt_eq_decide, BitVec.toInt_eq_toNat_cond, BitVec.toNat_ofNat, Nat.reducePow, Nat.reduceMod]
      rw [decide_eq_false (by omega)]; rfl
    rw [e, Scalar.select, if_neg (by decide), BitVec.ofNat_toNat, BitVec.setWidth_eq]
  refine Eq.trans ?_ (key _ h)
  refine congrArg (fun i => Scalar.select (IntOp.cmpi .slt (w i) 0#32) (IntOp.addi (w i) 7680#32) (w i)) ?_
  funext a
  match a with
  | 0 => rfl

/-- The reference's result at `(p, k)` is the table at `(slot[p], k)` as well. -/
theorem ref_apply (E : Cert.GatherIdeal.S7680x1024.Idx → Elt F .f32) (v : Cert.GatherIdeal.S4096x1.Idx → BitVec 32) (h : ∀ p, (v p).toNat < 7680) (p : Fin 4096) (k : Fin 1024) :
    Host.gather Cert.GatherReferenceIdeal.gather_S7680x1024_S4096x1_S4096x1024_1_0_n_n_0_1_11024 E
      (refRows (shapeCast Cert.GatherReferenceIdeal.S4096 v shapeCasts_S4096x1_S4096)) (ix2 p k)
      = E (ix2 (⟨(v (ix2 p (0 : Fin 1))).toNat, h _⟩ : Fin 7680) k) := by
  have hs := h (ix2 p (0 : Fin 1))
  have hv : shapeCast Cert.GatherReferenceIdeal.S4096 v shapeCasts_S4096x1_S4096 (ix1 p) = v (ix2 p (0 : Fin 1)) :=
    shapeCast_apply _ _ (ix1 p) (ix2 p (0 : Fin 1)) (by
      rw [Shape.rowMajor_val_two, Shape.rowMajor_val_one]; show p.val * 1 + 0 = p.val; omega)
  refine Routing.gather_row _ rfl rfl rfl rfl rfl E _ p k ⟨(v (ix2 p (0 : Fin 1))).toNat, hs⟩ ?_ (by norm_num)
  exact (refRows_apply _ p (by rw [hv]; exact hs)).trans (by rw [hv])

end Reference

theorem frame_bits : Cert.quiescent_Gather := fun m ρ hpre =>
  (θ_run Cert.GatherIdeal.defs _ _).mono (fun _ h => ⟨fun c => (h.1 c).2, h.2⟩) (run_values (F := Bits) m ρ fun d => slot_of_pre (hpre d))

theorem frame_ideal : Cert.quiescent_GatherIdeal := fun m ρ hpre =>
  (θ_run Cert.GatherIdeal.defs _ _).mono (fun _ h => ⟨fun c => (h.1 c).2, h.2⟩) (run_values (F := Ideal) m ρ fun d => slot_of_pre (hpre d))

theorem frame_reference : Cert.quiescent_GatherReferenceIdeal := fun m ρ _ =>
  (θ_run _ _ _).mono (fun _ h => ⟨fun c => (h c).2, sem_eq_zero_of_no_sems rfl _⟩) (Cert.GatherReferenceIdeal.Value.run (F := Ideal) m ρ)

theorem algebraic : Cert.algebraic_GatherIdeal_GatherReferenceIdeal := by
  intro m ρ m' ρ' hpre hargs
  have hs : ∀ d p, (slot m d p).toNat < 7680 := fun d => slot_of_pre (hpre d)
  refine ⟨fun c => V3 m c (Proc.devRef .tc main_v10), (θ_run Cert.GatherIdeal.defs _ _).mono (fun _ h => h.1) (run_values (F := Ideal) m ρ hs), ?_⟩
  refine (θ_run _ _ _).mono (fun _ h c => ⟨(h c).1.trans ?_, (h c).2⟩) (Cert.GatherReferenceIdeal.Value.run (F := Ideal) m' ρ')
  rw [(hargs c).1, (hargs c).2]
  funext j
  obtain ⟨p, k, rfl⟩ : ∃ (p : Fin 4096) (k : Fin 1024), j = ix2 p k := ⟨_, _, eq_ix2 j⟩
  exact (ref_apply (F := Ideal) (eo m c) (slot m c) (hs c) p k).trans (V3_apply m c (hs c) p k).symm

end Cert.Proof.Gather

end
-- ==== Proof.KBase.lean ====
/-
  The whole kernel as its run sees it: the labels, the SparseCore calls, the body table and the algebra that its
  SparseCore launches and its TensorCore pipelines are reasoned with.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.KernelIdeal
public import proofs.«01_k».proof.Proof.Gen.KernelIdeal.Skeleton

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

abbrev ΛP : Labels := Pipeline.Sig Λ₀ (Fin 4) fun p => (pcfgs (F := F) p).Adm
abbrev K : SparseCore.Cfg τ sig (ΛP (F := F)) 2 := sc (F := F)
theorem nSub_eq (q : Fin 2) : (K (F := F)).nSub q = 16 := by match q with | 0 => rfl | 1 => rfl
theorem nCore_eq (q : Fin 2) : (K (F := F)).nCore q = 2 := by match q with | 0 => rfl | 1 => rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by match q with | 0 => rfl | 1 => rfl⟩

abbrev UH : Type := URounds (GSem nD τ sig) ℕ
abbrev UP : Type := UR sig nD τ × Counters
abbrev UU : Type := UH × UP

local notation "𝕄" => MT nD τ sig (HIx 2) (Elt F) ℕ UU ℕ

/-- The launches' part of the algebra. -/
abbrev EH : Emb UH (MT nD τ sig (HIx 2) (Elt F) ℕ UU ℕ) := embL
/-- The pipelines' part of the algebra. -/
abbrev EP : Emb (UR sig nD τ) (MT nD τ sig (HIx 2) (Elt F) ℕ UU ℕ) := (Emb.inl : Emb (UR sig nD τ) UP).trans embR

instance EP_landsIn : (EP (F := F)).LandsIn (upEmb : UEmb _ 𝕄) := by unfold EP; infer_instance

end Cert.Proof.Whole

end
-- ==== Proof.KRegion.lean ====
/-
  How a TensorCore pipeline of the program is stepped over: the region's segment over all the TensorCore's buffers, with the
  bound on recorded waits that the SparseCore calls ask for.
-/
module

public import proofs.«01_k».proof.Proof.KBase
public import Idealize.ShloMosaic.Lib.Pipeline.RegionArraysT
public import Idealize.ShloMosaic.Lib.Pipeline.FrameBody
public import proofs.«01_k».proof.Proof.Gen.KernelIdeal.Launch

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

/-- The pairs that waits of the TensorCore may have recorded once `n` of the SparseCore calls have run. -/
def seen (c : Dev nD) (n : ℕ) : Set (SemLoc sig × HIx 2) := {x | (K (F := F)).lev (T c, x.1) x.2 ≤ 8 * n}

variable (a : (p : Fin 4) → (pcfgs (F := F) p).Adm)
  (pdats : (p : Fin 4) → (c : Dev nD) → Dat τ (Elt F) (HIx 2) ℕ UU ℕ (Pipeline.pin (pcfgs (F := F)) a p) c)

/-- A pipeline's arrays at contents `G` are the buffers behind them at a valuation that has them so. -/
theorem arrays_held' (p : Fin 4) (kit : Pipeline.PLaunchFacts₀ (nD := nD) (τ := τ) (pcfgs (F := F)) p) (c : Dev nD)
    (hq : ∀ w, ((Pipeline.pin (pcfgs (F := F)) a p).spec w).isOut = false → (pdats p c).q w = Pipeline.shareOf (Pipeline.pin (pcfgs (F := F)) a p).spec w)
    (G : (w : Fin (Pipeline.pin (pcfgs (F := F)) a p).W) → Buf (Elt F) (((Pipeline.pin (pcfgs (F := F)) a p).win w).arr.view.loc (c.tc : Thread nD τ)))
    (Wc : Valuation τ sig (Elt F)) (hG : ∀ w, G w = Wc (Proc.devRef .tc (arrRef (Pipeline.pin (pcfgs (F := F)) a p).spec w))) :
    ((pdats p c).arrays G : sProp 𝕄) = held (c.tc : Thread nD τ) (arrRefs (pcfgs (F := F) p).spec) Wc := by
  rw [← (pdats p c).arrBufs_eq_arrays kit.sharedIn kit.arr_whole hq (fun b => Wc (Proc.devRef .tc b)) G hG]
  unfold Pipeline.arrBufs held arrRefs
  rw [bigSep_map]
  rfl

/-- All the TensorCore's buffers: a pipeline's arrays, its tables, and the rest. -/
theorem held_three (p : Fin 4) (kit : Pipeline.PLaunchFacts₀ (nD := nD) (τ := τ) (pcfgs (F := F)) p) (c : Dev nD) (Wc : Valuation τ sig (Elt F)) :
    (held (c.tc : Thread nD τ) (ucRefs τ sig) Wc : sProp 𝕄)
      = iprop(held (c.tc : Thread nD τ) (arrRefs (pcfgs (F := F) p).spec) Wc ∗ held (c.tc : Thread nD τ) (tblRefs (pcfgs (F := F) p).pre) Wc
          ∗ held (c.tc : Thread nD τ) ((ucRefs τ sig \ arrRefs (pcfgs (F := F) p).spec) \ tblRefs (pcfgs (F := F) p).pre) Wc) := by
  rw [StableHlo.held_sub_split c.tc (Pipeline.arrRefs_sub_ucRefs (pcfgs (F := F) p).spec kit.win.arr_unscoped) Wc,
    StableHlo.held_sub_split c.tc (Pipeline.tblRefs_sub_ucRefs_sdiff (pcfgs (F := F) p).spec (pcfgs (F := F) p).pre kit.pre.unscoped kit.pre.disj) Wc]

/-- What a pipeline's region needs beside its body: where it is entered from and what it leaves. -/
structure RegionOK (p : Fin 4) (n : ℕ) (W W' : Dev nD → Valuation τ sig (Elt F)) : Prop where
  kit : Pipeline.PLaunchFacts₀ (nD := nD) (τ := τ) (pcfgs (F := F)) p
  hbody : ∀ c, BodyObligationLoose (pdats p c) (defs₀ (F := F)) 𝒱₀ none Set.univ
  howed : ∀ c t, (pdats p c).owed t = (K (F := F)).Otc c n
  hrec : ∀ c t, (pdats p c).recorded t = seen (F := F) c n
  hq : ∀ c w, ((Pipeline.pin (pcfgs (F := F)) a p).spec w).isOut = false → (pdats p c).q w = Pipeline.shareOf (Pipeline.pin (pcfgs (F := F)) a p).spec w
  hΦ : ∀ c t, (pdats p c).Φ t = iprop(Pipeline.scopedRest (Pipeline.pin (pcfgs (F := F)) a p).spec c
    ∗ Pipeline.prefHeld (pcfgs (F := F) p).pre c (fun _ => fullShare) (a p).1)
  hW : ∀ c w, (pdats p c).arrAt w 0 = W c (Proc.devRef .tc (arrRef (Pipeline.pin (pcfgs (F := F)) a p).spec w))
  hT : ∀ c k, (a p).1 k = W c (Proc.devRef .tc ((pcfgs (F := F) p).pre.ref k))
  hW' : ∀ c w, (pdats p c).arrAt w (Pipeline.pin (pcfgs (F := F)) a p).N = W' c (Proc.devRef .tc (arrRef (Pipeline.pin (pcfgs (F := F)) a p).spec w))
  hrest : ∀ c b, b ∉ arrRefs (τ := τ) (pcfgs (F := F) p).spec → W' c b = W c b

variable {a pdats}

/-- The region of a pipeline, over all the TensorCore's buffers. -/
def RegionOK.seg {p : Fin 4} {n : ℕ} {W W' : Dev nD → Valuation τ sig (Elt F)} (h : RegionOK a pdats p n W W') :
    Pipeline.RegionSeg (pcfgs (F := F)) a pdats none (defs₀ (F := F)) 𝒱₀ (K (F := F)).L (K (F := F)).lev p where
  win := h.kit.win
  block_pos := h.kit.block_pos
  stage_whole := h.kit.stage_whole
  K := PEmpty
  osem k := k.elim
  ho := Pipeline.OwnSemFacts.none _
  hbody := h.hbody
  hwaits c := Pipeline.cellsWaits_of_cut (Pipeline.pin (pcfgs (F := F)) a) pdats none p c 0 ((K (F := F)).Otc c n) (h.howed c)
    (fun _ _ => Finset.mem_univ _) (fun _ _ => Nat.le_refl 0)
    (fun g i hg => ⟨Finset.mem_univ _, (by omega : 0 < 8 * n + 1).trans_le (SparseCore.Cfg.lev_of_Otc_pos hg)⟩)
  pre c := iprop(held (c.tc : Thread nD τ) (ucRefs τ sig) (W c) ∗ ∃ Wd, ⌜(K (F := F)).WBelow (T c) Wd (8 * n)⌝ ∗ owes (c : Thread nD τ) ((K (F := F)).Otc c n) Wd)
  post c := iprop(held (c.tc : Thread nD τ) (ucRefs τ sig) (W' c) ∗ ∃ Wd, ⌜(K (F := F)).WBelow (T c) Wd (8 * n)⌝ ∗ owes (c : Thread nD τ) ((K (F := F)).Otc c n) Wd)
  X _ := iprop(emp)
  Y c := Pipeline.prefHeld (pcfgs (F := F) p).pre c (fun _ => fullShare) (a p).1
  Z c := held (c.tc : Thread nD τ) ((ucRefs τ sig \ arrRefs (pcfgs (F := F) p).spec) \ tblRefs (pcfgs (F := F) p).pre) (W c)
  hentry c := by
    rw [Pipeline.ownSems0_none, held_three p h.kit, ← arrays_held' a pdats p h.kit c (h.hq c) ((pdats p c).arrAt · 0) (W c) (h.hW c),
      ← Pipeline.prefHeld_held (pcfgs (F := F) p).pre h.kit.pre.inj c (a p).1 (W c) (h.hT c)]
    iintro ⟨⟨⟨Ha, Ht, HR⟩, HO⟩, -, -⟩
    imodintro
    isplitl [Ha]; · iexact Ha
    isplitl [Ht]; · iexact Ht
    isplitl [HO]
    · unfold Dat.owesAt Pipeline.owesWithin Dat.bound
      rw [h.howed c 0, h.hrec c 0]
      icases HO with ⟨%Wd, %hWd, HO⟩; iexists Wd; isplitr; · ipureintro; exact fun x hx => Or.inl (hWd x hx)
      iexact HO
    isplitr; · iempintro
    iexact HR
  hin c := by
    rw [h.hΦ]
    iintro ⟨-, Ht, Hr⟩
    isplitl [Hr]; · iexact Hr
    iexact Ht
  hout c := by
    rw [h.hΦ, Pipeline.ownSems0_none]
    iintro ⟨Hr, Ht⟩
    isplitl [Ht]; · iexact Ht
    isplitr; · iempintro
    iexact Hr
  hexit c := by
    have hZ : (held (c.tc : Thread nD τ) ((ucRefs τ sig \ arrRefs (pcfgs (F := F) p).spec) \ tblRefs (pcfgs (F := F) p).pre) (W c) : sProp 𝕄)
        = held (c.tc : Thread nD τ) ((ucRefs τ sig \ arrRefs (pcfgs (F := F) p).spec) \ tblRefs (pcfgs (F := F) p).pre) (W' c) :=
      StableHlo.held_congr c.tc fun b hb => (h.hrest c b (Finset.mem_sdiff.mp (Finset.mem_sdiff.mp hb).1).2).symm
    have hT' : ∀ k, (a p).1 k = W' c (Proc.devRef .tc ((pcfgs (F := F) p).pre.ref k)) := fun k => by
      rw [h.hT c k, h.hrest c]
      intro hm
      obtain ⟨r, hr, e⟩ := Finset.mem_map.mp hm
      obtain ⟨w, -, rfl⟩ := Finset.mem_image.mp hr
      exact h.kit.pre.disj k w (Proc.devRef_injective _ e).symm
    rw [held_three p h.kit c (W' c), ← arrays_held' a pdats p h.kit c (h.hq c) ((pdats p c).arrAt · _) (W' c) (h.hW' c),
      ← Pipeline.prefHeld_held (pcfgs (F := F) p).pre h.kit.pre.inj c (a p).1 (W' c) hT', hZ]
    iintro ⟨Ha, HO, Ht, HR⟩
    imodintro
    isplitl [Ha Ht HR]
    · isplitl [Ha]; · iexact Ha
      isplitl [Ht]; · iexact Ht
      iexact HR
    unfold Dat.owesAt Pipeline.owesWithin Dat.bound
    rw [h.howed c (Fin.last _), h.hrec c (Fin.last _)]
    icases HO with ⟨%Wd, %hWd, HO⟩; iexists Wd; isplitr
    · ipureintro
      intro x hx
      rcases hWd (Finset.mem_coe.mpr hx) with hx | ⟨w, s, hx⟩
      · exact hx
      · rw [hx]; exact Nat.zero_le _
    iexact HO

/-- What a pipeline's launch hands its region. -/
def ghost (a : (p : Fin 4) → (pcfgs (F := F) p).Adm) (p : Fin 4) (c : Dev nD) : sProp 𝕄 :=
  iprop(Pipeline.cellsGhost (Pipeline.pin (pcfgs (F := F)) a) (EP (F := F)) p c ∗ Pipeline.toksInit (Pipeline.pin (pcfgs (F := F)) a) (EP (F := F)) p c)

/-- One pipeline of the program: from the TensorCore's state at `W` to its state at `W'`. -/
theorem RegionOK.step [∀ e, Nonempty (Elt F e)] {p : Fin 4} {n : ℕ} {W W' : Dev nD → Valuation τ sig (Elt F)} (h : RegionOK a pdats p n W W')
    (P : (K (F := F)).Pay (nD := nD) (Val := Elt F) (Name := ℕ) (U := UU)) (κ : GSem nD τ sig → ℕ) (c : Dev nD) (Q : PUnit → sProp 𝕄) :
    iprop((K (F := F)).ctx EH P κ ∗ boundary (T c) ∗ held (c.tc : Thread nD τ) (ucRefs τ sig) (W c) ∗ (K (F := F)).tcSt EH c n ∗ ghost a p c
        ∗ (iprop(boundary (T c) ∗ held (c.tc : Thread nD τ) (ucRefs τ sig) (W' c) ∗ (K (F := F)).tcSt EH c n) -∗ Q ⟨⟩))
      ⊢ wp frame (wpE ((K (F := F)).defs (D (F := F))) 𝒱 (T c) none) Set.univ (Prog.lift (.customCall (SparseCore.inner (Pipeline.entry p)) ())) Q := by
  refine BIBase.Entails.trans ?_ ((K (F := F)).wp_liftProg (D (F := F)) 𝒱 (T c) Set.univ none (.op (.customCall (Pipeline.entry p) ()) fun x => .ret x) Q)
  refine BIBase.Entails.trans ?_ (Pipeline.RegionSeg.wp (pcfgs (F := F)) a pdats none (Gen.cellOf_inj a) (EP (F := F)) (defs₀ (F := F)) 𝒱₀ (K (F := F)).L (K (F := F)).lev
    h.seg c none (fun _ hu => nomatch hu) (fun x => .ret x) Q)
  rw [show h.seg.pre c = iprop(held (c.tc : Thread nD τ) (ucRefs τ sig) (W c) ∗ ∃ Wd, ⌜(K (F := F)).WBelow (T c) Wd (8 * n)⌝ ∗ owes (c : Thread nD τ) ((K (F := F)).Otc c n) Wd) from rfl,
    show h.seg.post c = iprop(held (c.tc : Thread nD τ) (ucRefs τ sig) (W' c) ∗ ∃ Wd, ⌜(K (F := F)).WBelow (T c) Wd (8 * n)⌝ ∗ owes (c : Thread nD τ) ((K (F := F)).Otc c n) Wd) from rfl]
  unfold SparseCore.Cfg.tcSt ghost
  iintro ⟨#Hctx, Hb, Hh, ⟨HO, Hst⟩, ⟨Hg, Ht⟩, Hk⟩
  isplitl [Hst Hk]
  · iintro ⟨Hb, Hh, HO⟩
    rw [wp_ret]; imodintro
    iapply Hk
    isplitl [Hb]; · iexact Hb
    isplitl [Hh]; · iexact Hh
    isplitl [HO]; · iexact HO
    iexact Hst
  isplitl [Hb]; · iexact Hb
  isplitl [Hh HO]
  · isplitl [Hh]; · iexact Hh
    iexact HO
  isplitr; · iapply (SparseCore.Cfg.ctx_levAts κ); iexact Hctx
  isplitl [Hg]; · iexact Hg
  iexact Ht

end Cert.Proof.Whole

end
-- ==== Proof.KReg0.lean ====
/-
  The router as a pipeline of one point: its body, its proof data and its final arrays.
-/
module

public import proofs.«01_k».proof.Proof.KRegion
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Proof.Whole.Reg0

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

/-- Window `w`'s block at point `t`, off its array's contents. -/
def iblk (W : Dev nD → Valuation τ sig (Elt F)) (c : Dev nD) (w : Fin cfg0.W) (t : Fin cfg0.N) : ((cfg0.win w).xblock (cfg0.grid.coords t)).Idx → Elt F (cfg0.win w).elt :=
  ((cfg0.win w).blk t).view.read (Elt F) (W c (Proc.devRef .tc (arrRef spec0 w)))

abbrev rx : Rect S2048x1024 := Rect.unit (s := S2048x1024) ![0, 0] S2048x1024.size inb_S2048x1024_S2048x1024_0_0
abbrev rc : Rect S2048x1 := Rect.unit (s := S2048x1) ![0, 0] S2048x1.size inb_S2048x1_S2048x1_0_0
abbrev rw : Rect S8x1024 := Rect.unit (s := S8x1024) ![0, 0] S8x1024.size inb_S8x1024_S8x1024_0_0
abbrev re : Rect S1x8 := Rect.unit (s := S1x8) ![0, 0] S1x8.size inb_S1x8_S1x8_0_0
abbrev rp0 : Rect S4096x1 := Rect.unit (s := S4096x1) ![0, 0] S2048x1.size inb_S4096x1_S2048x1_0_0
abbrev rp1 : Rect S4096x1 := Rect.unit (s := S4096x1) ![2048, 0] S2048x1.size inb_S4096x1_S2048x1_2048_0
abbrev rs : Rect S4096x1 := Rect.unit (s := S4096x1) ![0, 0] S4096x1.size inb_S4096x1_S4096x1_0_0
abbrev rm0 : Rect S31x1 := Rect.unit (s := S31x1) ![0, 0] S1x1.size inb_S31x1_S1x1_0_0
abbrev rm1 : Rect S31x1 := Rect.unit (s := S31x1) ![1, 0] S15x1.size inb_S31x1_S15x1_1_0
abbrev rm16 : Rect S31x1 := Rect.unit (s := S31x1) ![16, 0] S15x1.size inb_S31x1_S15x1_16_0
abbrev rb : Rect S1x1 := Rect.unit (s := S1x1) ![0, 0] S1x1.size inb_S1x1_S1x1_0_0

/-- The router's probabilities. -/
def pr (x0 : Vec F S2048x1024 .f32) (x1 : Vec F S2048x1 .f32) (x2 : Vec F S8x1024 .f32) (x3 : Vec F S1x8 .f32) (x4 : Vec F S1x8 .f32) : FVec F S2048x8 .f32 :=
  k0_pay4 (View.ld x0 rx) (View.ld x2 rw) (View.ld x1 rc) (View.ld x3 re) (View.ld x4 re)
/-- The largest probability of each token. -/
def m1 (x0 : Vec F S2048x1024 .f32) (x1 : Vec F S2048x1 .f32) (x2 : Vec F S8x1024 .f32) (x3 : Vec F S1x8 .f32) (x4 : Vec F S1x8 .f32) : FVec F S2048x1 .f32 :=
  k0_pay5 (View.ld x0 rx) (View.ld x2 rw) (View.ld x1 rc) (View.ld x3 re) (View.ld x4 re)
/-- The first expert of each token. -/
def i1 (x0 : Vec F S2048x1024 .f32) (x1 : Vec F S2048x1 .f32) (x2 : Vec F S8x1024 .f32) (x3 : Vec F S1x8 .f32) (x4 : Vec F S1x8 .f32) : IVec S2048 32 :=
  k0_pay6 (View.ld x0 rx) (View.ld x2 rw) (View.ld x1 rc) (View.ld x3 re) (View.ld x4 re)
/-- The experts' numbers along a row. -/
abbrev io : IVec S2048x8 32 := iota .tc S2048x8 32 [1] iota_S2048x8_d1_w32
abbrev ta : IVec S512x512 32 := iota .tc S512x512 32 [0] iota_S512x512_d0_w32
abbrev tb : IVec S512x512 32 := iota .tc S512x512 32 [1] iota_S512x512_d1_w32
abbrev ea : IVec S8x8 32 := iota .tc S8x8 32 [0] iota_S8x8_d0_w32
/-- The slot of each pair, off the one-hot rows of the pairs. -/
def slotsOf (oh : FVec F S4096x8 .f32) : IVec S4096x1 32 :=
  k0_pay32 oh (k0_pay17 oh ta tb) (k0_pay18 oh ta tb) (k0_pay19 oh ta tb) (k0_pay20 oh ta tb) (k0_pay22 oh ta tb)
    (k0_pay26 (k0_pay23 oh ta tb) ea)
    (k0_pay27 oh (k0_pay13 oh ta tb) (k0_pay22 oh ta tb) (k0_pay23 oh ta tb) ea)
    (k0_pay28 oh (k0_pay14 oh ta tb) (k0_pay22 oh ta tb) (k0_pay23 oh ta tb) ea)
    (k0_pay29 oh (k0_pay15 oh ta tb) (k0_pay22 oh ta tb) (k0_pay23 oh ta tb) ea)
    (k0_pay30 oh (k0_pay16 oh ta tb) (k0_pay22 oh ta tb) (k0_pay23 oh ta tb) ea)
    (k0_pay31 oh)
/-- The number of blocks used. -/
def usedOf (oh : FVec F S4096x8 .f32) : IVec S1x1 32 := k0_pay1 (k0_pay25 (k0_pay23 oh ta tb))
/-- The expert of each block. -/
def expertOf (oh : FVec F S4096x8 .f32) : IVec S15x1 32 :=
  k0_pay2 (k0_pay34 (k0_pay24 (k0_pay23 oh ta tb) ea) (k0_pay25 (k0_pay23 oh ta tb))) (Scalar.ofBits (F := F) .f32 0x3F800000#32) (Scalar.ofBits (F := F) .f32 0x00000000#32)
/-- The block that each step of the grouped feed-forward works on. -/
def blockOf (oh : FVec F S4096x8 .f32) : IVec S15x1 32 := k0_pay3 (k0_pay33 (F := F) (k0_pay25 (k0_pay23 oh ta tb)))
/-- The one-hot rows of the pairs: the first experts', then the second experts'. -/
def oh (x0 : Vec F S2048x1024 .f32) (x1 : Vec F S2048x1 .f32) (x2 : Vec F S8x1024 .f32) (x3 : Vec F S1x8 .f32) (x4 : Vec F S1x8 .f32) : FVec F S4096x8 .f32 :=
  k0_pay11 (pr x0 x1 x2 x3 x4) io (i1 x0 x1 x2 x3 x4)

/-- What the body leaves in output 0. -/
def out5 (x0 : Vec F S2048x1024 .f32) (x1 : Vec F S2048x1 .f32) (x2 : Vec F S8x1024 .f32) (x3 : Vec F S1x8 .f32) (x4 : Vec F S1x8 .f32) : Vec F S4096x1 .f32 := View.canon [⟨rp1, k0_pay9 (pr x0 x1 x2 x3 x4) io (i1 x0 x1 x2 x3 x4)⟩, ⟨rp0, m1 x0 x1 x2 x3 x4⟩]

/-- What the body leaves in output 1. -/
def out6 (x0 : Vec F S2048x1024 .f32) (x1 : Vec F S2048x1 .f32) (x2 : Vec F S8x1024 .f32) (x3 : Vec F S1x8 .f32) (x4 : Vec F S1x8 .f32) : Vec F S4096x1 .i32 := View.canon [⟨rs, slotsOf (oh x0 x1 x2 x3 x4)⟩]

/-- What the body leaves in output 2. -/
def out7 (x0 : Vec F S2048x1024 .f32) (x1 : Vec F S2048x1 .f32) (x2 : Vec F S8x1024 .f32) (x3 : Vec F S1x8 .f32) (x4 : Vec F S1x8 .f32) : Vec F S31x1 .i32 := View.canon [⟨rm16, blockOf (oh x0 x1 x2 x3 x4)⟩, ⟨rm1, expertOf (oh x0 x1 x2 x3 x4)⟩, ⟨rm0, usedOf (oh x0 x1 x2 x3 x4)⟩]

/-- What the body leaves in output 3. -/
def out8 (x0 : Vec F S2048x1024 .f32) (x1 : Vec F S2048x1 .f32) (x2 : Vec F S8x1024 .f32) (x3 : Vec F S1x8 .f32) (x4 : Vec F S1x8 .f32) : Vec F S1x1 .f32 := View.canon [⟨rb, k0_pay10 (pr x0 x1 x2 x3 x4)⟩]

theorem cover5 (p0 p1 : Vec F S2048x1 .f32) (y : S4096x1.Idx) :
    ∃ pc ∈ ([⟨rp1, p1⟩, ⟨rp0, p0⟩] : List (View.Piece (Elt F) S4096x1 .f32)), y ∈ pc.1.set :=
  View.cover_of_tiledL [⟨rp1, p1⟩, ⟨rp0, p0⟩] S2048x1.size (by sl_kernel_rfl) y
theorem cover6 (p0 : Vec F S4096x1 .i32) (y : S4096x1.Idx) :
    ∃ pc ∈ ([⟨rs, p0⟩] : List (View.Piece (Elt F) S4096x1 .i32)), y ∈ pc.1.set :=
  View.cover_of_tiledL [⟨rs, p0⟩] S4096x1.size (by sl_kernel_rfl) y
theorem cover7 (p0 : Vec F S1x1 .i32) (p1 p2 : Vec F S15x1 .i32) (y : S31x1.Idx) :
    ∃ pc ∈ ([⟨rm16, p2⟩, ⟨rm1, p1⟩, ⟨rm0, p0⟩] : List (View.Piece (Elt F) S31x1 .i32)), y ∈ pc.1.set :=
  View.cover_of_tiledBy [⟨rm16, p2⟩, ⟨rm1, p1⟩, ⟨rm0, p0⟩] ![1, 1] (by sl_kernel_rfl) y
theorem cover8 (p0 : Vec F S1x1 .f32) (y : S1x1.Idx) :
    ∃ pc ∈ ([⟨rb, p0⟩] : List (View.Piece (Elt F) S1x1 .f32)), y ∈ pc.1.set :=
  View.cover_of_tiledL [⟨rb, p0⟩] S1x1.size (by sl_kernel_rfl) y

set_option maxHeartbeats 2000000 in
/-- The body on whole staging buffers: the inputs stay, each output ends at its value. -/
theorem sound_kernel (c : Dev nD) (E : Set ℕ) (arg0 : Memref sig .tc .vmem S2048x1024 .f32) (harg0 : arg0.IsWhole) (arg1 : Memref sig .tc .vmem S2048x1 .f32) (harg1 : arg1.IsWhole) (arg2 : Memref sig .tc .vmem S8x1024 .f32) (harg2 : arg2.IsWhole) (arg3 : Memref sig .tc .vmem S1x8 .f32) (harg3 : arg3.IsWhole) (arg4 : Memref sig .tc .vmem S1x8 .f32) (harg4 : arg4.IsWhole) (arg5 : Memref sig .tc .vmem S4096x1 .f32) (harg5 : arg5.IsWhole) (arg6 : Memref sig .tc .vmem S4096x1 .i32) (harg6 : arg6.IsWhole) (arg7 : Memref sig .tc .vmem S31x1 .i32) (harg7 : arg7.IsWhole) (arg8 : Memref sig .tc .vmem S1x1 .f32) (harg8 : arg8.IsWhole)
    (x0 : Vec F S2048x1024 .f32) (x1 : Vec F S2048x1 .f32) (x2 : Vec F S8x1024 .f32) (x3 : Vec F S1x8 .f32) (x4 : Vec F S1x8 .f32) (Q : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out5 x0 x1 x2 x3 x4) ∗ owns (c : Thread nD τ) arg6 fullShare (out6 x0 x1 x2 x3 x4) ∗ owns (c : Thread nD τ) arg7 fullShare (out7 x0 x1 x2 x3 x4) ∗ owns (c : Thread nD τ) arg8 fullShare (out8 x0 x1 x2 x3 x4)) -∗ Q ⟨⟩))
      ⊢ wp frame (wpE (defs₀ (F := F)) 𝒱₀ c none) E (cc0__router_kernel arg0 harg0 arg1 harg1 arg2 harg2 arg3 harg3 arg4 harg4 arg5 harg5 arg6 harg6 arg7 harg7 arg8 harg8) Q := by
  simp only [cc0__router_kernel_eq_skeleton]; unfold cc0__router_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; exact View.read_writes_eq_canon _ _ _ (cover5 _ _)
  isplitl [H6]
  · iexists _; isplitr
    swap; · iexact H6
    ipureintro; exact View.read_writes_eq_canon _ _ _ (cover6 _)
  isplitl [H7]
  · iexists _; isplitr
    swap; · iexact H7
    ipureintro; exact View.read_writes_eq_canon _ _ _ (cover7 _ _ _)
  iexists _; isplitr
  swap; · iexact H8
  ipureintro; exact View.read_writes_eq_canon _ _ _ (cover8 _)

/-- The pipeline's proof data, with `n` of the SparseCore calls run. -/
def dat (W : Dev nD → Valuation τ sig (Elt F)) (n : ℕ) (a : (cfg0.toPCfg (Val := Elt F)).Adm) (c : Dev nD) : Dat τ (Elt F) (HIx 2) ℕ UU ℕ cfg0 c where
  A w := W c (Proc.devRef .tc (arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => out5 (iblk W c 0 t) (iblk W c 1 t) (iblk W c 2 t) (iblk W c 3 t) (iblk W c 4 t)
    | ⟨6, _⟩ => out6 (iblk W c 0 t) (iblk W c 1 t) (iblk W c 2 t) (iblk W c 3 t) (iblk W c 4 t)
    | ⟨7, _⟩ => out7 (iblk W c 0 t) (iblk W c 1 t) (iblk W c 2 t) (iblk W c 3 t) (iblk W c 4 t)
    | ⟨8, _⟩ => out8 (iblk W c 0 t) (iblk W c 1 t) (iblk W c 2 t) (iblk W c 3 t) (iblk W c 4 t)
  Φ _ := iprop(Pipeline.scopedRest cfg0.spec c ∗ Pipeline.prefHeld (cfg0.toPCfg (Val := Elt F)).pre c (fun _ => fullShare) a.1)
  q w := Pipeline.shareOf cfg0.spec w
  owed _ := (K (F := F)).Otc c n
  recorded _ := seen (F := F) c n

variable (W : Dev nD → Valuation τ sig (Elt F)) (n : ℕ) (a : (cfg0.toPCfg (Val := Elt F)).Adm)

theorem A_eq (c : Dev nD) (w : Fin cfg0.W) : (dat W n a c).A w = W c (Proc.devRef .tc (arrRef spec0 w)) := by
  dsimp only [dat]

theorem after_0 (c : Dev nD) (t : Fin cfg0.N) : (dat W n a c).after 0 t = iblk W c 0 t := by dsimp only [dat]
theorem after_1 (c : Dev nD) (t : Fin cfg0.N) : (dat W n a c).after 1 t = iblk W c 1 t := by dsimp only [dat]
theorem after_2 (c : Dev nD) (t : Fin cfg0.N) : (dat W n a c).after 2 t = iblk W c 2 t := by dsimp only [dat]
theorem after_3 (c : Dev nD) (t : Fin cfg0.N) : (dat W n a c).after 3 t = iblk W c 3 t := by dsimp only [dat]
theorem after_4 (c : Dev nD) (t : Fin cfg0.N) : (dat W n a c).after 4 t = iblk W c 4 t := by dsimp only [dat]
theorem after_5 (c : Dev nD) (t : Fin cfg0.N) : (dat W n a c).after 5 t = out5 (iblk W c 0 t) (iblk W c 1 t) (iblk W c 2 t) (iblk W c 3 t) (iblk W c 4 t) := by dsimp only [dat]
theorem after_6 (c : Dev nD) (t : Fin cfg0.N) : (dat W n a c).after 6 t = out6 (iblk W c 0 t) (iblk W c 1 t) (iblk W c 2 t) (iblk W c 3 t) (iblk W c 4 t) := by dsimp only [dat]
theorem after_7 (c : Dev nD) (t : Fin cfg0.N) : (dat W n a c).after 7 t = out7 (iblk W c 0 t) (iblk W c 1 t) (iblk W c 2 t) (iblk W c 3 t) (iblk W c 4 t) := by dsimp only [dat]
theorem after_8 (c : Dev nD) (t : Fin cfg0.N) : (dat W n a c).after 8 t = out8 (iblk W c 0 t) (iblk W c 1 t) (iblk W c 2 t) (iblk W c 3 t) (iblk W c 4 t) := by dsimp only [dat]

theorem before_0 (c : Dev nD) (t : Fin cfg0.N) (d) : (dat W n a c).before 0 t d = iblk W c 0 t :=
  ((dat W n a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W n a c).before 1 t d = iblk W c 1 t :=
  ((dat W n a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W n a c).before 2 t d = iblk W c 2 t :=
  ((dat W n a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat W n a c).before 3 t d = iblk W c 3 t :=
  ((dat W n a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat W n a c).before 4 t d = iblk W c 4 t :=
  ((dat W n a c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at a point. -/
def bodyPre (c : Dev nD) (t : Fin cfg0.N) : sProp 𝕄 :=
  iprop((dat W n a c).Φ t.castSucc ∗ (dat W n a c).owesAt none t.castSucc
    ∗ (∃ d, owns (c : Thread nD τ) (st0_0 t) fullShare ((dat W n a c).before 0 t d))
    ∗ (∃ d, owns (c : Thread nD τ) (st0_1 t) fullShare ((dat W n a c).before 1 t d))
    ∗ (∃ d, owns (c : Thread nD τ) (st0_2 t) fullShare ((dat W n a c).before 2 t d))
    ∗ (∃ d, owns (c : Thread nD τ) (st0_3 t) fullShare ((dat W n a c).before 3 t d))
    ∗ (∃ d, owns (c : Thread nD τ) (st0_4 t) fullShare ((dat W n a c).before 4 t d))
    ∗ (∃ d, owns (c : Thread nD τ) (st0_5 t) fullShare ((dat W n a c).before 5 t d))
    ∗ (∃ d, owns (c : Thread nD τ) (st0_6 t) fullShare ((dat W n a c).before 6 t d))
    ∗ (∃ d, owns (c : Thread nD τ) (st0_7 t) fullShare ((dat W n a c).before 7 t d))
    ∗ (∃ d, owns (c : Thread nD τ) (st0_8 t) fullShare ((dat W n a c).before 8 t d)))

/-- What it returns. -/
def bodyPost (c : Dev nD) (t : Fin cfg0.N) : sProp 𝕄 :=
  iprop((dat W n a c).Φ t.succ ∗ (dat W n a c).owesAt none t.succ
    ∗ owns (c : Thread nD τ) (st0_0 t) fullShare ((dat W n a c).after 0 t)
    ∗ owns (c : Thread nD τ) (st0_1 t) fullShare ((dat W n a c).after 1 t)
    ∗ owns (c : Thread nD τ) (st0_2 t) fullShare ((dat W n a c).after 2 t)
    ∗ owns (c : Thread nD τ) (st0_3 t) fullShare ((dat W n a c).after 3 t)
    ∗ owns (c : Thread nD τ) (st0_4 t) fullShare ((dat W n a c).after 4 t)
    ∗ owns (c : Thread nD τ) (st0_5 t) fullShare ((dat W n a c).after 5 t)
    ∗ owns (c : Thread nD τ) (st0_6 t) fullShare ((dat W n a c).after 6 t)
    ∗ owns (c : Thread nD τ) (st0_7 t) fullShare ((dat W n a c).after 7 t)
    ∗ owns (c : Thread nD τ) (st0_8 t) fullShare ((dat W n a c).after 8 t))

set_option maxHeartbeats 800000 in
/-- The body at any point. -/
theorem sound_body (c : Dev nD) (t : Fin cfg0.N) :
    bodyPre W n a c t ⊢ wp frame (wpE (defs₀ (F := F)) 𝒱₀ c none) Set.univ (bodyAt0 t) (fun _ => bodyPost W n a c t) := by
  unfold bodyPre bodyPost bodyAt0
  simp only [before_0, before_1, before_2, before_3, before_4]
  rw [show (dat W n a c).Φ t.succ = (dat W n a c).Φ t.castSucc from rfl,
    show (dat W n a c).owesAt none t.succ = (dat W n a c).owesAt none t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ (iblk W c 0 t) (iblk W c 1 t) (iblk W c 2 t) (iblk W c 3 t) (iblk W c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body. -/
theorem row (t : Fin cfg0.N) : defs₀ (F := F) .tc cfg0.body (cfg0.bodyArgs t (cfg0.slots t)) = bodyAt0 t := rfl

/-- The body's obligation at every point. -/
theorem body_obligation (c : Dev nD) : BodyObligation (dat W n a c) (defs₀ (F := F)) 𝒱₀ none Set.univ := fun t => by
  rw [bigSep_W0, bigSep_W0, row]
  exact triple_restated (sound_body W n a c t) rfl .rfl fun _ => .rfl

theorem flushed_5 (c : Dev nD) (t : Fin cfg0.N) :
    (dat W n a c).flushed 5 t = (cfg0.win 5).cut (grid0.coords t) (out5 (iblk W c 0 t) (iblk W c 1 t) (iblk W c 2 t) (iblk W c 3 t) (iblk W c 4 t)) := by
  show (cfg0.win 5).cut (grid0.coords t) ((dat W n a c).after 5 t) = _
  rw [after_5]

theorem idx_inj_5 : ∀ t t' : Fin cfg0.N, win0_5.index t = win0_5.index t' → t = t' :=
  (by decide +kernel : ∀ t t' : Fin grid0.N, win0_5.index t = win0_5.index t' → t = t')

theorem disjoint_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj_5 t t' h)

/-- Block `t` of the final array is what the body left at point `t`. -/
theorem blocks_5 (c : Dev nD) (t : Fin cfg0.N) :
    ((cfg0.win 5).blk t).view.read (Elt F) ((dat W n a c).arrAt 5 cfg0.N) = (cfg0.win 5).cut (grid0.coords t) (out5 (iblk W c 0 t) (iblk W c 1 t) (iblk W c 2 t) (iblk W c 3 t) (iblk W c 4 t)) :=
  ((dat W n a c).read_blk_arrAt_eq_flushed 5 disjoint_5 cfg0.N t t.isLt (flush0_5 t)).trans (flushed_5 W n a c t)

theorem flushed_6 (c : Dev nD) (t : Fin cfg0.N) :
    (dat W n a c).flushed 6 t = (cfg0.win 6).cut (grid0.coords t) (out6 (iblk W c 0 t) (iblk W c 1 t) (iblk W c 2 t) (iblk W c 3 t) (iblk W c 4 t)) := by
  show (cfg0.win 6).cut (grid0.coords t) ((dat W n a c).after 6 t) = _
  rw [after_6]

theorem idx_inj_6 : ∀ t t' : Fin cfg0.N, win0_6.index t = win0_6.index t' → t = t' :=
  (by decide +kernel : ∀ t t' : Fin grid0.N, win0_6.index t = win0_6.index t' → t = t')

theorem disjoint_6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj_6 t t' h)

/-- Block `t` of the final array is what the body left at point `t`. -/
theorem blocks_6 (c : Dev nD) (t : Fin cfg0.N) :
    ((cfg0.win 6).blk t).view.read (Elt F) ((dat W n a c).arrAt 6 cfg0.N) = (cfg0.win 6).cut (grid0.coords t) (out6 (iblk W c 0 t) (iblk W c 1 t) (iblk W c 2 t) (iblk W c 3 t) (iblk W c 4 t)) :=
  ((dat W n a c).read_blk_arrAt_eq_flushed 6 disjoint_6 cfg0.N t t.isLt (flush0_6 t)).trans (flushed_6 W n a c t)

theorem flushed_7 (c : Dev nD) (t : Fin cfg0.N) :
    (dat W n a c).flushed 7 t = (cfg0.win 7).cut (grid0.coords t) (out7 (iblk W c 0 t) (iblk W c 1 t) (iblk W c 2 t) (iblk W c 3 t) (iblk W c 4 t)) := by
  show (cfg0.win 7).cut (grid0.coords t) ((dat W n a c).after 7 t) = _
  rw [after_7]

theorem idx_inj_7 : ∀ t t' : Fin cfg0.N, win0_7.index t = win0_7.index t' → t = t' :=
  (by decide +kernel : ∀ t t' : Fin grid0.N, win0_7.index t = win0_7.index t' → t = t')

theorem disjoint_7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj_7 t t' h)

/-- Block `t` of the final array is what the body left at point `t`. -/
theorem blocks_7 (c : Dev nD) (t : Fin cfg0.N) :
    ((cfg0.win 7).blk t).view.read (Elt F) ((dat W n a c).arrAt 7 cfg0.N) = (cfg0.win 7).cut (grid0.coords t) (out7 (iblk W c 0 t) (iblk W c 1 t) (iblk W c 2 t) (iblk W c 3 t) (iblk W c 4 t)) :=
  ((dat W n a c).read_blk_arrAt_eq_flushed 7 disjoint_7 cfg0.N t t.isLt (flush0_7 t)).trans (flushed_7 W n a c t)

theorem flushed_8 (c : Dev nD) (t : Fin cfg0.N) :
    (dat W n a c).flushed 8 t = (cfg0.win 8).cut (grid0.coords t) (out8 (iblk W c 0 t) (iblk W c 1 t) (iblk W c 2 t) (iblk W c 3 t) (iblk W c 4 t)) := by
  show (cfg0.win 8).cut (grid0.coords t) ((dat W n a c).after 8 t) = _
  rw [after_8]

theorem idx_inj_8 : ∀ t t' : Fin cfg0.N, win0_8.index t = win0_8.index t' → t = t' :=
  (by decide +kernel : ∀ t t' : Fin grid0.N, win0_8.index t = win0_8.index t' → t = t')

theorem disjoint_8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj_8 t t' h)

/-- Block `t` of the final array is what the body left at point `t`. -/
theorem blocks_8 (c : Dev nD) (t : Fin cfg0.N) :
    ((cfg0.win 8).blk t).view.read (Elt F) ((dat W n a c).arrAt 8 cfg0.N) = (cfg0.win 8).cut (grid0.coords t) (out8 (iblk W c 0 t) (iblk W c 1 t) (iblk W c 2 t) (iblk W c 3 t) (iblk W c 4 t)) :=
  ((dat W n a c).read_blk_arrAt_eq_flushed 8 disjoint_8 cfg0.N t t.isLt (flush0_8 t)).trans (flushed_8 W n a c t)

end Cert.Proof.Whole.Reg0

end
-- ==== Proof.KReg2.lean ====
/-
  The shared expert's feed-forward as a pipeline: its body, its proof data and its final array block by block.
-/
module

public import proofs.«01_k».proof.Proof.KRegion
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Proof.Whole.Reg2

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

/-- Window `w`'s block at point `t`, off its array's contents. -/
def iblk (W : Dev nD → Valuation τ sig (Elt F)) (c : Dev nD) (w : Fin cfg2.W) (t : Fin cfg2.N) : ((cfg2.win w).xblock (cfg2.grid.coords t)).Idx → Elt F (cfg2.win w).elt :=
  ((cfg2.win w).blk t).view.read (Elt F) (W c (Proc.devRef .tc (arrRef spec2 w)))

abbrev r2 : Rect S1024x1024 := Rect.unit (s := S1024x1024) ![0, 0] S1024x1024.size inb_S1024x1024_S1024x1024_0_0
abbrev r3 : Rect S1x1024x1024 := Rect.unit (s := S1x1024x1024) ![0, 0, 0] S1x1024x1024.size inb_S1x1024x1024_S1x1024x1024_0_0_0

/-- What the body leaves in output 0. -/
def out4 (x0 : Vec F S1024x1024 .f32) (x1 : Vec F S1x1024x1024 .f32) (x2 : Vec F S1x1024x1024 .f32) (x3 : Vec F S1x1024x1024 .f32) : Vec F S1024x1024 .f32 := View.canon [⟨r2, k2_pay1 (View.ld x0 r2) (View.ld x1 r3) (View.ld x2 r3) (View.ld x3 r3)⟩]

/-- The one store covers the output's buffer. -/
theorem cover (p0 : Vec F S1024x1024 .f32) (y : S1024x1024.Idx) :
    ∃ pc ∈ ([⟨r2, p0⟩] : List (View.Piece (Elt F) S1024x1024 .f32)), y ∈ pc.1.set :=
  View.cover_of_tiled [⟨r2, p0⟩] S1024x1024.size (by rfl) y

set_option maxHeartbeats 2000000 in
/-- The body on whole staging buffers: the inputs stay, each output ends at its value. -/
theorem sound_kernel (c : Dev nD) (E : Set ℕ) (i : grid2.Coords) (arg0 : Memref sig .tc .vmem S1024x1024 .f32) (harg0 : arg0.IsWhole) (arg1 : Memref sig .tc .vmem S1x1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1024 .f32) (harg4 : arg4.IsWhole)
    (x0 : Vec F S1024x1024 .f32) (x1 : Vec F S1x1024x1024 .f32) (x2 : Vec F S1x1024x1024 .f32) (x3 : Vec F S1x1024x1024 .f32) (Q : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4 x0 x1 x2 x3)) -∗ Q ⟨⟩))
      ⊢ wp frame (wpE (defs₀ (F := F)) 𝒱₀ c none) E (cc2__shared_kernel i arg0 harg0 arg1 harg1 arg2 harg2 arg3 harg3 arg4 harg4) Q := by
  simp only [cc2__shared_kernel_eq_skeleton]; unfold cc2__shared_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro; exact View.read_writes_eq_canon _ _ _ (cover _)

/-- The pipeline's proof data, with `n` of the SparseCore calls run. -/
def dat (W : Dev nD → Valuation τ sig (Elt F)) (n : ℕ) (a : (cfg2.toPCfg (Val := Elt F)).Adm) (c : Dev nD) : Dat τ (Elt F) (HIx 2) ℕ UU ℕ cfg2 c where
  A w := W c (Proc.devRef .tc (arrRef spec2 w))
  after w t := match w with
    | ⟨0, _⟩ => iblk W c 0 t
    | ⟨1, _⟩ => iblk W c 1 t
    | ⟨2, _⟩ => iblk W c 2 t
    | ⟨3, _⟩ => iblk W c 3 t
    | ⟨4, _⟩ => out4 (iblk W c 0 t) (iblk W c 1 t) (iblk W c 2 t) (iblk W c 3 t)
  Φ _ := iprop(Pipeline.scopedRest cfg2.spec c ∗ Pipeline.prefHeld (cfg2.toPCfg (Val := Elt F)).pre c (fun _ => fullShare) a.1)
  q w := Pipeline.shareOf cfg2.spec w
  owed _ := (K (F := F)).Otc c n
  recorded _ := seen (F := F) c n

variable (W : Dev nD → Valuation τ sig (Elt F)) (n : ℕ) (a : (cfg2.toPCfg (Val := Elt F)).Adm)

theorem A_eq (c : Dev nD) (w : Fin cfg2.W) : (dat W n a c).A w = W c (Proc.devRef .tc (arrRef spec2 w)) := by
  dsimp only [dat]

theorem after_0 (c : Dev nD) (t : Fin cfg2.N) : (dat W n a c).after 0 t = iblk W c 0 t := by dsimp only [dat]
theorem after_1 (c : Dev nD) (t : Fin cfg2.N) : (dat W n a c).after 1 t = iblk W c 1 t := by dsimp only [dat]
theorem after_2 (c : Dev nD) (t : Fin cfg2.N) : (dat W n a c).after 2 t = iblk W c 2 t := by dsimp only [dat]
theorem after_3 (c : Dev nD) (t : Fin cfg2.N) : (dat W n a c).after 3 t = iblk W c 3 t := by dsimp only [dat]
theorem after_4 (c : Dev nD) (t : Fin cfg2.N) : (dat W n a c).after 4 t = out4 (iblk W c 0 t) (iblk W c 1 t) (iblk W c 2 t) (iblk W c 3 t) := by dsimp only [dat]

theorem before_0 (c : Dev nD) (t : Fin cfg2.N) (d) : (dat W n a c).before 0 t d = iblk W c 0 t :=
  ((dat W n a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat W n a c).before 1 t d = iblk W c 1 t :=
  ((dat W n a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat W n a c).before 2 t d = iblk W c 2 t :=
  ((dat W n a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat W n a c).before 3 t d = iblk W c 3 t :=
  ((dat W n a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at a point. -/
def bodyPre (c : Dev nD) (t : Fin cfg2.N) : sProp 𝕄 :=
  iprop((dat W n a c).Φ t.castSucc ∗ (dat W n a c).owesAt none t.castSucc
    ∗ (∃ d, owns (c : Thread nD τ) (st2_0 t) fullShare ((dat W n a c).before 0 t d))
    ∗ (∃ d, owns (c : Thread nD τ) (st2_1 t) fullShare ((dat W n a c).before 1 t d))
    ∗ (∃ d, owns (c : Thread nD τ) (st2_2 t) fullShare ((dat W n a c).before 2 t d))
    ∗ (∃ d, owns (c : Thread nD τ) (st2_3 t) fullShare ((dat W n a c).before 3 t d))
    ∗ (∃ d, owns (c : Thread nD τ) (st2_4 t) fullShare ((dat W n a c).before 4 t d)))

/-- What it returns. -/
def bodyPost (c : Dev nD) (t : Fin cfg2.N) : sProp 𝕄 :=
  iprop((dat W n a c).Φ t.succ ∗ (dat W n a c).owesAt none t.succ
    ∗ owns (c : Thread nD τ) (st2_0 t) fullShare ((dat W n a c).after 0 t)
    ∗ owns (c : Thread nD τ) (st2_1 t) fullShare ((dat W n a c).after 1 t)
    ∗ owns (c : Thread nD τ) (st2_2 t) fullShare ((dat W n a c).after 2 t)
    ∗ owns (c : Thread nD τ) (st2_3 t) fullShare ((dat W n a c).after 3 t)
    ∗ owns (c : Thread nD τ) (st2_4 t) fullShare ((dat W n a c).after 4 t))

set_option maxHeartbeats 800000 in
/-- The body at any point. -/
theorem sound_body (c : Dev nD) (t : Fin cfg2.N) :
    bodyPre W n a c t ⊢ wp frame (wpE (defs₀ (F := F)) 𝒱₀ c none) Set.univ (bodyAt2 t) (fun _ => bodyPost W n a c t) := by
  unfold bodyPre bodyPost bodyAt2
  simp only [before_0, before_1, before_2, before_3]
  rw [show (dat W n a c).Φ t.succ = (dat W n a c).Φ t.castSucc from rfl,
    show (dat W n a c).owesAt none t.succ = (dat W n a c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk W c 0 t) (iblk W c 1 t) (iblk W c 2 t) (iblk W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at a point's slots is the body. -/
theorem row (t : Fin cfg2.N) : defs₀ (F := F) .tc cfg2.body (cfg2.bodyArgs t (cfg2.slots t)) = bodyAt2 t := rfl

/-- The body's obligation at every point. -/
theorem body_obligation (c : Dev nD) : BodyObligation (dat W n a c) (defs₀ (F := F)) 𝒱₀ none Set.univ := fun t => by
  rw [bigSep_W2, bigSep_W2, row]
  exact triple_restated (sound_body W n a c t) rfl .rfl fun _ => .rfl

theorem flushed_4 (c : Dev nD) (t : Fin cfg2.N) :
    (dat W n a c).flushed 4 t = (cfg2.win 4).cut (grid2.coords t) (out4 (iblk W c 0 t) (iblk W c 1 t) (iblk W c 2 t) (iblk W c 3 t)) := by
  show (cfg2.win 4).cut (grid2.coords t) ((dat W n a c).after 4 t) = _
  rw [after_4]

theorem idx_inj_4 : ∀ t t' : Fin cfg2.N, win2_4.index t = win2_4.index t' → t = t' :=
  (by decide +kernel : ∀ t t' : Fin grid2.N, win2_4.index t = win2_4.index t' → t = t')

theorem disjoint_4 : ∀ t t' : Fin cfg2.N, (cfg2.win 4).flush t = true → (cfg2.win 4).flush t' = true → t ≠ t' →
    Disjoint ((cfg2.win 4).blk t).view.set ((cfg2.win 4).blk t').view.set :=
  fun t t' _ _ hne => (cfg2.win 4).disjoint_blk fun h => hne (idx_inj_4 t t' h)

/-- Block `t` of the final array is what the body left at point `t`. -/
theorem blocks_4 (c : Dev nD) (t : Fin cfg2.N) :
    ((cfg2.win 4).blk t).view.read (Elt F) ((dat W n a c).arrAt 4 cfg2.N) = (cfg2.win 4).cut (grid2.coords t) (out4 (iblk W c 0 t) (iblk W c 1 t) (iblk W c 2 t) (iblk W c 3 t)) :=
  ((dat W n a c).read_blk_arrAt_eq_flushed 4 disjoint_4 cfg2.N t t.isLt (flush2_4 t)).trans (flushed_4 W n a c t)

end Cert.Proof.Whole.Reg2

end
-- ==== Proof.KReg3.lean ====
/-
  The grouped feed-forward as a pipeline: each step's input block and expert are read from a table, and the steps past
  the table's count leave the output as it is. Its body, its proof data and its final array block by block.
-/
module

public import proofs.«01_k».proof.Proof.KRegion
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Whole.Reg3

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

abbrev Adm3 := (pcfg3 (F := F)).Adm

/-- The table's first word: the number of steps that compute. -/
def usedW (f : S31.Idx → Elt F .i32) : BitVec 32 := f (fun a => ⟨![0] a, by fin_cases a; decide⟩)

/-- Window `w`'s block at point `t`, off its array's contents. -/
def iblk (W : Dev nD → Valuation τ sig (Elt F)) (a : Adm3 (F := F)) (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (W c (Proc.devRef .tc (arrRef spec3 w)))

abbrev r2 : Rect S512x1024 := Rect.unit (s := S512x1024) ![0, 0] S512x1024.size inb_S512x1024_S512x1024_0_0
abbrev r3 : Rect S1x1024x1024 := Rect.unit (s := S1x1024x1024) ![0, 0, 0] S1x1024x1024.size inb_S1x1024x1024_S1x1024x1024_0_0_0

/-- What the body leaves in the output. -/
def out4 (x0 : Vec F S512x1024 .f32) (x1 x2 x3 : Vec F S1x1024x1024 .f32) : Vec F S512x1024 .f32 := View.canon [⟨r2, k3_pay1 (View.ld x0 r2) (View.ld x1 r3) (View.ld x2 r3) (View.ld x3 r3)⟩]

theorem cover (p0 : Vec F S512x1024 .f32) (y : S512x1024.Idx) :
    ∃ pc ∈ ([⟨r2, p0⟩] : List (View.Piece (Elt F) S512x1024 .f32)), y ∈ pc.1.set :=
  View.cover_of_tiled [⟨r2, p0⟩] S512x1024.size (by rfl) y

set_option maxHeartbeats 2000000 in
/-- A step that computes: the table and the inputs stay, the output ends at its value. -/
theorem sound_live (c : Dev nD) (E : Set ℕ) (i : grid3.Coords) (h1 : (Memref.whole (κ := .tc) main_v13).IsWhole) (arg2 : Memref sig .tc .vmem S512x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S512x1024 .f32) (harg6 : arg6.IsWhole)
    (tb : S31.Idx → Elt F .i32) (hl : k3_cond1 i (usedW tb) = 1#1)
    (x0 : Vec F S512x1024 .f32) (x1 x2 x3 : Vec F S1x1024x1024 .f32) (Q : PUnit → sProp 𝕄) :
    iprop((((Memref.whole main_v13).view.loc (c.tc : Thread nD τ)) ↦{fullShare} tb) ∗ owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop((((Memref.whole main_v13).view.loc (c.tc : Thread nD τ)) ↦{fullShare} tb) ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out4 x0 x1 x2 x3)) -∗ Q ⟨⟩))
      ⊢ wp frame (wpE (defs₀ (F := F)) 𝒱₀ c none) E (cc3__grouped_ffn_kernel i (Memref.whole main_v13) h1 arg2 harg2 arg3 harg3 arg4 harg4 arg5 harg5 arg6 harg6) Q := by
  simp only [cc3__grouped_ffn_kernel_eq_skeleton]; unfold cc3__grouped_ffn_kernel_skel
  unfold owns
  iintro ⟨HT, ⟨%f0, %hf0, H0⟩, ⟨%f1, %hf1, H1⟩, ⟨%f2, %hf2, H2⟩, ⟨%f3, %hf3, H3⟩, ⟨%d4, %f4, -, H4⟩, Hk⟩
  subst hf0 hf1 hf2 hf3
  unfold smemLoad
  rw [smemLoadElt_bind]
  iapply (wp_smemLoadElt_named (defs := defs₀ (F := F)) 𝒱₀ (c : Thread nD τ) none E (m := (Memref.whole main_v13 : Memref sig (c.tc : Thread nD τ).2.kind .smem S31 .i32)) (r := Rect.unit (s := S31) ![0] S1.size inb_S31_S1_0) (S := Finset.univ) (q := fullShare) (f := tb)) $$ HT
  iintro HT %w %hw
  rw [Prog.bind_ret]
  rw [dif_pos (show k3_cond1 i w = 1#1 by rw [hw]; exact hl)]
  sl_exec
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro; exact View.read_writes_eq_canon _ _ _ (cover _)

set_option maxHeartbeats 2000000 in
/-- A step past the count: only the table is read. -/
theorem sound_idle (c : Dev nD) (E : Set ℕ) (i : grid3.Coords) (h1 : (Memref.whole (κ := .tc) main_v13).IsWhole) (arg2 : Memref sig .tc .vmem S512x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S512x1024 .f32) (harg6 : arg6.IsWhole)
    (tb : S31.Idx → Elt F .i32) (hl : ¬ k3_cond1 i (usedW tb) = 1#1) (Q : PUnit → sProp 𝕄) :
    iprop((((Memref.whole main_v13).view.loc (c.tc : Thread nD τ)) ↦{fullShare} tb) ∗ (iprop(((Memref.whole main_v13).view.loc (c.tc : Thread nD τ)) ↦{fullShare} tb) -∗ Q ⟨⟩))
      ⊢ wp frame (wpE (defs₀ (F := F)) 𝒱₀ c none) E (cc3__grouped_ffn_kernel i (Memref.whole main_v13) h1 arg2 harg2 arg3 harg3 arg4 harg4 arg5 harg5 arg6 harg6) Q := by
  simp only [cc3__grouped_ffn_kernel_eq_skeleton]; unfold cc3__grouped_ffn_kernel_skel
  iintro ⟨HT, Hk⟩
  unfold smemLoad
  rw [smemLoadElt_bind]
  iapply (wp_smemLoadElt_named (defs := defs₀ (F := F)) 𝒱₀ (c : Thread nD τ) none E (m := (Memref.whole main_v13 : Memref sig (c.tc : Thread nD τ).2.kind .smem S31 .i32)) (r := Rect.unit (s := S31) ![0] S1.size inb_S31_S1_0) (S := Finset.univ) (q := fullShare) (f := tb)) $$ HT
  iintro HT %w %hw
  rw [Prog.bind_ret]
  rw [dif_neg (show ¬ k3_cond1 i w = 1#1 by rw [hw]; exact hl)]
  sl_step
  iapply Hk
  iexact HT

/-- The pipeline's proof data, with `n` of the SparseCore calls run. -/
def dat (W : Dev nD → Valuation τ sig (Elt F)) (n : ℕ) (a : Adm3 (F := F)) (c : Dev nD) : Dat τ (Elt F) (HIx 2) ℕ UU ℕ (cfg3 a) c where
  A w := W c (Proc.devRef .tc (arrRef spec3 w))
  after w t := match w with
    | ⟨0, _⟩ => iblk W a c 0 t
    | ⟨1, _⟩ => iblk W a c 1 t
    | ⟨2, _⟩ => iblk W a c 2 t
    | ⟨3, _⟩ => iblk W a c 3 t
    | ⟨4, _⟩ => out4 (iblk W a c 0 t) (iblk W a c 1 t) (iblk W a c 2 t) (iblk W a c 3 t)
  Φ _ := iprop(Pipeline.scopedRest (cfg3 a).spec c ∗ Pipeline.prefHeld (pcfg3 (F := F)).pre c (fun _ => fullShare) a.1)
  q w := Pipeline.shareOf (cfg3 a).spec w
  owed _ := (K (F := F)).Otc c n
  recorded _ := seen (F := F) c n

variable (W : Dev nD → Valuation τ sig (Elt F)) (n : ℕ) (a : Adm3 (F := F))

theorem A_eq (c : Dev nD) (w : Fin (cfg3 a).W) : (dat W n a c).A w = W c (Proc.devRef .tc (arrRef spec3 w)) := by
  dsimp only [dat]

theorem after_0 (c : Dev nD) (t : Fin (cfg3 a).N) : (dat W n a c).after 0 t = iblk W a c 0 t := by dsimp only [dat]; rfl
theorem after_1 (c : Dev nD) (t : Fin (cfg3 a).N) : (dat W n a c).after 1 t = iblk W a c 1 t := by dsimp only [dat]; rfl
theorem after_2 (c : Dev nD) (t : Fin (cfg3 a).N) : (dat W n a c).after 2 t = iblk W a c 2 t := by dsimp only [dat]; rfl
theorem after_3 (c : Dev nD) (t : Fin (cfg3 a).N) : (dat W n a c).after 3 t = iblk W a c 3 t := by dsimp only [dat]; rfl
theorem after_4 (c : Dev nD) (t : Fin (cfg3 a).N) : (dat W n a c).after 4 t = out4 (iblk W a c 0 t) (iblk W a c 1 t) (iblk W a c 2 t) (iblk W a c 3 t) := by dsimp only [dat]; rfl

theorem before_0 (c : Dev nD) (t : Fin (cfg3 a).N) (d) : (dat W n a c).before 0 t d = iblk W a c 0 t :=
  ((dat W n a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg3 a).N) (d) : (dat W n a c).before 1 t d = iblk W a c 1 t :=
  ((dat W n a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg3 a).N) (d) : (dat W n a c).before 2 t d = iblk W a c 2 t :=
  ((dat W n a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg3 a).N) (d) : (dat W n a c).before 3 t d = iblk W a c 3 t :=
  ((dat W n a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Window 0's block depends on its index map's value only. -/
theorem iblk_congr_0 (c : Dev nD) (t t' : Fin (cfg3 a).N) (h : ((cfg3 a).win 0).index t = ((cfg3 a).win 0).index t') :
    (iblk W a c 0 t : Vec F S512x1024 .f32) = iblk W a c 0 t' := by
  have key : ∀ (i i' : Fin (spec3_0).shape.rank → Nat) (hi : i = i') (hb : ∀ x, (i x + 1) * (spec3_0).size x ≤ (spec3_0).shape.size x) (hb' : ∀ x, (i' x + 1) * (spec3_0).size x ≤ (spec3_0).shape.size x),
      (fun y : S512x1024.Idx => (spec3_0).arr.view.read (Elt F) (W c (Proc.devRef .tc (arrRef spec3 0))) ((Rect.block (spec3_0).size i hb).emb y))
        = fun y => (spec3_0).arr.view.read (Elt F) (W c (Proc.devRef .tc (arrRef spec3 0))) ((Rect.block (spec3_0).size i' hb').emb y) := by
    rintro i _ rfl hb hb'; rfl
  exact key _ _ h (hinb3 a.1 a.2 0 _) (hinb3 a.1 a.2 0 _)
/-- Window 1's block depends on its index map's value only. -/
theorem iblk_congr_1 (c : Dev nD) (t t' : Fin (cfg3 a).N) (h : ((cfg3 a).win 1).index t = ((cfg3 a).win 1).index t') :
    (iblk W a c 1 t : Vec F S1x1024x1024 .f32) = iblk W a c 1 t' := by
  have key : ∀ (i i' : Fin (spec3_1).shape.rank → Nat) (hi : i = i') (hb : ∀ x, (i x + 1) * (spec3_1).size x ≤ (spec3_1).shape.size x) (hb' : ∀ x, (i' x + 1) * (spec3_1).size x ≤ (spec3_1).shape.size x),
      (fun y : S1x1024x1024.Idx => (spec3_1).arr.view.read (Elt F) (W c (Proc.devRef .tc (arrRef spec3 1))) ((Rect.block (spec3_1).size i hb).emb y))
        = fun y => (spec3_1).arr.view.read (Elt F) (W c (Proc.devRef .tc (arrRef spec3 1))) ((Rect.block (spec3_1).size i' hb').emb y) := by
    rintro i _ rfl hb hb'; rfl
  exact key _ _ h (hinb3 a.1 a.2 1 _) (hinb3 a.1 a.2 1 _)
/-- Window 2's block depends on its index map's value only. -/
theorem iblk_congr_2 (c : Dev nD) (t t' : Fin (cfg3 a).N) (h : ((cfg3 a).win 2).index t = ((cfg3 a).win 2).index t') :
    (iblk W a c 2 t : Vec F S1x1024x1024 .f32) = iblk W a c 2 t' := by
  have key : ∀ (i i' : Fin (spec3_2).shape.rank → Nat) (hi : i = i') (hb : ∀ x, (i x + 1) * (spec3_2).size x ≤ (spec3_2).shape.size x) (hb' : ∀ x, (i' x + 1) * (spec3_2).size x ≤ (spec3_2).shape.size x),
      (fun y : S1x1024x1024.Idx => (spec3_2).arr.view.read (Elt F) (W c (Proc.devRef .tc (arrRef spec3 2))) ((Rect.block (spec3_2).size i hb).emb y))
        = fun y => (spec3_2).arr.view.read (Elt F) (W c (Proc.devRef .tc (arrRef spec3 2))) ((Rect.block (spec3_2).size i' hb').emb y) := by
    rintro i _ rfl hb hb'; rfl
  exact key _ _ h (hinb3 a.1 a.2 2 _) (hinb3 a.1 a.2 2 _)
/-- Window 3's block depends on its index map's value only. -/
theorem iblk_congr_3 (c : Dev nD) (t t' : Fin (cfg3 a).N) (h : ((cfg3 a).win 3).index t = ((cfg3 a).win 3).index t') :
    (iblk W a c 3 t : Vec F S1x1024x1024 .f32) = iblk W a c 3 t' := by
  have key : ∀ (i i' : Fin (spec3_3).shape.rank → Nat) (hi : i = i') (hb : ∀ x, (i x + 1) * (spec3_3).size x ≤ (spec3_3).shape.size x) (hb' : ∀ x, (i' x + 1) * (spec3_3).size x ≤ (spec3_3).shape.size x),
      (fun y : S1x1024x1024.Idx => (spec3_3).arr.view.read (Elt F) (W c (Proc.devRef .tc (arrRef spec3 3))) ((Rect.block (spec3_3).size i hb).emb y))
        = fun y => (spec3_3).arr.view.read (Elt F) (W c (Proc.devRef .tc (arrRef spec3 3))) ((Rect.block (spec3_3).size i' hb').emb y) := by
    rintro i _ rfl hb hb'; rfl
  exact key _ _ h (hinb3 a.1 a.2 3 _) (hinb3 a.1 a.2 3 _)

/-- Past the count a step repeats the step before it, and the first step computes. -/
def Repeats : Prop := ∀ t : Fin (cfg3 a).N, (cfg3 a).idle 4 ((cfg3 a).grid.coords t) = true →
  ∃ h : t.val ≠ 0, ∀ w, ((cfg3 a).win w).index t = ((cfg3 a).win w).index ⟨t.val - 1, Nat.lt_of_le_of_lt (Nat.sub_le _ _) t.isLt⟩

variable {a}

theorem carry (hR : Repeats a) (c : Dev nD) (t : Fin (cfg3 a).N) (hi : (cfg3 a).idle 4 ((cfg3 a).grid.coords t) = true) :
    (dat W n a c).after 4 t = (dat W n a c).after 4 ⟨t.val - 1, Nat.lt_of_le_of_lt (Nat.sub_le _ _) t.isLt⟩ := by
  obtain ⟨h0, h⟩ := hR t hi
  rw [after_4, after_4, iblk_congr_0 W a c t _ (h 0), iblk_congr_1 W a c t _ (h 1), iblk_congr_2 W a c t _ (h 2), iblk_congr_3 W a c t _ (h 3)]

theorem not_fresh (hR : Repeats a) : ∀ (k : ℕ) (hk : k < (cfg3 a).N), (cfg3 a).idle 4 ((cfg3 a).grid.coords ⟨k, hk⟩) = true → (cfg3 a).fresh 4 k = false
  | 0, hk, hi => absurd rfl (hR ⟨0, hk⟩ hi).1
  | k + 1, hk, hi => by
    obtain ⟨h0, h⟩ := hR ⟨k + 1, hk⟩ hi
    have hk' : k < (cfg3 a).N := by omega
    rw [Cfg.fresh_succ _ _ _ hk']
    have hfl : ((cfg3 a).win 4).flush ⟨k, hk'⟩ = false := by
      rw [Window.flush_eq_flushF]
      unfold Window.flushF
      have e : ((cfg3 a).win 4).index ⟨k + 1, hk⟩ = ((cfg3 a).win 4).index ⟨k, hk'⟩ := h 4
      have hne : ¬ (k + 1 = (cfg3 a).grid.N) := by have : (cfg3 a).N = (cfg3 a).grid.N := rfl; omega
      simp only [Bool.and_eq_false_iff, Bool.or_eq_false_iff, decide_eq_false_iff_not]
      right
      refine ⟨hne, ?_⟩
      rintro ⟨_, x, hx⟩
      exact hx (congrFun e x)
    rw [hfl, Bool.false_or]
    cases hi' : (cfg3 a).idle 4 ((cfg3 a).grid.coords ⟨k, hk'⟩)
    · rfl
    · rw [not_fresh hR k hk' hi']; rfl

/-- At a step that computes nothing the output's buffer already holds what the step is to leave. -/
theorem before_4_idle (hR : Repeats a) (c : Dev nD) (t : Fin (cfg3 a).N) (hi : (cfg3 a).idle 4 ((cfg3 a).grid.coords t) = true) (d) :
    (dat W n a c).before 4 t d = (dat W n a c).after 4 t := by
  rw [(dat W n a c).before_out_traj 4 rfl (fun _ _ => rfl) (fun t _ hi _ => carry W n hR c t hi) t.val t rfl d,
    not_fresh hR t.val t.isLt hi, if_neg Bool.false_ne_true, carry W n hR c t hi]

variable (a)

abbrev st0 (t : Fin (cfg3 a).N) := ((cfg3 a).win 0).stage ((cfg3 a).slots t 0)
abbrev st1 (t : Fin (cfg3 a).N) := ((cfg3 a).win 1).stage ((cfg3 a).slots t 1)
abbrev st2 (t : Fin (cfg3 a).N) := ((cfg3 a).win 2).stage ((cfg3 a).slots t 2)
abbrev st3 (t : Fin (cfg3 a).N) := ((cfg3 a).win 3).stage ((cfg3 a).slots t 3)
abbrev st4 (t : Fin (cfg3 a).N) := ((cfg3 a).win 4).stage ((cfg3 a).slots t 4)

/-- The body at a point, on the staging buffers current there. -/
abbrev bodyAt3 (t : Fin (cfg3 a).N) : Prog (TpuEff nD τ sig (Elt F) Λ₀ .tc) PUnit :=
  cc3__grouped_ffn_kernel (grid3.coords t) (Memref.whole main_v13) (Memref.isWhole_whole _) (st0 a t) (hstage3_0 (((cfg3 a).slots t 0).cast nbuf3_0)) (st1 a t) (hstage3_1 (((cfg3 a).slots t 1).cast nbuf3_1)) (st2 a t) (hstage3_2 (((cfg3 a).slots t 2).cast nbuf3_2)) (st3 a t) (hstage3_3 (((cfg3 a).slots t 3).cast nbuf3_3)) (st4 a t) (hstage3_4 (((cfg3 a).slots t 4).cast nbuf3_4))

theorem row (t : Fin (cfg3 a).N) : defs₀ (F := F) .tc (cfg3 a).body ((cfg3 a).bodyArgs t ((cfg3 a).slots t)) = bodyAt3 a t := rfl

/-- What the body is called with at a point. -/
def bodyPre (c : Dev nD) (t : Fin (cfg3 a).N) : sProp 𝕄 :=
  iprop((dat W n a c).Φ t.castSucc ∗ (dat W n a c).owesAt none t.castSucc
    ∗ (∃ d, owns (c : Thread nD τ) (st0 a t) fullShare ((dat W n a c).before 0 t d))
    ∗ (∃ d, owns (c : Thread nD τ) (st1 a t) fullShare ((dat W n a c).before 1 t d))
    ∗ (∃ d, owns (c : Thread nD τ) (st2 a t) fullShare ((dat W n a c).before 2 t d))
    ∗ (∃ d, owns (c : Thread nD τ) (st3 a t) fullShare ((dat W n a c).before 3 t d))
    ∗ (∃ d, owns (c : Thread nD τ) (st4 a t) fullShare ((dat W n a c).before 4 t d)))

/-- What it returns. -/
def bodyPost (c : Dev nD) (t : Fin (cfg3 a).N) : sProp 𝕄 :=
  iprop((dat W n a c).Φ t.succ ∗ (dat W n a c).owesAt none t.succ
    ∗ owns (c : Thread nD τ) (st0 a t) fullShare ((dat W n a c).after 0 t)
    ∗ owns (c : Thread nD τ) (st1 a t) fullShare ((dat W n a c).after 1 t)
    ∗ owns (c : Thread nD τ) (st2 a t) fullShare ((dat W n a c).after 2 t)
    ∗ owns (c : Thread nD τ) (st3 a t) fullShare ((dat W n a c).after 3 t)
    ∗ (dat W n a c).leavesExact 4 t)

theorem idle_iff (t : Fin (cfg3 a).N) : (cfg3 a).idle 4 ((cfg3 a).grid.coords t) = !(k3_cond1 (grid3.coords t) (usedW (F := F) (a.1 0)) == 1#1) := by
  show (!(k3_cond1 (grid3.coords t) (Pipeline.Prefetch.Contents.atD a.1 0 ![0]) == 1#1)) = _
  rw [show Pipeline.Prefetch.Contents.atD a.1 0 ![0] = usedW (F := F) (a.1 0) from ?_]
  unfold Pipeline.Prefetch.Contents.atD
  exact dif_pos (show ∀ x : Fin 1, (![0] : Fin 1 → ℕ) x + 1 ≤ S31.size x by decide)

theorem tbl_eq (c : Dev nD) : (Pipeline.prefHeld (pcfg3 (F := F)).pre c (fun _ => fullShare) a.1 : sProp 𝕄)
    = iprop(((Memref.whole main_v13).view.loc (c.tc : Thread nD τ)) ↦{fullShare} (a.1 0)) := by
  unfold Pipeline.prefHeld
  rw [show (Finset.univ : Finset (Fin (pcfg3 (F := F)).pre.K)) = {0} from rfl, BI.bigSep_singleton]
  rfl

set_option maxHeartbeats 1600000 in
/-- The body at any point. -/
theorem sound_body (hR : Repeats a) (c : Dev nD) (t : Fin (cfg3 a).N) :
    bodyPre W n a c t ⊢ wp frame (wpE (defs₀ (F := F)) 𝒱₀ c none) Set.univ (bodyAt3 a t) (fun _ => bodyPost W n a c t) := by
  unfold bodyPre bodyPost bodyAt3
  simp only [before_0, before_1, before_2, before_3]
  rw [show (dat W n a c).Φ t.succ = (dat W n a c).Φ t.castSucc from rfl,
    show (dat W n a c).owesAt none t.succ = (dat W n a c).owesAt none t.castSucc from rfl,
    after_0, after_1, after_2, after_3]
  rw [show (dat W n a c).Φ t.castSucc = iprop(Pipeline.scopedRest (cfg3 a).spec c ∗ Pipeline.prefHeld (pcfg3 (F := F)).pre c (fun _ => fullShare) a.1) from rfl, tbl_eq]
  unfold Dat.leavesExact
  by_cases hl : k3_cond1 (grid3.coords t) (usedW (F := F) (a.1 0)) = 1#1
  · have hi : (cfg3 a).idle 4 ((cfg3 a).grid.coords t) = false := by rw [idle_iff, hl]; rfl
    rw [hi, after_4]
    iintro ⟨⟨HS, HT⟩, Ho, ⟨%d0, H0⟩, ⟨%d1, H1⟩, ⟨%d2, H2⟩, ⟨%d3, H3⟩, ⟨%d4, H4⟩⟩
    iapply (sound_live c Set.univ (grid3.coords t) _ _ _ _ _ _ _ _ _ _ _ (a.1 0) hl (iblk W a c 0 t) (iblk W a c 1 t) (iblk W a c 2 t) (iblk W a c 3 t) _)
    isplitl [HT]; · iexact HT
    isplitl [H0]; · iexact H0
    isplitl [H1]; · iexact H1
    isplitl [H2]; · iexact H2
    isplitl [H3]; · iexact H3
    isplitl [H4]; · iexists _; iexact H4
    iintro ⟨HT, H0, H1, H2, H3, H4⟩
    isplitl [HS HT]
    · isplitl [HS]; · iexact HS
      iexact HT
    isplitl [Ho]; · iexact Ho
    isplitl [H0]; · iexact H0
    isplitl [H1]; · iexact H1
    isplitl [H2]; · iexact H2
    isplitl [H3]; · iexact H3
    iexact H4
  · have hi : (cfg3 a).idle 4 ((cfg3 a).grid.coords t) = true := by
      rw [idle_iff]
      simp [hl]
    rw [hi]
    iintro ⟨⟨HS, HT⟩, Ho, ⟨%d0, H0⟩, ⟨%d1, H1⟩, ⟨%d2, H2⟩, ⟨%d3, H3⟩, ⟨%d4, H4⟩⟩
    iapply (sound_idle c Set.univ (grid3.coords t) _ _ _ _ _ _ _ _ _ _ _ (a.1 0) hl _)
    isplitl [HT]; · iexact HT
    iintro HT
    isplitl [HS HT]
    · isplitl [HS]; · iexact HS
      iexact HT
    isplitl [Ho]; · iexact Ho
    isplitl [H0]; · iexact H0
    isplitl [H1]; · iexact H1
    isplitl [H2]; · iexact H2
    isplitl [H3]; · iexact H3
    cases ((cfg3 a).win 4).flush t
    · iexists d4; iexact H4
    · rw [← before_4_idle W n hR c t hi d4]; iexact H4

/-- The body's obligation at every point. -/
theorem body_obligation (hR : Repeats a) (c : Dev nD) : BodyObligation (dat W n a c) (defs₀ (F := F)) 𝒱₀ none Set.univ := fun t => by
  rw [bigSep_W3, bigSep_W3, row]
  exact triple_restated (sound_body W n a hR c t) rfl .rfl fun _ => .rfl

/-- Two points writing back distinct blocks touch distinct parts of the output. -/
def Apart : Prop := ∀ t t' : Fin (cfg3 a).N, ((cfg3 a).win 4).flush t = true → ((cfg3 a).win 4).flush t' = true → t ≠ t' →
  ((cfg3 a).win 4).index t ≠ ((cfg3 a).win 4).index t'

/-- Block `t` of the final array, at a point that writes back, is what the body left there. -/
theorem blocks_4 (hA : Apart a) (c : Dev nD) (t : Fin (cfg3 a).N) (ht : ((cfg3 a).win 4).flush t = true) :
    (((cfg3 a).win 4).blk t).view.read (Elt F) ((dat W n a c).arrAt 4 (cfg3 a).N) = ((cfg3 a).win 4).cut ((cfg3 a).grid.coords t) (out4 (iblk W a c 0 t) (iblk W a c 1 t) (iblk W a c 2 t) (iblk W a c 3 t)) := by
  refine ((dat W n a c).read_blk_arrAt_eq_flushed 4 (fun t t' h h' hne => ((cfg3 a).win 4).disjoint_blk (hA t t' h h' hne)) (cfg3 a).N t t.isLt ht).trans ?_
  show ((cfg3 a).win 4).cut _ ((dat W n a c).after 4 t) = _
  rw [after_4]

end Cert.Proof.Whole.Reg3

end
-- ==== Proof.KReg5.lean ====
/-
  The combination of the experts' rows, the shared expert and the norm as a pipeline: its body, its proof data and its final array block by block.
-/
module

public import proofs.«01_k».proof.Proof.KRegion
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Proof.Whole.Reg5

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

/-- Window `w`'s block at point `t`, off its array's contents. -/
def iblk (W : Dev nD → Valuation τ sig (Elt F)) (c : Dev nD) (w : Fin cfg5.W) (t : Fin cfg5.N) : ((cfg5.win w).xblock (cfg5.grid.coords t)).Idx → Elt F (cfg5.win w).elt :=
  ((cfg5.win w).blk t).view.read (Elt F) (W c (Proc.devRef .tc (arrRef spec5 w)))

abbrev r2 : Rect S1024x1024 := Rect.unit (s := S1024x1024) ![0, 0] S1024x1024.size inb_S1024x1024_S1024x1024_0_0
abbrev rc : Rect S1024x1 := Rect.unit (s := S1024x1) ![0, 0] S1024x1.size inb_S1024x1_S1024x1_0_0
abbrev rr : Rect S1x1024 := Rect.unit (s := S1x1024) ![0, 0] S1x1024.size inb_S1x1024_S1x1024_0_0

/-- What the body leaves in output 0. -/
def out6 (x0 : Vec F S1024x1 .f32) (x1 : Vec F S1024x1 .f32) (x2 : Vec F S1024x1024 .f32) (x3 : Vec F S1024x1024 .f32) (x4 : Vec F S1024x1024 .f32) (x5 : Vec F S1x1024 .f32) : Vec F S1024x1024 .f32 := View.canon [⟨r2, k5_pay1 (View.ld x0 rc) (View.ld x2 r2) (View.ld x1 rc) (View.ld x3 r2) (View.ld x4 r2) (View.ld x5 rr)⟩]

/-- The one store covers the output's buffer. -/
theorem cover (p0 : Vec F S1024x1024 .f32) (y : S1024x1024.Idx) :
    ∃ pc ∈ ([⟨r2, p0⟩] : List (View.Piece (Elt F) S1024x1024 .f32)), y ∈ pc.1.set :=
  View.cover_of_tiled [⟨r2, p0⟩] S1024x1024.size (by rfl) y

set_option maxHeartbeats 2000000 in
/-- The body on whole staging buffers: the inputs stay, each output ends at its value. -/
theorem sound_kernel (c : Dev nD) (E : Set ℕ) (i : grid5.Coords) (arg0 : Memref sig .tc .vmem S1024x1 .f32) (harg0 : arg0.IsWhole) (arg1 : Memref sig .tc .vmem S1024x1 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole)
    (x0 : Vec F S1024x1 .f32) (x1 : Vec F S1024x1 .f32) (x2 : Vec F S1024x1024 .f32) (x3 : Vec F S1024x1024 .f32) (x4 : Vec F S1024x1024 .f32) (x5 : Vec F S1x1024 .f32) (Q : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6 x0 x1 x2 x3 x4 x5)) -∗ Q ⟨⟩))
      ⊢ wp frame (wpE (defs₀ (F := F)) 𝒱₀ c none) E (cc5__combine_kernel i arg0 harg0 arg1 harg1 arg2 harg2 arg3 harg3 arg4 harg4 arg5 harg5 arg6 harg6) Q := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro; exact View.read_writes_eq_canon _ _ _ (cover _)

/-- The pipeline's proof data, with `n` of the SparseCore calls run. -/
def dat (W : Dev nD → Valuation τ sig (Elt F)) (n : ℕ) (a : (cfg5.toPCfg (Val := Elt F)).Adm) (c : Dev nD) : Dat τ (Elt F) (HIx 2) ℕ UU ℕ cfg5 c where
  A w := W c (Proc.devRef .tc (arrRef spec5 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => out6 (iblk W c 0 t) (iblk W c 1 t) (iblk W c 2 t) (iblk W c 3 t) (iblk W c 4 t) (iblk W c 5 t)
  Φ _ := iprop(Pipeline.scopedRest cfg5.spec c ∗ Pipeline.prefHeld (cfg5.toPCfg (Val := Elt F)).pre c (fun _ => fullShare) a.1)
  q w := Pipeline.shareOf cfg5.spec w
  owed _ := (K (F := F)).Otc c n
  recorded _ := seen (F := F) c n

variable (W : Dev nD → Valuation τ sig (Elt F)) (n : ℕ) (a : (cfg5.toPCfg (Val := Elt F)).Adm)

theorem A_eq (c : Dev nD) (w : Fin cfg5.W) : (dat W n a c).A w = W c (Proc.devRef .tc (arrRef spec5 w)) := by
  dsimp only [dat]

theorem after_0 (c : Dev nD) (t : Fin cfg5.N) : (dat W n a c).after 0 t = iblk W c 0 t := by dsimp only [dat]
theorem after_1 (c : Dev nD) (t : Fin cfg5.N) : (dat W n a c).after 1 t = iblk W c 1 t := by dsimp only [dat]
theorem after_2 (c : Dev nD) (t : Fin cfg5.N) : (dat W n a c).after 2 t = iblk W c 2 t := by dsimp only [dat]
theorem after_3 (c : Dev nD) (t : Fin cfg5.N) : (dat W n a c).after 3 t = iblk W c 3 t := by dsimp only [dat]
theorem after_4 (c : Dev nD) (t : Fin cfg5.N) : (dat W n a c).after 4 t = iblk W c 4 t := by dsimp only [dat]
theorem after_5 (c : Dev nD) (t : Fin cfg5.N) : (dat W n a c).after 5 t = iblk W c 5 t := by dsimp only [dat]
theorem after_6 (c : Dev nD) (t : Fin cfg5.N) : (dat W n a c).after 6 t = out6 (iblk W c 0 t) (iblk W c 1 t) (iblk W c 2 t) (iblk W c 3 t) (iblk W c 4 t) (iblk W c 5 t) := by dsimp only [dat]

theorem before_0 (c : Dev nD) (t : Fin cfg5.N) (d) : (dat W n a c).before 0 t d = iblk W c 0 t :=
  ((dat W n a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg5.N) (d) : (dat W n a c).before 1 t d = iblk W c 1 t :=
  ((dat W n a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg5.N) (d) : (dat W n a c).before 2 t d = iblk W c 2 t :=
  ((dat W n a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg5.N) (d) : (dat W n a c).before 3 t d = iblk W c 3 t :=
  ((dat W n a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg5.N) (d) : (dat W n a c).before 4 t d = iblk W c 4 t :=
  ((dat W n a c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg5.N) (d) : (dat W n a c).before 5 t d = iblk W c 5 t :=
  ((dat W n a c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- What the body is called with at a point. -/
def bodyPre (c : Dev nD) (t : Fin cfg5.N) : sProp 𝕄 :=
  iprop((dat W n a c).Φ t.castSucc ∗ (dat W n a c).owesAt none t.castSucc
    ∗ (∃ d, owns (c : Thread nD τ) (st5_0 t) fullShare ((dat W n a c).before 0 t d))
    ∗ (∃ d, owns (c : Thread nD τ) (st5_1 t) fullShare ((dat W n a c).before 1 t d))
    ∗ (∃ d, owns (c : Thread nD τ) (st5_2 t) fullShare ((dat W n a c).before 2 t d))
    ∗ (∃ d, owns (c : Thread nD τ) (st5_3 t) fullShare ((dat W n a c).before 3 t d))
    ∗ (∃ d, owns (c : Thread nD τ) (st5_4 t) fullShare ((dat W n a c).before 4 t d))
    ∗ (∃ d, owns (c : Thread nD τ) (st5_5 t) fullShare ((dat W n a c).before 5 t d))
    ∗ (∃ d, owns (c : Thread nD τ) (st5_6 t) fullShare ((dat W n a c).before 6 t d)))

/-- What it returns. -/
def bodyPost (c : Dev nD) (t : Fin cfg5.N) : sProp 𝕄 :=
  iprop((dat W n a c).Φ t.succ ∗ (dat W n a c).owesAt none t.succ
    ∗ owns (c : Thread nD τ) (st5_0 t) fullShare ((dat W n a c).after 0 t)
    ∗ owns (c : Thread nD τ) (st5_1 t) fullShare ((dat W n a c).after 1 t)
    ∗ owns (c : Thread nD τ) (st5_2 t) fullShare ((dat W n a c).after 2 t)
    ∗ owns (c : Thread nD τ) (st5_3 t) fullShare ((dat W n a c).after 3 t)
    ∗ owns (c : Thread nD τ) (st5_4 t) fullShare ((dat W n a c).after 4 t)
    ∗ owns (c : Thread nD τ) (st5_5 t) fullShare ((dat W n a c).after 5 t)
    ∗ owns (c : Thread nD τ) (st5_6 t) fullShare ((dat W n a c).after 6 t))

set_option maxHeartbeats 800000 in
/-- The body at any point. -/
theorem sound_body (c : Dev nD) (t : Fin cfg5.N) :
    bodyPre W n a c t ⊢ wp frame (wpE (defs₀ (F := F)) 𝒱₀ c none) Set.univ (bodyAt5 t) (fun _ => bodyPost W n a c t) := by
  unfold bodyPre bodyPost bodyAt5
  simp only [before_0, before_1, before_2, before_3, before_4, before_5]
  rw [show (dat W n a c).Φ t.succ = (dat W n a c).Φ t.castSucc from rfl,
    show (dat W n a c).owesAt none t.succ = (dat W n a c).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid5.coords t) _ _ _ _ _ _ _ _ _ _ _ _ _ _ (iblk W c 0 t) (iblk W c 1 t) (iblk W c 2 t) (iblk W c 3 t) (iblk W c 4 t) (iblk W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point's slots is the body. -/
theorem row (t : Fin cfg5.N) : defs₀ (F := F) .tc cfg5.body (cfg5.bodyArgs t (cfg5.slots t)) = bodyAt5 t := rfl

/-- The body's obligation at every point. -/
theorem body_obligation (c : Dev nD) : BodyObligation (dat W n a c) (defs₀ (F := F)) 𝒱₀ none Set.univ := fun t => by
  rw [bigSep_W5, bigSep_W5, row]
  exact triple_restated (sound_body W n a c t) rfl .rfl fun _ => .rfl

theorem flushed_6 (c : Dev nD) (t : Fin cfg5.N) :
    (dat W n a c).flushed 6 t = (cfg5.win 6).cut (grid5.coords t) (out6 (iblk W c 0 t) (iblk W c 1 t) (iblk W c 2 t) (iblk W c 3 t) (iblk W c 4 t) (iblk W c 5 t)) := by
  show (cfg5.win 6).cut (grid5.coords t) ((dat W n a c).after 6 t) = _
  rw [after_6]

theorem idx_inj_6 : ∀ t t' : Fin cfg5.N, win5_6.index t = win5_6.index t' → t = t' :=
  (by decide +kernel : ∀ t t' : Fin grid5.N, win5_6.index t = win5_6.index t' → t = t')

theorem disjoint_6 : ∀ t t' : Fin cfg5.N, (cfg5.win 6).flush t = true → (cfg5.win 6).flush t' = true → t ≠ t' →
    Disjoint ((cfg5.win 6).blk t).view.set ((cfg5.win 6).blk t').view.set :=
  fun t t' _ _ hne => (cfg5.win 6).disjoint_blk fun h => hne (idx_inj_6 t t' h)

/-- Block `t` of the final array is what the body left at point `t`. -/
theorem blocks_6 (c : Dev nD) (t : Fin cfg5.N) :
    ((cfg5.win 6).blk t).view.read (Elt F) ((dat W n a c).arrAt 6 cfg5.N) = (cfg5.win 6).cut (grid5.coords t) (out6 (iblk W c 0 t) (iblk W c 1 t) (iblk W c 2 t) (iblk W c 3 t) (iblk W c 4 t) (iblk W c 5 t)) :=
  ((dat W n a c).read_blk_arrAt_eq_flushed 6 disjoint_6 cfg5.N t t.isLt (flush5_6 t)).trans (flushed_6 W n a c t)

end Cert.Proof.Whole.Reg5

end
-- ==== Proof.KTileG.lean ====
/-
  The gather call's task in the whole kernel: what one vector subcore of `combine_gather_sc` does. It fetches its four
  lists of 128 words, gathers for each list the table rows that the list names, and writes them to its own part of the
  result.
-/
module

public import proofs.«01_k».proof.Proof.KBase

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

namespace Gath

/-! ## The call's operands -/

abbrev tLoc (d : Dev nD) : Loc nD τ sig := (SparseCore.T d).loc main_v19
abbrev iLoc (d : Dev nD) : Loc nD τ sig := (SparseCore.T d).loc main_v12
abbrev oLoc (d : Dev nD) : Loc nD τ sig := (SparseCore.T d).loc main_v20

local notation "tV" => (Memref.whole Cert.KernelIdeal.main_v19_scv : Memref Cert.KernelIdeal.sig Kind.scVector Space.hbm Cert.KernelIdeal.S30720x2x128 EltTy.f32)
local notation "iV" => (Memref.whole Cert.KernelIdeal.main_v12_scv : Memref Cert.KernelIdeal.sig Kind.scVector Space.hbm Cert.KernelIdeal.S32x4x128 EltTy.i32)
local notation "oV" => (Memref.whole Cert.KernelIdeal.main_v20_scv : Memref Cert.KernelIdeal.sig Kind.scVector Space.hbm Cert.KernelIdeal.S16384x2x128 EltTy.f32)
local notation "sV" => (Memref.whole Cert.KernelIdeal.cc4_scratch0 : Memref Cert.KernelIdeal.sig Kind.scVector Space.vmem Cert.KernelIdeal.S4x128 EltTy.i32)
local notation "aV" => (Memref.whole Cert.KernelIdeal.cc4_scratch1 : Memref Cert.KernelIdeal.sig Kind.scVector Space.vmem Cert.KernelIdeal.S128x2x128 EltTy.f32)
local notation "bV" => (Memref.whole Cert.KernelIdeal.cc4_scratch2 : Memref Cert.KernelIdeal.sig Kind.scVector Space.vmem Cert.KernelIdeal.S128x2x128 EltTy.f32)

theorem odiv : 128 ∣ S16384x2x128.size 0 := ⟨128, rfl⟩
/-- Part `p` of the result: rows `[128 p, 128 p + 128)`. -/
abbrev oPart (p : Fin 128) : Rect S16384x2x128 := Rect.part (s := S16384x2x128) (a₀ := 0) odiv p
abbrev oPartSet (p : Fin 128) : Finset S16384x2x128.Idx := ((oV).view.slice (oPart p)).set

section Tile

variable (d : Dev nD) (L : grid4.Coords)

abbrev cV (L : grid4.Coords) : Fin τ.nSC := (L 0).castLE hcore4
abbrev jV (L : grid4.Coords) : Fin τ.nSub := (L 1).castLE hsub4

theorem bound_zero : grid4.bound 0 = 2 := rfl
theorem bound_one : grid4.bound 1 = 16 := rfl

/-- The task's number, as the kernel counts its tasks: twice its subcore, plus its SparseCore. -/
def wid (L : grid4.Coords) : Fin 32 :=
  ⟨2 * (L 1).val + (L 0).val, by have h0 : (L 0).val < 2 := (L 0).isLt; have h1 : (L 1).val < 16 := (L 1).isLt; omega⟩

/-- The number of the task's chunk `k` among all 128. -/
def part (w : Fin 32) (k : Fin 4) : Fin 128 := ⟨4 * w.val + k.val, by omega⟩

abbrev iRowK (L : grid4.Coords) : Memref sig .scVector .hbm S4x128 .i32 :=
  ((iV).slice (Rect.unit (s := S32x4x128) (k4_off1 L) S1x4x128.size (k4_off1_inb L)) (fun _ => rfl)).squeeze S4x128 squeezes_S1x4x128_S4x128
abbrev oChunkR (L : grid4.Coords) (k : Fin 4) : Rect S16384x2x128 :=
  Rect.unit (s := S16384x2x128) (k4_off2 L (BitVec.ofNat 32 (32 * k.val))) S128x2x128.size (k4_off2_inb L k)
abbrev oChunk0 (L : grid4.Coords) : Memref sig .scVector .hbm S128x2x128 .f32 :=
  (oV).slice (Rect.unit (s := S16384x2x128) (k4_off2 L 0#32) S128x2x128.size (k4_off2_inb L 0)) (fun _ => rfl)
abbrev oChunk1 (L : grid4.Coords) : Memref sig .scVector .hbm S128x2x128 .f32 :=
  (oV).slice (Rect.unit (s := S16384x2x128) (k4_off2 L 32#32) S128x2x128.size (k4_off2_inb L 1)) (fun _ => rfl)
abbrev oChunk2 (L : grid4.Coords) : Memref sig .scVector .hbm S128x2x128 .f32 :=
  (oV).slice (Rect.unit (s := S16384x2x128) (k4_off2 L 64#32) S128x2x128.size (k4_off2_inb L 2)) (fun _ => rfl)
abbrev oChunk3 (L : grid4.Coords) : Memref sig .scVector .hbm S128x2x128 .f32 :=
  (oV).slice (Rect.unit (s := S16384x2x128) (k4_off2 L 96#32) S128x2x128.size (k4_off2_inb L 3)) (fun _ => rfl)

abbrev cell (d : Dev nD) (c : Fin τ.nSC) (i : Fin τ.nSub) (s : DmaSem sig) : GSem nD τ sig := (V d c i, .dma s)

theorem ownSems0_V :
    (ownSems0 (V d (cV L) (jV L)) : sProp 𝕄)
      = iprop(semVal (cell d (cV L) (jV L) cc4_scratch3.sem) 0 ∗ semVal (cell d (cV L) (jV L) cc4_scratch4.sem) 0
          ∗ semVal (cell d (cV L) (jV L) cc4_scratch5.sem) 0 ∗ semVal (cell d (cV L) (jV L) cc4_scratch6.sem) 0
          ∗ semVal (cell d (cV L) (jV L) cc4_scoped0.sem) 0
          ∗ bigSep ((((((ownCells (V d (cV L) (jV L))).erase (cell d (cV L) (jV L) cc4_scratch3.sem)).erase (cell d (cV L) (jV L) cc4_scratch4.sem)).erase
              (cell d (cV L) (jV L) cc4_scratch5.sem)).erase (cell d (cV L) (jV L) cc4_scratch6.sem)).erase (cell d (cV L) (jV L) cc4_scoped0.sem)) fun g => semVal g 0) := by
  unfold SparseCore.Cfg.ownSems0
  have hm : ∀ s : DmaSem sig, (SemLoc.dma s : SemLoc sig).isScoped .scVector = true → cell d (cV L) (jV L) s ∈ ownCells (V d (cV L) (jV L)) :=
    fun s h => (mem_ownCells (g := cell d (cV L) (jV L) s)).mpr ⟨rfl, h⟩
  have hne : ∀ s t : DmaSem sig, s ≠ t → cell d (cV L) (jV L) s ≠ cell d (cV L) (jV L) t := by
    intro s t h e; exact h (by simpa [cell] using e)
  rw [SparseCore.bigSep_erase' (hm cc4_scratch3.sem (by decide)),
    SparseCore.bigSep_erase' (Finset.mem_erase.mpr ⟨hne cc4_scratch4.sem _ (by decide), hm _ (by decide)⟩),
    SparseCore.bigSep_erase' (Finset.mem_erase.mpr ⟨hne cc4_scratch5.sem _ (by decide), Finset.mem_erase.mpr ⟨hne _ _ (by decide), hm _ (by decide)⟩⟩),
    SparseCore.bigSep_erase' (Finset.mem_erase.mpr ⟨hne cc4_scratch6.sem _ (by decide), Finset.mem_erase.mpr ⟨hne _ _ (by decide), Finset.mem_erase.mpr ⟨hne _ _ (by decide), hm _ (by decide)⟩⟩⟩),
    SparseCore.bigSep_erase' (Finset.mem_erase.mpr ⟨hne cc4_scoped0.sem _ (by decide), Finset.mem_erase.mpr ⟨hne _ _ (by decide), Finset.mem_erase.mpr ⟨hne _ _ (by decide), Finset.mem_erase.mpr ⟨hne _ _ (by decide), hm _ (by decide)⟩⟩⟩⟩)]

abbrev bufRef (L : grid4.Coords) (b : Ref sig .scVector) : DevRef τ sig := (Proc.scVector (cV L) (jV L)).devRef b

theorem ownBufs_V :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f)
          ∗ bigSep ((((ownRefs (τ := τ) (.scVector (cV L) (jV L))).erase (bufRef L cc4_scratch0)).erase (bufRef L cc4_scratch1)).erase (bufRef L cc4_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bufRef L cc4_scratch0) rfl)).trans ?_
  rw [SparseCore.bigSep_erase' (Finset.mem_erase.mpr ⟨fun e => absurd (Proc.devRef_injective _ e) (show (cc4_scratch1 : Ref sig .scVector) ≠ cc4_scratch0 by decide),
      SparseCore.Cfg.mem_ownRefs_of_owner (p := Proc.scVector (cV L) (jV L)) (b := bufRef L cc4_scratch1) rfl⟩),
    SparseCore.bigSep_erase' (Finset.mem_erase.mpr ⟨fun e => absurd (Proc.devRef_injective _ e) (show (cc4_scratch2 : Ref sig .scVector) ≠ cc4_scratch1 by decide),
      Finset.mem_erase.mpr ⟨fun e => absurd (Proc.devRef_injective _ e) (show (cc4_scratch2 : Ref sig .scVector) ≠ cc4_scratch0 by decide),
      SparseCore.Cfg.mem_ownRefs_of_owner (p := Proc.scVector (cV L) (jV L)) (b := bufRef L cc4_scratch2) rfl⟩⟩)]

abbrev tPts (q : PosShare TreeShare) (tb : Buf (Elt F) (tLoc d)) : sProp 𝕄 := (tV).view.loc (V d (cV L) (jV L)) ↦{q} tb
abbrev iPts (q : PosShare TreeShare) (ix : Buf (Elt F) (iLoc d)) : sProp 𝕄 := (iV).view.loc (V d (cV L) (jV L)) ↦{q} ix
abbrev oPts0 (f : Buf (Elt F) (oLoc d)) : sProp 𝕄 := (oChunk0 L).view.loc (V d (cV L) (jV L)) ↦[(oChunk0 L).view.set]{fullShare} f
abbrev oPts1 (f : Buf (Elt F) (oLoc d)) : sProp 𝕄 := (oChunk1 L).view.loc (V d (cV L) (jV L)) ↦[(oChunk1 L).view.set]{fullShare} f
abbrev oPts2 (f : Buf (Elt F) (oLoc d)) : sProp 𝕄 := (oChunk2 L).view.loc (V d (cV L) (jV L)) ↦[(oChunk2 L).view.set]{fullShare} f
abbrev oPts3 (f : Buf (Elt F) (oLoc d)) : sProp 𝕄 := (oChunk3 L).view.loc (V d (cV L) (jV L)) ↦[(oChunk3 L).view.set]{fullShare} f

theorem pts_tV (q : PosShare TreeShare) (tb : Buf (Elt F) (tLoc d)) : (tPts d L q tb : sProp 𝕄) = tLoc d ↦{q} tb :=
  rfl
theorem pts_sV (f : Buf (Elt F) ((V d (cV L) (jV L)).loc cc4_scratch0)) :
    ((sV).view.loc (V d (cV L) (jV L)) ↦{fullShare} f : sProp 𝕄) = (V d (cV L) (jV L)).loc cc4_scratch0 ↦{fullShare} f :=
  rfl
theorem pts_aV (f : Buf (Elt F) ((V d (cV L) (jV L)).loc cc4_scratch1)) :
    ((aV).view.loc (V d (cV L) (jV L)) ↦{fullShare} f : sProp 𝕄) = (V d (cV L) (jV L)).loc cc4_scratch1 ↦{fullShare} f :=
  rfl
theorem pts_bV (f : Buf (Elt F) ((V d (cV L) (jV L)).loc cc4_scratch2)) :
    ((bV).view.loc (V d (cV L) (jV L)) ↦{fullShare} f : sProp 𝕄) = (V d (cV L) (jV L)).loc cc4_scratch2 ↦{fullShare} f :=
  rfl

/-- The list a gather reads is a row of the fetched lists. -/
theorem read_list (g0 : Buf (Elt F) ((sV).view.loc (V d (cV L) (jV L)))) (pay : S4x128.Idx → Elt F .i32) (row : Fin 2 → Nat)
    (hk : ∀ a, row a + S1x128.size a ≤ S4x128.size a) (hs) (hq : (Rect.unit (s := S4x128) row S1x128.size hk).shape.Squeezes S128) (x : S128.Idx) :
    View.read (Elt F) (((sV).slice (Rect.unit (s := S4x128) row S1x128.size hk) hs).squeeze S128 hq).view
        ((sV).view.write (Elt F) g0 pay Finset.univ) x
      = pay ((Rect.unit (s := S4x128) row S1x128.size hk).emb ((Shape.reshapeEquiv hq.numel_eq) x)) := by
  have e : View.read (Elt F) (((sV).slice (Rect.unit (s := S4x128) row S1x128.size hk) hs).squeeze S128 hq).view
        ((sV).view.write (Elt F) g0 pay Finset.univ) x
      = View.read (Elt F) (sV).view ((sV).view.write (Elt F) g0 pay Finset.univ)
          ((Rect.unit (s := S4x128) row S1x128.size hk).emb ((Shape.reshapeEquiv hq.numel_eq) x)) := by
    rw [View.read_apply, View.read_apply]; rfl
  rw [e, View.read_write_univ]

/-! ## What the gather delivers -/

/-- The table row that a word of a list names. -/
def rowOf (v : BitVec 32) : Fin 30720 := ⟨v.toNat % 30720, Nat.mod_lt _ (by norm_num)⟩

/-- The place in the lists of the word that names result row `r`. -/
def listIx (r : Fin 16384) : S32x4x128.Idx :=
  ix3 (⟨r.val / 512, by have := r.isLt; omega⟩ : Fin 32) (⟨r.val / 128 % 4, Nat.mod_lt _ (by norm_num)⟩ : Fin 4) (⟨r.val % 128, Nat.mod_lt _ (by norm_num)⟩ : Fin 128)

/-- The gathered rows: result row `r` is the table row that the lists' word for `r` names. -/
def gath (tb : S30720x2x128.Idx → Elt F .f32) (ix : S32x4x128.Idx → BitVec 32) : S16384x2x128.Idx → Elt F .f32 :=
  fun j => tb (ix3 (rowOf (ix (listIx (j 0)))) (j 1 : Fin 2) (j 2 : Fin 128))

/-- The fetched lists are the task's own of all the lists. -/
theorem fetched (ix : Buf (Elt F) (iLoc d)) (a : Fin 4) (b : Fin 128) :
    (iRowK L).view.read (Elt F) ix (ix2 a b) = ix (ix3 (wid L) a b) := by
  rw [View.read_apply]
  show ix ((Rect.unit (s := S32x4x128) (k4_off1 L) S1x4x128.size (k4_off1_inb L)).emb (Shape.reshapeEquiv _ (ix2 a b))) = _
  rw [reshapeEquiv_ix2_1ab]
  congr 1; funext e
  have h1 := k4_off1_eq L
  match e with
  | 0 => apply Fin.ext; show k4_off1 L 0 + 1 * 0 = _; rw [h1]; rfl
  | 1 => apply Fin.ext; show k4_off1 L 1 + 1 * a.val = a.val; rw [h1]; simp
  | 2 => apply Fin.ext; show k4_off1 L 2 + 1 * b.val = b.val; rw [h1]; simp

/-- Chunk `k` of the task, as the gather delivers it. -/
theorem payload_apply (tb : Buf (Elt F) (tLoc d)) (ix : Buf (Elt F) (iLoc d)) (fs : Buf (Elt F) ((V d (cV L) (jV L)).loc cc4_scratch0))
    (hix : ∀ j : S32x4x128.Idx, (ix j : BitVec 32).toNat < 30720) (k : Fin 4) (row : Fin 2 → ℕ) (hrow : row = ![k.val, 0])
    (pay : S4x128.Idx → Elt F .i32) (hpay : pay = (iRowK L).view.read (Elt F) ix)
    (ht hts hk hs) (hq : (Rect.unit (s := S4x128) row S1x128.size hk).shape.Squeezes S128) (hn h) (y : S128x2x128.Idx) :
    SparseCore.gatherPayload gathers_S30720x2x128_S128x2x128
      (View.read (Elt F) ((tV).slice (Rect.unit (s := S30720x2x128) ![0, 0, 0] S30720x2x128.size ht) hts).view tb)
      (SparseCore.rows (View.read (Elt F) (((sV).slice (Rect.unit (s := S4x128) row S1x128.size hk) hs).squeeze S128 hq).view
        (View.write (Elt F) (sV).view fs pay Finset.univ)) hn h) y
      = tb (ix3 (rowOf (ix (ix3 (wid L) k (y 0 : Fin 128)))) (y 1 : Fin 2) (y 2 : Fin 128)) := by
  subst hrow hpay
  unfold SparseCore.gatherPayload
  rw [View.read_apply]
  show tb ((Rect.unit (s := S30720x2x128) ![0, 0, 0] S30720x2x128.size ht).emb _) = _
  congr 1; funext e
  have hlist : ∀ x : S128.Idx, View.read (Elt F) (((sV).slice (Rect.unit (s := S4x128) ![k.val, 0] S1x128.size hk) hs).squeeze S128 hq).view
        (View.write (Elt F) (sV).view fs ((iRowK L).view.read (Elt F) ix) Finset.univ) x = ix (ix3 (wid L) k (x 0 : Fin 128)) := by
    intro x
    rw [read_list d L, ← fetched d L ix k (x 0)]
    congr 1; funext e
    have hx : (Shape.reshapeEquiv hq.numel_eq) x = ix2 (0 : Fin 1) (x 0 : Fin 128) :=
      Shape.reshapeEquiv_eq_of_rowMajor _ (by
        show ((⟨2, ![1, 128]⟩ : Shape).rowMajor (ix2 (0 : Fin 1) (x 0 : Fin 128))).val = ((⟨1, ![128]⟩ : Shape).rowMajor x).val
        rw [Shape.rowMajor_val_two, Shape.rowMajor_val_one]; show 0 * 128 + (x 0).val = (x 0).val; omega)
    rw [hx]
    match e with
    | 0 => apply Fin.ext; show k.val + 1 * 0 = k.val; omega
    | 1 => apply Fin.ext; show 0 + 1 * (x 0).val = (x 0).val; omega
  match e with
  | 0 =>
    apply Fin.ext
    show 0 + 1 * (gathers_S30720x2x128_S128x2x128.idx _ y gathers_S30720x2x128_S128x2x128.axis).val = _
    rw [Shape.Gathers.idx_axis]
    show 0 + 1 * (View.read (Elt F) (((sV).slice (Rect.unit (s := S4x128) ![k.val, 0] S1x128.size hk) hs).squeeze S128 hq).view
        (View.write (Elt F) (sV).view fs ((iRowK L).view.read (Elt F) ix) Finset.univ) (S128.rowMajor.symm ((y 0).cast hn.symm)) : BitVec 32).toNat = _
    rw [hlist]
    have hx : ((S128.rowMajor.symm ((y 0).cast hn.symm)) 0).val = (y 0).val := by
      rw [← Shape.rowMajor_val_one, Equiv.apply_symm_apply]; rfl
    have hx' : (S128.rowMajor.symm ((y 0).cast hn.symm)) 0 = (y 0 : Fin 128) := Fin.ext hx
    rw [hx']
    show _ = (ix _ : BitVec 32).toNat % 30720
    rw [Nat.mod_eq_of_lt (hix _)]; omega
  | 1 =>
    apply Fin.ext
    show 0 + 1 * (gathers_S30720x2x128_S128x2x128.idx _ y 1).val = (y 1).val
    rw [Shape.Gathers.idx_of_ne _ _ _ _ (by decide)]; show 0 + 1 * (y 1).val = _; omega
  | 2 =>
    apply Fin.ext
    show 0 + 1 * (gathers_S30720x2x128_S128x2x128.idx _ y 2).val = (y 2).val
    rw [Shape.Gathers.idx_of_ne _ _ _ _ (by decide)]; show 0 + 1 * (y 2).val = _; omega

/-- Row `y` of the task's chunk `k` is row `512 w + 128 k + y` of the result. -/
theorem chunk_emb (k : Fin 4) (hs) (y : S128x2x128.Idx) :
    ((oV).slice (oChunkR L k) hs).view.emb y
      = ix3 (⟨512 * (wid L).val + 128 * k.val + (y 0).val, by have h0 : (y 0).val < 128 := (y 0).isLt; have := (wid L).isLt; have := k.isLt; omega⟩ : Fin 16384)
          (y 1 : Fin 2) (y 2 : Fin 128) := by
  have h2 := k4_off2_eq L k
  show (oChunkR L k).emb y = _
  funext a
  match a with
  | 0 =>
    apply Fin.ext
    show k4_off2 L (BitVec.ofNat 32 (32 * k.val)) 0 + 1 * (y 0).val = 512 * (2 * (L 1).val + (L 0).val) + 128 * k.val + (y 0).val
    rw [h2]; show 1024 * (L 1).val + 512 * (L 0).val + 128 * k.val + 1 * (y 0).val = _
    omega
  | 1 => apply Fin.ext; show k4_off2 L (BitVec.ofNat 32 (32 * k.val)) 1 + 1 * (y 1).val = (y 1).val; rw [h2]; show 0 + 1 * (y 1).val = _; omega
  | 2 => apply Fin.ext; show k4_off2 L (BitVec.ofNat 32 (32 * k.val)) 2 + 1 * (y 2).val = (y 2).val; rw [h2]; show 0 + 1 * (y 2).val = _; omega

theorem listIx_chunk (w : Fin 32) (k : Fin 4) (r : Fin 128) (h) : listIx ⟨512 * w.val + 128 * k.val + r.val, h⟩ = ix3 w k r := by
  unfold listIx
  have := k.isLt; have := r.isLt
  congr 1 <;> apply Fin.ext <;> simp only <;> omega

theorem gath_ix3 (tb : S30720x2x128.Idx → Elt F .f32) (ix : S32x4x128.Idx → BitVec 32) (r : Fin 16384) (a : Fin 2) (b : Fin 128) :
    gath tb ix (ix3 r a b) = tb (ix3 (rowOf (ix (listIx r))) a b) := rfl

/-- Chunk `k` written at what the gather delivers holds the gathered rows. -/
theorem chunk_congr (tb : Buf (Elt F) (tLoc d)) (ix : Buf (Elt F) (iLoc d)) (f0 : Buf (Elt F) (oLoc d)) (k : Fin 4) (hs)
    (pay : S128x2x128.Idx → Elt F .f32)
    (hpay : ∀ y, pay y = tb (ix3 (rowOf (ix (ix3 (wid L) k (y 0 : Fin 128)))) (y 1 : Fin 2) (y 2 : Fin 128))) :
    (((oV).slice (oChunkR L k) hs).view.loc (V d (cV L) (jV L)) ↦[((oV).slice (oChunkR L k) hs).view.set]{fullShare}
        ((oV).slice (oChunkR L k) hs).view.writes (Elt F) f0 [⟨Rect.whole S128x2x128, pay⟩] : sProp 𝕄)
      = ((oV).slice (oChunkR L k) hs).view.loc (V d (cV L) (jV L)) ↦[((oV).slice (oChunkR L k) hs).view.set]{fullShare} gath tb ix := by
  refine pointsTo_congr fun x hx => ?_
  obtain ⟨y, -, rfl⟩ := Finset.mem_map.mp hx
  have e := congrFun (View.read_writes_whole (Val := Elt F) ((oV).slice (oChunkR L k) hs).view f0 pay) y
  have e' : gath tb ix (((oV).slice (oChunkR L k) hs).view.emb y) = pay y := by
    rw [hpay, chunk_emb]
    exact (gath_ix3 tb ix _ (y 1 : Fin 2) (y 2 : Fin 128)).trans (congrArg (fun l => tb (ix3 (rowOf (ix l)) (y 1 : Fin 2) (y 2 : Fin 128))) (listIx_chunk (wid L) k (y 0 : Fin 128) _))
  rw [e', ← e, View.read_apply]
  exact (cast_eq rfl _).symm

set_option maxHeartbeats 4000000 in
theorem tile_body (hF : (K (F := F)).Facts) (q : PosShare TreeShare) (tb : Buf (Elt F) (tLoc d)) (ix : Buf (Elt F) (iLoc d))
    (f0 : Buf (Elt F) (oLoc d)) (hix : ∀ j : S32x4x128.Idx, (ix j : BitVec 32).toNat < 30720)
    (O : CellTallies nD τ sig (HIx 2)) (W : Waits sig (HIx 2)) (hO : ∀ g, O g none = 0) :
    iprop(levAts (K (F := F)).L (K (F := F)).lev ∗ emp
        ∗ (tPts d L q tb ∗ iPts d L q ix ∗ oPts0 d L f0 ∗ oPts1 d L f0 ∗ oPts2 d L f0 ∗ oPts3 d L f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_combine_gather_sc L tV (Memref.isWhole_whole _) iV (Memref.isWhole_whole _) oV (Memref.isWhole_whole _)
            sV (Memref.isWhole_whole _) aV (Memref.isWhole_whole _) bV (Memref.isWhole_whole _)
            cc4_scratch3 cc4_scratch4 cc4_scratch5 cc4_scratch6 cc4_scoped0)
          fun _ => iprop((tPts d L q tb ∗ iPts d L q ix ∗ oPts0 d L (gath tb ix) ∗ oPts1 d L (gath tb ix) ∗ oPts2 d L (gath tb ix) ∗ oPts3 d L (gath tb ix))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_combine_gather_sc_eq_skeleton]; unfold cc4_combine_gather_sc_skel
  simp only [k4_part1_eq_skeleton, k4_part2_eq_skeleton]; unfold k4_part1_skel k4_part2_skel
  rw [(K (F := F)).scopedBufs_V hF d (cV L) (jV L), SparseCore.Cfg.scopedSems0_V (Val := Elt F) d (cV L) (jV L), ownSems0_V, ownBufs_V]
  iintro ⟨#Hlv, -, ⟨Ht, Hi, Ho0, Ho1, Ho2, Ho3⟩, ⟨⟨%fs, Hs⟩, ⟨%fa, Ha⟩, ⟨%fb, Hb⟩, Hbufs⟩, ⟨HsemA, HsemB, HsemC, HsemD, HsemE, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  sl_exec
  have hpay : ∀ y, (tile_body.sl.dma0 d L ix y : BitVec 32).toNat < 30720 := fun y => hix _
  have hin : ∀ (g0 : Buf (Elt F) ((sV).view.loc (V d (cV L) (jV L)))) (row : Fin 2 → Nat)
      (hk : ∀ a, row a + S1x128.size a ≤ S4x128.size a) (hs) (hq : (Rect.unit (s := S4x128) row S1x128.size hk).shape.Squeezes S128) (x : S128.Idx),
      (View.read (Elt F) (((sV).slice (Rect.unit (s := S4x128) row S1x128.size hk) hs).squeeze S128 hq).view
        ((sV).view.write (Elt F) g0 (tile_body.sl.dma0 d L ix) Finset.univ) x).toNat < 30720 := by
    intro g0 row hk hs hq x
    rw [read_list d L]; exact hpay _
  sl_exec
  have e0 := (chunk_congr d L tb ix f0 0 (fun _ => rfl) (tile_body.sl.dma0_1 d L tb ix fs fa hin) fun y => by
    unfold tile_body.sl.dma0_1 tile_body.sl.gather0
    rw [ReadAs.apply_same, View.read_writes_whole]
    exact payload_apply d L tb ix fs hix 0 _ rfl _ rfl _ _ _ _ _ _ _ y)
  have e1 := (chunk_congr d L tb ix f0 1 (fun _ => rfl) (tile_body.sl.dma0_2 d L tb ix fs fb hin) fun y => by
    unfold tile_body.sl.dma0_2 tile_body.sl.gather1
    rw [ReadAs.apply_same, View.read_writes_whole]
    exact payload_apply d L tb ix fs hix 1 _ rfl _ rfl _ _ _ _ _ _ _ y)
  have e2 := (chunk_congr d L tb ix f0 2 (fun _ => rfl) (tile_body.sl.dma0_3 d L tb ix fs fa hin) fun y => by
    unfold tile_body.sl.dma0_3 tile_body.sl.gather3
    rw [ReadAs.apply_same]
    refine (congrFun (View.read_writes_whole _ (View.writes _ _ _ [_]) _) y).trans ?_
    exact payload_apply d L tb ix fs hix 2 _ rfl _ rfl _ _ _ _ _ _ _ y)
  have e3 := (chunk_congr d L tb ix f0 3 (fun _ => rfl) (tile_body.sl.dma0_4 d L tb ix fs fb hin) fun y => by
    unfold tile_body.sl.dma0_4 tile_body.sl.gather5
    rw [ReadAs.apply_same]
    refine (congrFun (View.read_writes_whole _ (View.writes _ _ _ [_]) _) y).trans ?_
    exact payload_apply d L tb ix fs hix 3 _ rfl _ rfl _ _ _ _ _ _ _ y)
  ihave Ho0' := (Entails.of_eq e0) $$ Ho0
  ihave Ho1' := (Entails.of_eq e1) $$ Ho1
  ihave Ho2' := (Entails.of_eq e2) $$ Ho2
  ihave Ho3' := (Entails.of_eq e3) $$ Ho3
  sl_step
  isplitl [Hi Ht Ho0' Ho1' Ho2' Ho3']
  · isplitl [Ht]; · iexact Ht
    isplitl [Hi]; · iexact Hi
    isplitl [Ho0']; · iexact Ho0'
    isplitl [Ho1']; · iexact Ho1'
    isplitl [Ho2']; · iexact Ho2'
    iexact Ho3'
  isplitl [Hs' Ha' Hb' Hbufs]
  · isplitl [Hs']; · iexists _; iexact Hs'
    isplitl [Ha']; · iexists _; iexact Ha'
    isplitl [Hb']; · iexists _; iexact Hb'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  simp only [Finset.mem_insert] at hp
  rcases hp with hp | hp | hp | hp | hp | hp | hp | hp | hp | hp
  iterate 9 exact .inr (hp ▸ rfl)
  exact .inl hp

end Tile

end Gath

end Cert.Proof.Whole

end
-- ==== Proof.KDealG.lean ====
/-
  Dealing the gather call's operands to its thirty-two tasks.
-/
module

public import proofs.«01_k».proof.Proof.KTileG

@[expose] public section

noncomputable section

namespace Cert.Proof.Whole.Gath

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix2 ix1)

variable {F : FTy → Type} [FloatOps F]

local notation "𝕄" => MT nD τ sig (HIx 2) (Elt F) ℕ UU ℕ

/-- The coordinates of the task on SparseCore `c`, vector subcore `s`. -/
def coordsV (c : Fin 2) (s : Fin 16) : grid4.Coords :=
  fun | 0 => (c : Fin 2) | 1 => (s : Fin 16) | ⟨_ + 2, h⟩ => absurd h (Nat.not_lt.2 (Nat.le_add_left _ _))

/-! ## Dealing the operands to the tasks -/

local notation "oV" => (Memref.whole Cert.KernelIdeal.main_v20_scv : Memref Cert.KernelIdeal.sig Kind.scVector Space.hbm Cert.KernelIdeal.S16384x2x128 EltTy.f32)

/-- Chunk `k` of task `L`'s part of the result, as a set of positions. -/
def chunkSet (L : grid4.Coords) (k : Fin 4) : Finset S16384x2x128.Idx :=
  ((oV).slice (oChunkR L k) (fun _ => rfl)).view.set

/-- A position lies in chunk `k` of task `L` exactly when its row's block of 128 is the `4 w + k`-th. -/
theorem mem_chunkSet (L : grid4.Coords) (k : Fin 4) (x : S16384x2x128.Idx) :
    x ∈ chunkSet L k ↔ (x 0).val / 128 = 4 * (wid L).val + k.val := by
  have hk := k.isLt
  constructor
  · intro hx
    obtain ⟨y, -, rfl⟩ := Finset.mem_map.mp hx
    have h0 : (y 0).val < 128 := (y 0).isLt
    rw [chunk_emb]
    show (512 * (wid L).val + 128 * k.val + (y 0).val) / 128 = _
    omega
  · intro hx
    refine Finset.mem_map.mpr ⟨ValueIdx.ix3 (⟨(x 0).val % 128, Nat.mod_lt _ (by norm_num)⟩ : Fin 128) (x 1 : Fin 2) (x 2 : Fin 128), Finset.mem_univ _, ?_⟩
    rw [chunk_emb]
    funext a
    match a with
    | 0 => apply Fin.ext; show 512 * (wid L).val + 128 * k.val + (x 0).val % 128 = (x 0).val; omega
    | 1 => rfl
    | 2 => rfl

theorem wid_coordsV (c : Fin 2) (s : Fin 16) : (wid (coordsV c s)).val = 2 * s.val + c.val := rfl

/-- The number of a task among 32, as an equivalence. -/
def task : Fin 2 × Fin 16 ≃ Fin 32 where
  toFun p := wid (coordsV p.1 p.2)
  invFun w := (⟨w.val % 2, by omega⟩, ⟨w.val / 2, by omega⟩)
  left_inv p := by
    have h0 := p.1.isLt; have h1 := p.2.isLt
    refine Prod.ext (Fin.ext ?_) (Fin.ext ?_)
    · show (wid (coordsV p.1 p.2)).val % 2 = _; rw [wid_coordsV]; omega
    · show (wid (coordsV p.1 p.2)).val / 2 = _; rw [wid_coordsV]; omega
  right_inv w := by apply Fin.ext; rw [wid_coordsV]; show 2 * (w.val / 2) + w.val % 2 = _; omega

theorem chunks_disjoint : ∀ p ∈ (Finset.univ : Finset ((Fin 2 × Fin 16) × Fin 4)), ∀ p' ∈ (Finset.univ : Finset ((Fin 2 × Fin 16) × Fin 4)), p ≠ p' →
    Disjoint (chunkSet (coordsV p.1.1 p.1.2) p.2) (chunkSet (coordsV p'.1.1 p'.1.2) p'.2) := by
  intro p _ p' _ hne
  refine Finset.disjoint_left.mpr fun x hx hx' => hne ?_
  rw [mem_chunkSet, wid_coordsV] at hx hx'
  have a := p.1.1.isLt; have b := p.1.2.isLt; have c := p.2.isLt
  have a' := p'.1.1.isLt; have b' := p'.1.2.isLt; have c' := p'.2.isLt
  refine Prod.ext (Prod.ext (Fin.ext ?_) (Fin.ext ?_)) (Fin.ext ?_) <;> omega

theorem chunks_cover : (Finset.univ : Finset ((Fin 2 × Fin 16) × Fin 4)).biUnion (fun p => chunkSet (coordsV p.1.1 p.1.2) p.2) = Finset.univ := by
  refine Finset.eq_univ_of_forall fun x => ?_
  have hx : (x 0).val < 16384 := (x 0).isLt
  refine Finset.mem_biUnion.mpr ⟨((⟨(x 0).val / 512 % 2, by omega⟩, ⟨(x 0).val / 1024, by omega⟩), ⟨(x 0).val / 128 % 4, by omega⟩), Finset.mem_univ _, ?_⟩
  rw [mem_chunkSet, wid_coordsV]
  show _ = 4 * (2 * ((x 0).val / 1024) + (x 0).val / 512 % 2) + (x 0).val / 128 % 4
  omega

/-- The share of the table and of the list that task `L` reads at. -/
def qOf (L : grid4.Coords) : PosShare TreeShare := Transfers.shareTok fullShare 32 (wid L)

/-- What task `L` is handed (`f` the launch contents of the result) and hands back (`f` the gathered rows). -/
def tile (d : Dev nD) (tb : Buf (Elt F) (tLoc d)) (ix : Buf (Elt F) (iLoc d)) (f : Buf (Elt F) (oLoc d)) (L : grid4.Coords) : sProp 𝕄 :=
  iprop(tPts d L (qOf L) tb ∗ iPts d L (qOf L) ix ∗ oPts0 d L f ∗ oPts1 d L f ∗ oPts2 d L f ∗ oPts3 d L f)

set_option synthInstance.maxHeartbeats 400000 in
instance tile_storable (d : Dev nD) (tb : Buf (Elt F) (tLoc d)) (ix : Buf (Elt F) (iLoc d)) (f : Buf (Elt F) (oLoc d)) (L : grid4.Coords) :
    BI.Storable (upEmb : UEmb _ 𝕄) (tile d tb ix f L) := by unfold tile; infer_instance

/-- All 32 tasks' operands, SparseCore by SparseCore. -/
def tiles (d : Dev nD) (tb : Buf (Elt F) (tLoc d)) (ix : Buf (Elt F) (iLoc d)) (f : Buf (Elt F) (oLoc d)) (c : Fin 2) : sProp 𝕄 :=
  bigSep Finset.univ fun s : Fin 16 => tile d tb ix f (coordsV c s)

/-- What remains of the table and of the list beside the tasks' shares. -/
def rest (d : Dev nD) (tb : Buf (Elt F) (tLoc d)) (ix : Buf (Elt F) (iLoc d)) : sProp 𝕄 :=
  iprop((tLoc d ↦{Transfers.shareDrop fullShare 32} tb) ∗ iLoc d ↦{Transfers.shareDrop fullShare 32} ix)

theorem oPts_chunks (d : Dev nD) (f : Buf (Elt F) (oLoc d)) :
    (oLoc d ↦{fullShare} f : sProp 𝕄)
      = bigSep Finset.univ fun c : Fin 2 => bigSep Finset.univ fun s : Fin 16 =>
          iprop(oPts0 d (coordsV c s) f ∗ oPts1 d (coordsV c s) f ∗ oPts2 d (coordsV c s) f ∗ oPts3 d (coordsV c s) f) := by
  have h := pointsTo_biUnion (Ix := HIx 2) (Val := Elt F) (Name := ℕ) (U := UU) (Lvl := ℕ) (ℓ := oLoc d) (q := fullShare) (f := f) Finset.univ
    (fun p : (Fin 2 × Fin 16) × Fin 4 => chunkSet (coordsV p.1.1 p.1.2) p.2) chunks_disjoint
  rw [chunks_cover] at h
  rw [h, bigSep_univ_prod, bigSep_univ_prod]
  refine bigSep_congr fun c _ => bigSep_congr fun s _ => ?_
  rw [show (Finset.univ : Finset (Fin 4)) = {0, 1, 2, 3} by decide, SparseCore.bigSep_insert' (by decide), SparseCore.bigSep_insert' (by decide),
    SparseCore.bigSep_insert' (by decide), bigSep_singleton]
  rfl

theorem toks (ℓ : Loc nD τ sig) (f : Buf (Elt F) ℓ) :
    (ℓ ↦{fullShare} f : sProp 𝕄) = iprop((ℓ ↦{Transfers.shareDrop fullShare 32} f)
      ∗ bigSep Finset.univ fun c : Fin 2 => bigSep Finset.univ fun s : Fin 16 => ℓ ↦{qOf (coordsV c s)} f) := by
  have h := Transfers.pointsTo_toks (Ix := HIx 2) (Val := Elt F) (Name := ℕ) (U := UU) (Lvl := ℕ) (ℓ := ℓ) (S := Finset.univ) (f := f) fullShare 32
  rw [bigSep_univ_equiv task, bigSep_univ_prod] at h
  exact Entails.antisymm h.1 h.2

/-- The operands held whole are the tasks' and what remains. -/
theorem deal (d : Dev nD) (tb : Buf (Elt F) (tLoc d)) (ix : Buf (Elt F) (iLoc d)) (f : Buf (Elt F) (oLoc d)) :
    (iprop((tLoc d ↦{fullShare} tb) ∗ (iLoc d ↦{fullShare} ix) ∗ oLoc d ↦{fullShare} f) : sProp 𝕄)
      ⊣⊢ iprop(rest d tb ix ∗ bigSep Finset.univ fun c : Fin 2 => tiles d tb ix f c) := by
  unfold rest tiles tile
  simp only [bigSep_sep']
  rw [toks (tLoc d) tb, toks (iLoc d) ix, oPts_chunks]
  simp only [bigSep_sep']
  constructor
  · iintro ⟨⟨Ht, Ht'⟩, ⟨Hi, Hi'⟩, Ho⟩
    isplitl [Ht Hi]
    · isplitl [Ht] <;> iassumption
    isplitl [Ht']; · iexact Ht'
    isplitl [Hi']; · iexact Hi'
    iexact Ho
  · iintro ⟨⟨Ht, Hi⟩, Ht', Hi', Ho⟩
    isplitl [Ht Ht']
    · isplitl [Ht] <;> iassumption
    isplitl [Hi Hi']
    · isplitl [Hi] <;> iassumption
    iexact Ho

end Cert.Proof.Whole.Gath

end
-- ==== Proof.KTileD.lean ====
/-
  The dispatch call's task in the whole kernel: what one vector subcore of `dispatch_sc` does. It fetches its four lists
  of 128 words and its 512 rows of the source, and writes each row to the target row that its word names.
-/
module

public import proofs.«01_k».proof.Proof.KBase

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

namespace Disp

/-! ## The call's operands -/

abbrev tLoc (d : Dev nD) : Loc nD τ sig := (SparseCore.T d).loc main_v14
abbrev iLoc (d : Dev nD) : Loc nD τ sig := (SparseCore.T d).loc main_v12
abbrev oLoc (d : Dev nD) : Loc nD τ sig := (SparseCore.T d).loc main_v15

local notation "tV" => (Memref.whole Cert.KernelIdeal.main_v14_scv : Memref Cert.KernelIdeal.sig Kind.scVector Space.hbm Cert.KernelIdeal.S8192x2x128 EltTy.f32)
local notation "iV" => (Memref.whole Cert.KernelIdeal.main_v12_scv : Memref Cert.KernelIdeal.sig Kind.scVector Space.hbm Cert.KernelIdeal.S32x4x128 EltTy.i32)
local notation "oV" => (Memref.whole Cert.KernelIdeal.main_v15_scv : Memref Cert.KernelIdeal.sig Kind.scVector Space.hbm Cert.KernelIdeal.S30720x2x128 EltTy.f32)
local notation "sV" => (Memref.whole Cert.KernelIdeal.cc1_scratch0 : Memref Cert.KernelIdeal.sig Kind.scVector Space.vmem Cert.KernelIdeal.S4x128 EltTy.i32)
local notation "aV" => (Memref.whole Cert.KernelIdeal.cc1_scratch1 : Memref Cert.KernelIdeal.sig Kind.scVector Space.vmem Cert.KernelIdeal.S128x2x128 EltTy.f32)
local notation "bV" => (Memref.whole Cert.KernelIdeal.cc1_scratch2 : Memref Cert.KernelIdeal.sig Kind.scVector Space.vmem Cert.KernelIdeal.S128x2x128 EltTy.f32)

section Tile

variable (d : Dev nD) (L : grid1.Coords)

abbrev cV (L : grid1.Coords) : Fin τ.nSC := (L 0).castLE hcore1
abbrev jV (L : grid1.Coords) : Fin τ.nSub := (L 1).castLE hsub1

theorem bound_zero : grid1.bound 0 = 2 := rfl
theorem bound_one : grid1.bound 1 = 16 := rfl

/-- The task's number, as the kernel counts its tasks: twice its subcore, plus its SparseCore. -/
def wid (L : grid1.Coords) : Fin 32 :=
  ⟨2 * (L 1).val + (L 0).val, by have h0 : (L 0).val < 2 := (L 0).isLt; have h1 : (L 1).val < 16 := (L 1).isLt; omega⟩

abbrev iRowK (L : grid1.Coords) : Memref sig .scVector .hbm S4x128 .i32 :=
  ((iV).slice (Rect.unit (s := S32x4x128) (k1_off1 L) S1x4x128.size (k1_off1_inb L)) (fun _ => rfl)).squeeze S4x128 squeezes_S1x4x128_S4x128
/-- The target as the scatters name it. -/
abbrev oW : Memref sig .scVector .hbm S30720x2x128 .f32 :=
  (oV).slice (Rect.unit (s := S30720x2x128) ![0, 0, 0] S30720x2x128.size inb_S30720x2x128_S30720x2x128_0_0_0) (fun _ => rfl)

/-- The rows that the task's own four lists name. -/
def own (ix : S32x4x128.Idx → BitVec 32) (L : grid1.Coords) (n : ℕ) : Prop :=
  ∃ (k : Fin 4) (y : Fin 128), (ix (ix3 (wid L) k y)).toNat = n

abbrev cell (d : Dev nD) (c : Fin τ.nSC) (i : Fin τ.nSub) (s : DmaSem sig) : GSem nD τ sig := (V d c i, .dma s)

theorem ownSems0_V :
    (ownSems0 (V d (cV L) (jV L)) : sProp 𝕄)
      = iprop(semVal (cell d (cV L) (jV L) cc1_scratch3.sem) 0 ∗ semVal (cell d (cV L) (jV L) cc1_scratch4.sem) 0
          ∗ semVal (cell d (cV L) (jV L) cc1_scratch5.sem) 0 ∗ semVal (cell d (cV L) (jV L) cc1_scratch6.sem) 0
          ∗ semVal (cell d (cV L) (jV L) cc1_scoped0.sem) 0
          ∗ bigSep ((((((ownCells (V d (cV L) (jV L))).erase (cell d (cV L) (jV L) cc1_scratch3.sem)).erase (cell d (cV L) (jV L) cc1_scratch4.sem)).erase
              (cell d (cV L) (jV L) cc1_scratch5.sem)).erase (cell d (cV L) (jV L) cc1_scratch6.sem)).erase (cell d (cV L) (jV L) cc1_scoped0.sem)) fun g => semVal g 0) := by
  unfold SparseCore.Cfg.ownSems0
  have hm : ∀ s : DmaSem sig, (SemLoc.dma s : SemLoc sig).isScoped .scVector = true → cell d (cV L) (jV L) s ∈ ownCells (V d (cV L) (jV L)) :=
    fun s h => (mem_ownCells (g := cell d (cV L) (jV L) s)).mpr ⟨rfl, h⟩
  have hne : ∀ s t : DmaSem sig, s ≠ t → cell d (cV L) (jV L) s ≠ cell d (cV L) (jV L) t := by
    intro s t h e; exact h (by simpa [cell] using e)
  rw [SparseCore.bigSep_erase' (hm cc1_scratch3.sem (by decide)),
    SparseCore.bigSep_erase' (Finset.mem_erase.mpr ⟨hne cc1_scratch4.sem _ (by decide), hm _ (by decide)⟩),
    SparseCore.bigSep_erase' (Finset.mem_erase.mpr ⟨hne cc1_scratch5.sem _ (by decide), Finset.mem_erase.mpr ⟨hne _ _ (by decide), hm _ (by decide)⟩⟩),
    SparseCore.bigSep_erase' (Finset.mem_erase.mpr ⟨hne cc1_scratch6.sem _ (by decide), Finset.mem_erase.mpr ⟨hne _ _ (by decide), Finset.mem_erase.mpr ⟨hne _ _ (by decide), hm _ (by decide)⟩⟩⟩),
    SparseCore.bigSep_erase' (Finset.mem_erase.mpr ⟨hne cc1_scoped0.sem _ (by decide), Finset.mem_erase.mpr ⟨hne _ _ (by decide), Finset.mem_erase.mpr ⟨hne _ _ (by decide), Finset.mem_erase.mpr ⟨hne _ _ (by decide), hm _ (by decide)⟩⟩⟩⟩)]

abbrev bufRef (L : grid1.Coords) (b : Ref sig .scVector) : DevRef τ sig := (Proc.scVector (cV L) (jV L)).devRef b

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase (bufRef L cc1_scratch0)).erase (bufRef L cc1_scratch1)).erase (bufRef L cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bufRef L cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV L) (jV L)) (b := bufRef L cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := bufRef L cc1_scratch2) rfl⟩⟩)]

abbrev tPts (q : PosShare TreeShare) (tb : Buf (Elt F) (tLoc d)) : sProp 𝕄 := (tV).view.loc (V d (cV L) (jV L)) ↦{q} tb
abbrev iPts (q : PosShare TreeShare) (ix : Buf (Elt F) (iLoc d)) : sProp 𝕄 := (iV).view.loc (V d (cV L) (jV L)) ↦{q} ix
abbrev oSet (ix : S32x4x128.Idx → BitVec 32) (L : grid1.Coords) : Finset S30720x2x128.Idx :=
  SparseCore.rowsWhere (oW).view (⟨0, by decide⟩ : Fin 3) (own ix L)
abbrev oPts (ix : S32x4x128.Idx → BitVec 32) (f : Buf (Elt F) (oLoc d)) : sProp 𝕄 :=
  (oW).view.loc (V d (cV L) (jV L)) ↦[SparseCore.rowsWhere (oW).view (⟨0, by decide⟩ : Fin 3) (own ix L)]{fullShare} f

theorem pts_tV (q : PosShare TreeShare) (tb : Buf (Elt F) (tLoc d)) : (tPts d L q tb : sProp 𝕄) = tLoc d ↦{q} tb :=
  rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f :=
  rfl
theorem pts_aV (f : Buf (Elt F) ((V d (cV L) (jV L)).loc cc1_scratch1)) :
    ((aV).view.loc (V d (cV L) (jV L)) ↦{fullShare} f : sProp 𝕄) = (V d (cV L) (jV L)).loc cc1_scratch1 ↦{fullShare} f :=
  rfl
theorem pts_bV (f : Buf (Elt F) ((V d (cV L) (jV L)).loc cc1_scratch2)) :
    ((bV).view.loc (V d (cV L) (jV L)) ↦{fullShare} f : sProp 𝕄) = (V d (cV L) (jV L)).loc cc1_scratch2 ↦{fullShare} f :=
  rfl

/-- The list a gather reads is a row of the fetched lists. -/
theorem read_list (g0 : Buf (Elt F) ((sV).view.loc (V d (cV L) (jV L)))) (pay : S4x128.Idx → Elt F .i32) (row : Fin 2 → Nat)
    (hk : ∀ a, row a + S1x128.size a ≤ S4x128.size a) (hs) (hq : (Rect.unit (s := S4x128) row S1x128.size hk).shape.Squeezes S128) (x : S128.Idx) :
    View.read (Elt F) (((sV).slice (Rect.unit (s := S4x128) row S1x128.size hk) hs).squeeze S128 hq).view
        ((sV).view.write (Elt F) g0 pay Finset.univ) x
      = pay ((Rect.unit (s := S4x128) row S1x128.size hk).emb ((Shape.reshapeEquiv hq.numel_eq) x)) := by
  have e : View.read (Elt F) (((sV).slice (Rect.unit (s := S4x128) row S1x128.size hk) hs).squeeze S128 hq).view
        ((sV).view.write (Elt F) g0 pay Finset.univ) x
      = View.read (Elt F) (sV).view ((sV).view.write (Elt F) g0 pay Finset.univ)
          ((Rect.unit (s := S4x128) row S1x128.size hk).emb ((Shape.reshapeEquiv hq.numel_eq) x)) := by
    rw [View.read_apply, View.read_apply]; rfl
  rw [e, View.read_write_univ]

theorem k1_off2_eq : ∀ i : grid1.Coords, k1_off2 i = ![512 * ((2 * (i 1).val + (i 0).val) % 16), 0, 0] := by decide +kernel
theorem k1_off3_eq : ∀ i : grid1.Coords, ∀ r : Fin 3, k1_off3 i (BitVec.ofNat 32 (32 + 32 * r.val)) = ![512 * ((2 * (i 1).val + (i 0).val) % 16) + 128 + 128 * r.val, 0, 0] := by decide +kernel

/-- The place in the lists of the word at position `r` of all. -/
def listIx (r : Fin 16384) : S32x4x128.Idx :=
  ix3 (⟨r.val / 512, by have := r.isLt; omega⟩ : Fin 32) (⟨r.val / 128 % 4, Nat.mod_lt _ (by norm_num)⟩ : Fin 4) (⟨r.val % 128, Nat.mod_lt _ (by norm_num)⟩ : Fin 128)

open scoped Classical in
/-- The scattered rows: a row that the lists name is the source's row for the word's position, and any other is as it was. -/
def scat (x : S8192x2x128.Idx → Elt F .f32) (ix : S32x4x128.Idx → BitVec 32) (f : S30720x2x128.Idx → Elt F .f32) : S30720x2x128.Idx → Elt F .f32 :=
  fun j => if h : ∃ r : Fin 16384, (ix (listIx r)).toNat = (j 0).val
    then x (ix3 (⟨(Classical.choose h).val % 8192, Nat.mod_lt _ (by norm_num)⟩ : Fin 8192) (j 1 : Fin 2) (j 2 : Fin 128)) else f j

theorem fetched (ix : Buf (Elt F) (iLoc d)) (a : Fin 4) (b : Fin 128) :
    (iRowK L).view.read (Elt F) ix (ix2 a b) = ix (ix3 (wid L) a b) := by
  rw [View.read_apply]
  show ix ((Rect.unit (s := S32x4x128) (k1_off1 L) S1x4x128.size (k1_off1_inb L)).emb (Shape.reshapeEquiv _ (ix2 a b))) = _
  rw [reshapeEquiv_ix2_1ab]
  congr 1; funext e
  have h1 := k1_off1_eq L
  match e with
  | 0 => apply Fin.ext; show k1_off1 L 0 + 1 * 0 = _; rw [h1]; rfl
  | 1 => apply Fin.ext; show k1_off1 L 1 + 1 * a.val = a.val; rw [h1]; simp
  | 2 => apply Fin.ext; show k1_off1 L 2 + 1 * b.val = b.val; rw [h1]; simp

/-- Entry `x` of row `row` of the fetched lists. -/
theorem word_list (g0 : Buf (Elt F) ((sV).view.loc (V d (cV L) (jV L)))) (ix : Buf (Elt F) (iLoc d)) (pay : S4x128.Idx → Elt F .i32)
    (hpay : pay = (iRowK L).view.read (Elt F) ix) (row : Fin 2 → Nat)
    (hk : ∀ a, row a + S1x128.size a ≤ S4x128.size a) (hs) (hq : (Rect.unit (s := S4x128) row S1x128.size hk).shape.Squeezes S128) (x : S128.Idx) :
    View.read (Elt F) (((sV).slice (Rect.unit (s := S4x128) row S1x128.size hk) hs).squeeze S128 hq).view
        ((sV).view.write (Elt F) g0 pay Finset.univ) x
      = ix (ix3 (wid L) (⟨row 0, by have := hk 0; have e : S1x128.size 0 = 1 := rfl; have e' : S4x128.size 0 = 4 := rfl; omega⟩ : Fin 4) (x 0 : Fin 128)) := by
  rw [read_list d L, hpay, ← fetched d L ix _ (x 0)]
  congr 1; funext e
  have hx : (Shape.reshapeEquiv hq.numel_eq) x = ix2 (0 : Fin 1) (x 0 : Fin 128) :=
    Shape.reshapeEquiv_eq_of_rowMajor _ (by
      show ((⟨2, ![1, 128]⟩ : Shape).rowMajor (ix2 (0 : Fin 1) (x 0 : Fin 128))).val = ((⟨1, ![128]⟩ : Shape).rowMajor x).val
      rw [Shape.rowMajor_val_two, Shape.rowMajor_val_one]; show 0 * 128 + (x 0).val = (x 0).val; omega)
  rw [hx]
  have h1 : row 1 = 0 := by have := hk 1; have e : S1x128.size 1 = 128 := rfl; have e' : S4x128.size 1 = 128 := rfl; omega
  match e with
  | 0 => apply Fin.ext; show row 0 + 1 * 0 = row 0; omega
  | 1 => apply Fin.ext; show row 1 + 1 * (x 0).val = (x 0).val; omega

/-- Row `k` of a scatter's source, as the transfer reads it. -/
theorem scatter_payload (m : Memref sig .scVector .vmem S128x2x128 .f32) (fs : Buf (Elt F) (m.view.loc (V d (cV L) (jV L))))
    (k : Fin 128) (z : (S30720x2x128.rowShape gathers_S30720x2x128_S128x2x128.axis).Idx) :
    SparseCore.scatterRowPayload (V d (cV L) (jV L)) m gathers_S30720x2x128_S128x2x128 fs k z
      = m.view.read (Elt F) fs (ValueIdx.ix3 k (z (1 : Fin 3) : Fin 2) (z (2 : Fin 3) : Fin 128)) := by
  unfold SparseCore.scatterRowPayload
  refine (congrFun (View.read_cast (m.view.slice (S128x2x128.rowRect gathers_S30720x2x128_S128x2x128.axis' k)) gathers_S30720x2x128_S128x2x128.rowShape_eq rfl fs) z).trans ?_
  unfold castContents
  show m.view.read (Elt F) fs ((S128x2x128.rowRect gathers_S30720x2x128_S128x2x128.axis' k).emb ((Shape.idxEquiv gathers_S30720x2x128_S128x2x128.rowShape_eq).symm z)) = _
  congr 1; funext a
  have hz := Shape.idxEquiv_symm_apply_val gathers_S30720x2x128_S128x2x128.rowShape_eq z
  have h0 : (z (0 : Fin 3)).val = 0 := by
    have : (z (0 : Fin 3)).val < 1 := (z (0 : Fin 3)).isLt
    omega
  match a with
  | 0 => apply Fin.ext; show k.val + 1 * (((Shape.idxEquiv gathers_S30720x2x128_S128x2x128.rowShape_eq).symm z) (0 : Fin 3)).val = k.val
         rw [hz (0 : Fin 3)]; show k.val + 1 * (z (0 : Fin 3)).val = k.val; omega
  | 1 => apply Fin.ext; show 0 + 1 * (((Shape.idxEquiv gathers_S30720x2x128_S128x2x128.rowShape_eq).symm z) (1 : Fin 3)).val = (z (1 : Fin 3)).val
         rw [hz (1 : Fin 3)]; show 0 + 1 * (z (1 : Fin 3)).val = (z (1 : Fin 3)).val; omega
  | 2 => apply Fin.ext; show 0 + 1 * (((Shape.idxEquiv gathers_S30720x2x128_S128x2x128.rowShape_eq).symm z) (2 : Fin 3)).val = (z (2 : Fin 3)).val
         rw [hz (2 : Fin 3)]; show 0 + 1 * (z (2 : Fin 3)).val = (z (2 : Fin 3)).val; omega

/-- The element of a target row that a place of the row is. -/
def inRow (j : S30720x2x128.Idx) : (S30720x2x128.rowShape gathers_S30720x2x128_S128x2x128.axis).Idx
  | (0 : Fin 3) => (0 : Fin 1) | (1 : Fin 3) => (j 1 : Fin 2) | (2 : Fin 3) => (j 2 : Fin 128)

theorem emb_row (r : Fin 30720) (z : (S30720x2x128.rowShape gathers_S30720x2x128_S128x2x128.axis).Idx) (a : Fin 3) :
    (((oW).view.slice (S30720x2x128.rowRect gathers_S30720x2x128_S128x2x128.axis r)).emb z a).val = (if a = 0 then r.val else 0) + (z a).val := by
  show (![0, 0, 0] : Fin 3 → ℕ) a + 1 * ((if a = (0 : Fin 3) then r.val else 0) + 1 * (z a).val) = _
  match a with
  | 0 => show 0 + 1 * (r.val + 1 * (z (0 : Fin 3)).val) = r.val + (z (0 : Fin 3)).val; omega
  | 1 => show 0 + 1 * (0 + 1 * (z (1 : Fin 3)).val) = 0 + (z (1 : Fin 3)).val; omega
  | 2 => show 0 + 1 * (0 + 1 * (z (2 : Fin 3)).val) = 0 + (z (2 : Fin 3)).val; omega

theorem mem_row (r : Fin 30720) (j : S30720x2x128.Idx) :
    j ∈ ((oW).view.slice (S30720x2x128.rowRect gathers_S30720x2x128_S128x2x128.axis r)).set ↔ r.val = (j 0).val := by
  constructor
  · intro h
    obtain ⟨z, -, rfl⟩ := Finset.mem_map.mp h
    have e := emb_row r z 0
    have h0 : (z (0 : Fin 3)).val < 1 := (z (0 : Fin 3)).isLt
    rw [if_pos rfl] at e
    omega
  · intro h
    refine Finset.mem_map.mpr ⟨inRow j, Finset.mem_univ _, ?_⟩
    funext a; apply Fin.ext; refine (emb_row r (inRow j) a).trans ?_
    match a with
    | 0 => show r.val + 0 = _; omega
    | 1 => show 0 + (j 1).val = _; omega
    | 2 => show 0 + (j 2).val = _; omega

theorem emb_inRow (r : Fin 30720) (j : S30720x2x128.Idx) (h : r.val = (j 0).val) :
    ((oW).view.slice (S30720x2x128.rowRect gathers_S30720x2x128_S128x2x128.axis r)).emb (inRow j) = j := by
  funext a; apply Fin.ext; refine (emb_row r (inRow j) a).trans ?_
  match a with
  | 0 => show r.val + 0 = _; omega
  | 1 => show 0 + (j 1).val = _; omega
  | 2 => show 0 + (j 2).val = _; omega

section Scatter

variable (m : Memref sig .scVector .vmem S128x2x128 .f32) (fs : Buf (Elt F) (m.view.loc (V d (cV L) (jV L)))) (f : Buf (Elt F) (oLoc d))
  (rd : S128.Idx → Elt F .i32) (hn : S128.numel = S128x2x128.size gathers_S30720x2x128_S128x2x128.axis') (hin : ∀ x, (rd x : BitVec 32).toNat < S30720x2x128.size gathers_S30720x2x128_S128x2x128.axis)

/-- A target row that the list names holds the source's row. -/
theorem scatter_hit (hinj : Function.Injective fun x => (rd x : BitVec 32).toNat) (y : Fin 128) (j : S30720x2x128.Idx)
    (hy : (rd (ix1 y) : BitVec 32).toNat = (j 0).val) :
    SparseCore.scatterBuf (V d (cV L) (jV L)) (oW).view gathers_S30720x2x128_S128x2x128.axis (SparseCore.rows rd hn hin)
        (SparseCore.scatterRowPayload (V d (cV L) (jV L)) m gathers_S30720x2x128_S128x2x128 fs) f j
      = m.view.read (Elt F) fs (ix3 y (j 1 : Fin 2) (j 2 : Fin 128)) := by
  have hy' : (SparseCore.rows rd hn hin y).val = (j 0).val := by
    refine Eq.trans ?_ hy
    unfold SparseCore.rows
    show (rd (S128.rowMajor.symm (y.cast hn.symm)) : BitVec 32).toNat = _
    have hx : S128.rowMajor.symm (y.cast hn.symm) = ix1 y := by
      rw [Equiv.symm_apply_eq]; apply Fin.ext; exact (Shape.rowMajor_val_one (d := ![128]) (ix1 y)).symm
    rw [hx]
  have hm : j ∈ ((oW).view.slice (S30720x2x128.rowRect gathers_S30720x2x128_S128x2x128.axis (SparseCore.rows rd hn hin y))).set := (mem_row _ j).mpr hy'
  refine (SparseCore.scatterBuf_of_mem (V d (cV L) (jV L)) (oW).view gathers_S30720x2x128_S128x2x128.axis (SparseCore.rows rd hn hin)
    (SparseCore.rows_injective hinj) (SparseCore.scatterRowPayload (V d (cV L) (jV L)) m gathers_S30720x2x128_S128x2x128 fs) f (k := y) hm).trans ?_
  have e := congrFun (View.read_write_univ (Val := Elt F) (v := (oW).view.slice (S30720x2x128.rowRect gathers_S30720x2x128_S128x2x128.axis (SparseCore.rows rd hn hin y))) f
    (SparseCore.scatterRowPayload (V d (cV L) (jV L)) m gathers_S30720x2x128_S128x2x128 fs y)) (inRow j)
  rw [scatter_payload] at e
  exact (congrArg ((((oW).view.slice (S30720x2x128.rowRect gathers_S30720x2x128_S128x2x128.axis (SparseCore.rows rd hn hin y)))).write (Elt F) f
    (SparseCore.scatterRowPayload (V d (cV L) (jV L)) m gathers_S30720x2x128_S128x2x128 fs y) Finset.univ) (emb_inRow _ _ hy').symm).trans e

/-- A target row that the list does not name is as it was. -/
theorem scatter_miss (j : S30720x2x128.Idx) (hy : ∀ y, (rd y : BitVec 32).toNat ≠ (j 0).val) :
    SparseCore.scatterBuf (V d (cV L) (jV L)) (oW).view gathers_S30720x2x128_S128x2x128.axis (SparseCore.rows rd hn hin)
        (SparseCore.scatterRowPayload (V d (cV L) (jV L)) m gathers_S30720x2x128_S128x2x128 fs) f j = f j := by
  refine SparseCore.scatterBuf_of_not_mem _ _ _ _ _ _ fun h => ?_
  obtain ⟨k, -, hk⟩ := Finset.mem_biUnion.mp h
  exact hy _ ((mem_row _ j).mp hk)

end Scatter

/-- Row `y` of the source's rows that the task's list `k` moves. -/
theorem srcRow (tb : Buf (Elt F) (tLoc d)) (off : Fin 3 → ℕ) (k : Fin 4) (hoff : off = ![512 * ((2 * (L 1).val + (L 0).val) % 16) + 128 * k.val, 0, 0])
    (hk) (hs) (y : Fin 128) (a : Fin 2) (b : Fin 128) (r : Fin 16384) (hr : listIx r = ix3 (wid L) k y) :
    ((tV).slice (Rect.unit (s := S8192x2x128) off S128x2x128.size hk) hs).view.read (Elt F) tb (ix3 y a b)
      = tb (ix3 (⟨r.val % 8192, Nat.mod_lt _ (by norm_num)⟩ : Fin 8192) a b) := by
  subst hoff
  rw [View.read_apply]
  show tb ((Rect.unit (s := S8192x2x128) _ S128x2x128.size hk).emb (ix3 y a b)) = _
  have e0 : r.val / 512 = 2 * (L 1).val + (L 0).val := congrArg Fin.val (congrFun hr 0)
  have e1 : r.val / 128 % 4 = k.val := congrArg Fin.val (congrFun hr 1)
  have e2 : r.val % 128 = y.val := congrArg Fin.val (congrFun hr 2)
  congr 1; funext e
  match e with
  | 0 => apply Fin.ext; show 512 * ((2 * (L 1).val + (L 0).val) % 16) + 128 * k.val + 1 * y.val = r.val % 8192; omega
  | 1 => apply Fin.ext; show 0 + 1 * a.val = a.val; omega
  | 2 => apply Fin.ext; show 0 + 1 * b.val = b.val; omega

theorem listIx_chunk (w : Fin 32) (k : Fin 4) (r : Fin 128) (h) : listIx ⟨512 * w.val + 128 * k.val + r.val, h⟩ = ix3 w k r := by
  unfold listIx
  have := k.isLt; have := r.isLt
  congr 1 <;> apply Fin.ext <;> simp only <;> omega

theorem listIx_inj {r r' : Fin 16384} (h : listIx r = listIx r') : r = r' := by
  have e0 : r.val / 512 = r'.val / 512 := congrArg Fin.val (congrFun h 0)
  have e1 : r.val / 128 % 4 = r'.val / 128 % 4 := congrArg Fin.val (congrFun h 1)
  have e2 : r.val % 128 = r'.val % 128 := congrArg Fin.val (congrFun h 2)
  apply Fin.ext; omega

/-- A row that the word at position `r` names. -/
theorem scat_named (x : S8192x2x128.Idx → Elt F .f32) (ix : S32x4x128.Idx → BitVec 32) (f : S30720x2x128.Idx → Elt F .f32)
    (hne : ∀ j j' : S32x4x128.Idx, (ix j : BitVec 32).toNat = (ix j' : BitVec 32).toNat → j = j') (r : Fin 16384) (j : S30720x2x128.Idx)
    (hr : (ix (listIx r)).toNat = (j 0).val) :
    scat x ix f j = x (ix3 (⟨r.val % 8192, Nat.mod_lt _ (by norm_num)⟩ : Fin 8192) (j 1 : Fin 2) (j 2 : Fin 128)) := by
  have h : ∃ r : Fin 16384, (ix (listIx r)).toNat = (j 0).val := ⟨r, hr⟩
  unfold scat
  rw [dif_pos h]
  have e : Classical.choose h = r := listIx_inj (hne _ _ ((Classical.choose_spec h).trans hr.symm))
  exact congrArg (fun r : Fin 16384 => x (ix3 (⟨r.val % 8192, Nat.mod_lt _ (by norm_num)⟩ : Fin 8192) (j 1 : Fin 2) (j 2 : Fin 128))) e

set_option maxRecDepth 16384 in
set_option maxHeartbeats 4000000 in
theorem tile_body (hF : (K (F := F)).Facts) (q : PosShare TreeShare) (tb : Buf (Elt F) (tLoc d)) (ix : Buf (Elt F) (iLoc d))
    (f0 : Buf (Elt F) (oLoc d)) (hix : ∀ j : S32x4x128.Idx, (ix j : BitVec 32).toNat < 30720)
    (hne : ∀ j j' : S32x4x128.Idx, (ix j : BitVec 32).toNat = (ix j' : BitVec 32).toNat → j = j')
    (O : CellTallies nD τ sig (HIx 2)) (W : Waits sig (HIx 2)) (hO : ∀ g, O g none = 0) :
    iprop(levAts (K (F := F)).L (K (F := F)).lev ∗ emp
        ∗ (tPts d L q tb ∗ iPts d L q ix ∗ oPts d L ix f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_dispatch_sc L tV (Memref.isWhole_whole _) iV (Memref.isWhole_whole _) oV (Memref.isWhole_whole _)
            sV (Memref.isWhole_whole _) aV (Memref.isWhole_whole _) bV (Memref.isWhole_whole _)
            cc1_scratch3 cc1_scratch4 cc1_scratch5 cc1_scratch6 cc1_scoped0)
          fun _ => iprop((tPts d L q tb ∗ iPts d L q ix ∗ oPts d L ix (scat tb ix f0))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_dispatch_sc_eq_skeleton]; unfold cc1_dispatch_sc_skel
  simp only [k1_part1_eq_skeleton, k1_part2_eq_skeleton, k1_part3_eq_skeleton]; unfold k1_part1_skel k1_part2_skel k1_part3_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fa, Ha⟩, ⟨%fb, Hb⟩, Hbufs⟩, ⟨HsemA, HsemB, HsemC, HsemD, HsemE, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  sl_exec
  have hw := fun (g0 : Buf (Elt F) ((sV).view.loc (V d (cV L) (jV L)))) => word_list d L g0 ix (tile_body.sl.dma0 d L ix) rfl
  have hin : ∀ (g0 : Buf (Elt F) ((sV).view.loc (V d (cV L) (jV L)))) (row : Fin 2 → Nat)
      (hk : ∀ a, row a + S1x128.size a ≤ S4x128.size a) (hs) (hq : (Rect.unit (s := S4x128) row S1x128.size hk).shape.Squeezes S128) (x : S128.Idx),
      (View.read (Elt F) (((sV).slice (Rect.unit (s := S4x128) row S1x128.size hk) hs).squeeze S128 hq).view
        ((sV).view.write (Elt F) g0 (tile_body.sl.dma0 d L ix) Finset.univ) x).toNat < 30720 := by
    intro g0 row hk hs hq x
    rw [hw]; exact hix _
  have hinj : ∀ (g0 : Buf (Elt F) ((sV).view.loc (V d (cV L) (jV L)))) (row : Fin 2 → Nat)
      (hk : ∀ a, row a + S1x128.size a ≤ S4x128.size a) (hs) (hq : (Rect.unit (s := S4x128) row S1x128.size hk).shape.Squeezes S128),
      Function.Injective fun x : S128.Idx => (View.read (Elt F) (((sV).slice (Rect.unit (s := S4x128) row S1x128.size hk) hs).squeeze S128 hq).view
        ((sV).view.write (Elt F) g0 (tile_body.sl.dma0 d L ix) Finset.univ) x).toNat := by
    intro g0 row hk hs hq x x' h
    have h2 := congrFun (hne _ _ ((congrArg BitVec.toNat (hw g0 row hk hs hq x)).symm.trans (h.trans (congrArg BitVec.toNat (hw g0 row hk hs hq x'))))) 2
    funext e
    match e with | 0 => exact h2
  have hown : ∀ (g0 : Buf (Elt F) ((sV).view.loc (V d (cV L) (jV L)))) (row : Fin 2 → Nat)
      (hk : ∀ a, row a + S1x128.size a ≤ S4x128.size a) (hs) (hq : (Rect.unit (s := S4x128) row S1x128.size hk).shape.Squeezes S128) (x : S128.Idx),
      own ix L (View.read (Elt F) (((sV).slice (Rect.unit (s := S4x128) row S1x128.size hk) hs).squeeze S128 hq).view
        ((sV).view.write (Elt F) g0 (tile_body.sl.dma0 d L ix) Finset.univ) x).toNat := by
    intro g0 row hk hs hq x
    rw [hw]; exact ⟨_, _, rfl⟩
  have hdis : ∀ (g0 : Buf (Elt F) ((sV).view.loc (V d (cV L) (jV L)))) (hk2 hk3) (hs2) (hs3)
      (hq2 : (Rect.unit (s := S4x128) ![2, 0] S1x128.size hk2).shape.Squeezes S128) (hq3 : (Rect.unit (s := S4x128) ![3, 0] S1x128.size hk3).shape.Squeezes S128) (x y : S128.Idx),
      (View.read (Elt F) (((sV).slice (Rect.unit (s := S4x128) ![2, 0] S1x128.size hk2) hs2).squeeze S128 hq2).view
        ((sV).view.write (Elt F) g0 (tile_body.sl.dma0 d L ix) Finset.univ) x).toNat
      ≠ (View.read (Elt F) (((sV).slice (Rect.unit (s := S4x128) ![3, 0] S1x128.size hk3) hs3).squeeze S128 hq3).view
        ((sV).view.write (Elt F) g0 (tile_body.sl.dma0 d L ix) Finset.univ) y).toNat := by
    intro g0 hk2 hk3 hs2 hs3 hq2 hq3 x y h
    have h2 := congrFun (hne _ _ ((congrArg BitVec.toNat (hw g0 _ hk2 hs2 hq2 x)).symm.trans (h.trans (congrArg BitVec.toNat (hw g0 _ hk3 hs3 hq3 y))))) 1
    exact absurd (congrArg Fin.val h2) (by show ¬ (2 : ℕ) = 3; decide)
  sl_exec
  have key : ∀ j : (oW).view.ty.Idx, j ∈ SparseCore.rowsWhere (oW).view (⟨0, by decide⟩ : Fin 3) (own ix L) → tile_body.sl.Ho_sc5 d L tb ix f0 fs fa fb hin j = scat tb ix f0 j := by
    intro j hj
    have hnm : ∃ (k : Fin 4) (y : Fin 128), (ix (ix3 (wid L) k y) : BitVec 32).toNat = ((show S30720x2x128.Idx from j) 0).val := by
      rw [SparseCore.mem_rowsWhere] at hj
      obtain ⟨i, hp, hi⟩ := hj
      have hij := (mem_row i j).mp hi
      obtain ⟨k, y, hky⟩ := hp
      exact ⟨k, y, hky.trans hij⟩
    obtain ⟨k, y, hw0⟩ := hnm
    suffices hs : ∀ j : S30720x2x128.Idx, (ix (ix3 (wid L) k y) : BitVec 32).toNat = (j 0).val →
        tile_body.sl.Ho_sc5 d L tb ix f0 fs fa fb hin j = scat tb ix f0 j from hs j hw0
    clear hw0 hj j
    intro j hw0
    have hlt : 512 * (wid L).val + 128 * k.val + y.val < 16384 := by have := (wid L).isLt; have := k.isLt; have := y.isLt; omega
    have hr := listIx_chunk (wid L) k y hlt
    rw [scat_named tb ix f0 hne ⟨_, hlt⟩ j (by rw [hr]; exact hw0)]
    have hmiss : ∀ (g0 : Buf (Elt F) ((sV).view.loc (V d (cV L) (jV L)))) (row : Fin 2 → Nat)
        (hk : ∀ a, row a + S1x128.size a ≤ S4x128.size a) (hs) (hq : (Rect.unit (s := S4x128) row S1x128.size hk).shape.Squeezes S128), row 0 ≠ k.val → ∀ x : S128.Idx,
        (View.read (Elt F) (((sV).slice (Rect.unit (s := S4x128) row S1x128.size hk) hs).squeeze S128 hq).view
          ((sV).view.write (Elt F) g0 (tile_body.sl.dma0 d L ix) Finset.univ) x).toNat ≠ (j 0).val := by
      intro g0 row hk hs hq hkk x h
      have h2 := congrFun (hne _ _ ((congrArg BitVec.toNat (hw g0 row hk hs hq x)).symm.trans (h.trans hw0.symm))) 1
      exact hkk (congrArg Fin.val h2)
    unfold tile_body.sl.Ho_sc5 tile_body.sl.Ho_sc4 tile_body.sl.Ho_sc2
    match k, hw0, hlt, hr, hmiss with
    | 0, hw0, hlt, hr, hmiss =>
      refine (scatter_miss d L _ _ _ _ _ _ j (hmiss fs _ _ _ _ (show (3 : ℕ) ≠ 0 by decide))).trans ?_
      refine (scatter_miss d L _ _ _ _ _ _ j (hmiss fs _ _ _ _ (show (2 : ℕ) ≠ 0 by decide))).trans ?_
      refine (scatter_miss d L _ _ _ _ _ _ j (hmiss fs _ _ _ _ (show (1 : ℕ) ≠ 0 by decide))).trans ?_
      refine (scatter_hit d L _ _ _ _ _ _ (hinj fs _ _ _ _) y j ((congrArg BitVec.toNat (hw fs _ _ _ _ (ix1 y))).trans hw0)).trans ?_
      refine (congrFun (View.read_write_univ _ _) _).trans ?_
      exact srcRow d L tb _ 0 (k1_off2_eq L) _ _ y _ _ _ hr
    | 1, hw0, hlt, hr, hmiss =>
      refine (scatter_miss d L _ _ _ _ _ _ j (hmiss fs _ _ _ _ (show (3 : ℕ) ≠ 1 by decide))).trans ?_
      refine (scatter_miss d L _ _ _ _ _ _ j (hmiss fs _ _ _ _ (show (2 : ℕ) ≠ 1 by decide))).trans ?_
      refine (scatter_hit d L _ _ _ _ _ _ (hinj fs _ _ _ _) y j ((congrArg BitVec.toNat (hw fs _ _ _ _ (ix1 y))).trans hw0)).trans ?_
      refine (congrFun (View.read_write_univ _ _) _).trans ?_
      exact srcRow d L tb _ 1 (k1_off3_eq L 0) _ _ y _ _ _ hr
    | 2, hw0, hlt, hr, hmiss =>
      refine (scatter_miss d L _ _ _ _ _ _ j (hmiss fs _ _ _ _ (show (3 : ℕ) ≠ 2 by decide))).trans ?_
      refine (scatter_hit d L _ _ _ _ _ _ (hinj fs _ _ _ _) y j ((congrArg BitVec.toNat (hw fs _ _ _ _ (ix1 y))).trans hw0)).trans ?_
      refine (congrFun (View.read_write_univ _ _) _).trans ?_
      exact srcRow d L tb _ 2 (k1_off3_eq L 1) _ _ y _ _ _ hr
    | 3, hw0, hlt, hr, hmiss =>
      refine (scatter_hit d L _ _ _ _ _ _ (hinj fs _ _ _ _) y j ((congrArg BitVec.toNat (hw fs _ _ _ _ (ix1 y))).trans hw0)).trans ?_
      refine (congrFun (View.read_write_univ _ _) _).trans ?_
      exact srcRow d L tb _ 3 (k1_off3_eq L 2) _ _ y _ _ _ hr
  ihave Ho' := (Entails.of_eq (show (oPts d L ix (tile_body.sl.Ho_sc5 d L tb ix f0 fs fa fb hin) : sProp 𝕄) = oPts d L ix (scat tb ix f0) from pointsTo_congr key)) $$ Ho
  sl_step
  isplitl [Hi Ht Ho']
  · isplitl [Ht]; · iexact Ht
    isplitl [Hi]; · iexact Hi
    iexact Ho'
  isplitl [Hs' Ha' Hb' Hbufs]
  · isplitl [Hs']; · iexists _; iexact Hs'
    isplitl [Ha']; · iexists _; iexact Ha'
    isplitl [Hb']; · iexists _; iexact Hb'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  simp only [Finset.mem_insert] at hp
  rcases hp with hp | hp | hp | hp | hp | hp | hp | hp | hp | hp
  iterate 9 exact .inr (hp ▸ rfl)
  exact .inl hp

end Tile

end Disp

end Cert.Proof.Whole

end
-- ==== Proof.KDealD.lean ====
/-
  Dealing the dispatch call's operands to its thirty-two tasks.
-/
module

public import proofs.«01_k».proof.Proof.KTileD

@[expose] public section

noncomputable section

namespace Cert.Proof.Whole.Disp

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The coordinates of the task on SparseCore `c`, vector subcore `s`. -/
def coordsV (c : Fin 2) (s : Fin 16) : grid1.Coords :=
  fun | 0 => (c : Fin 2) | 1 => (s : Fin 16) | ⟨_ + 2, h⟩ => absurd h (Nat.not_lt.2 (Nat.le_add_left _ _))

theorem wid_coordsV (c : Fin 2) (s : Fin 16) : (wid (coordsV c s)).val = 2 * s.val + c.val := rfl

/-- The number of a task among 32, as an equivalence. -/
def task : Fin 2 × Fin 16 ≃ Fin 32 where
  toFun p := wid (coordsV p.1 p.2)
  invFun w := (⟨w.val % 2, by omega⟩, ⟨w.val / 2, by omega⟩)
  left_inv p := by
    have h0 := p.1.isLt; have h1 := p.2.isLt
    refine Prod.ext (Fin.ext ?_) (Fin.ext ?_)
    · show (wid (coordsV p.1 p.2)).val % 2 = _; rw [wid_coordsV]; omega
    · show (wid (coordsV p.1 p.2)).val / 2 = _; rw [wid_coordsV]; omega
  right_inv w := by apply Fin.ext; rw [wid_coordsV]; show 2 * (w.val / 2) + w.val % 2 = _; omega

/-- The share of the table and of the lists that task `L` reads at. -/
def qOf (L : grid1.Coords) : PosShare TreeShare := Transfers.shareTok fullShare 32 (wid L)

/-- Two tasks name different rows: the words are distinct. -/
theorem own_disjoint (ix : S32x4x128.Idx → BitVec 32) (hne : ∀ j j' : S32x4x128.Idx, (ix j : BitVec 32).toNat = (ix j' : BitVec 32).toNat → j = j') :
    ∀ p ∈ (Finset.univ : Finset (Fin 2 × Fin 16)), ∀ p' ∈ (Finset.univ : Finset (Fin 2 × Fin 16)), p ≠ p' →
      Disjoint (oSet ix (coordsV p.1 p.2)) (oSet ix (coordsV p'.1 p'.2)) := by
  intro p _ p' _ hpp
  refine SparseCore.rowsWhere_disjoint _ _ fun n h h' => hpp ?_
  obtain ⟨k, y, e⟩ := h
  obtain ⟨k', y', e'⟩ := h'
  have := congrFun (hne _ _ (e.trans e'.symm)) (0 : Fin 3)
  exact task.injective this

/-- The rows that some task names. -/
def named (ix : S32x4x128.Idx → BitVec 32) : Finset S30720x2x128.Idx :=
  (Finset.univ : Finset (Fin 2 × Fin 16)).biUnion fun p => oSet ix (coordsV p.1 p.2)

/-- Outside the named rows nothing is scattered. -/
theorem scat_off (x : S8192x2x128.Idx → Elt F .f32) (ix : S32x4x128.Idx → BitVec 32) (f : S30720x2x128.Idx → Elt F .f32) (j : S30720x2x128.Idx)
    (hj : j ∉ named ix) : scat x ix f j = f j := by
  unfold scat
  rw [dif_neg]
  rintro ⟨r, hr⟩
  apply hj
  have hr' := r.isLt
  unfold named
  rw [Finset.mem_biUnion]
  refine ⟨task.symm (⟨r.val / 512, by omega⟩ : Fin 32), Finset.mem_univ _, ?_⟩
  rw [SparseCore.mem_rowsWhere]
  refine ⟨(j (0 : Fin 3) : Fin 30720), ⟨(⟨r.val / 128 % 4, Nat.mod_lt _ (by norm_num)⟩ : Fin 4), (⟨r.val % 128, Nat.mod_lt _ (by norm_num)⟩ : Fin 128), ?_⟩, (mem_row _ j).mpr rfl⟩
  rw [← hr]
  exact congrArg (fun w : Fin 32 => (ix (ValueIdx.ix3 w (⟨r.val / 128 % 4, Nat.mod_lt _ (by norm_num)⟩ : Fin 4) (⟨r.val % 128, Nat.mod_lt _ (by norm_num)⟩ : Fin 128))).toNat)
    (task.apply_symm_apply (⟨r.val / 512, by omega⟩ : Fin 32))

/-- What task `L` is handed (`f` the launch contents of the target) and hands back (`f` the scattered rows). -/
def tile (d : Dev nD) (tb : Buf (Elt F) (tLoc d)) (ix : Buf (Elt F) (iLoc d)) (f : Buf (Elt F) (oLoc d)) (L : grid1.Coords) : sProp 𝕄 :=
  iprop(tPts d L (qOf L) tb ∗ iPts d L (qOf L) ix ∗ oPts d L ix f)

instance tile_storable (d : Dev nD) (tb : Buf (Elt F) (tLoc d)) (ix : Buf (Elt F) (iLoc d)) (f : Buf (Elt F) (oLoc d)) (L : grid1.Coords) :
    BI.Storable (upEmb : UEmb _ 𝕄) (tile d tb ix f L) := by unfold tile; infer_instance

/-- All 32 tasks' operands, SparseCore by SparseCore. -/
def tiles (d : Dev nD) (tb : Buf (Elt F) (tLoc d)) (ix : Buf (Elt F) (iLoc d)) (f : Buf (Elt F) (oLoc d)) (c : Fin 2) : sProp 𝕄 :=
  bigSep Finset.univ fun s : Fin 16 => tile d tb ix f (coordsV c s)

/-- What remains beside the tasks' parts: shares of the table and the lists, and the rows that no task names. -/
def rest (d : Dev nD) (tb : Buf (Elt F) (tLoc d)) (ix : Buf (Elt F) (iLoc d)) (f : Buf (Elt F) (oLoc d)) : sProp 𝕄 :=
  iprop((tLoc d ↦{Transfers.shareDrop fullShare 32} tb) ∗ (iLoc d ↦{Transfers.shareDrop fullShare 32} ix) ∗ oLoc d ↦[Finset.univ \ named ix]{fullShare} f)

theorem rest_scat (d : Dev nD) (tb : Buf (Elt F) (tLoc d)) (ix : Buf (Elt F) (iLoc d)) (f : Buf (Elt F) (oLoc d)) :
    (rest d tb ix f : sProp 𝕄) = rest d tb ix (scat tb ix f) := by
  unfold rest
  have e : (oLoc d ↦[Finset.univ \ named ix]{fullShare} f : sProp 𝕄) = oLoc d ↦[Finset.univ \ named ix]{fullShare} scat tb ix f :=
    pointsTo_congr fun j hj => (scat_off tb ix f j (by rw [Finset.mem_sdiff] at hj; exact hj.2)).symm
  rw [e]

theorem oPts_own (d : Dev nD) (ix : Buf (Elt F) (iLoc d)) (f : Buf (Elt F) (oLoc d))
    (hne : ∀ j j' : S32x4x128.Idx, (ix j : BitVec 32).toNat = (ix j' : BitVec 32).toNat → j = j') :
    (oLoc d ↦{fullShare} f : sProp 𝕄)
      = iprop((bigSep Finset.univ fun c : Fin 2 => bigSep Finset.univ fun s : Fin 16 => oPts d (coordsV c s) ix f)
          ∗ oLoc d ↦[Finset.univ \ named ix]{fullShare} f) := by
  have h := pointsTo_biUnion (Ix := HIx 2) (Val := Elt F) (Name := ℕ) (U := UU) (Lvl := ℕ) (ℓ := oLoc d) (q := fullShare) (f := f) Finset.univ
    (fun p : Fin 2 × Fin 16 => oSet ix (coordsV p.1 p.2)) (own_disjoint ix hne)
  have h2 := pointsTo_split_subset (Ix := HIx 2) (Val := Elt F) (Name := ℕ) (U := UU) (Lvl := ℕ) (ℓ := oLoc d) (q := fullShare) (f := f)
    (S := Finset.univ) (I := named ix) (Finset.subset_univ _)
  refine (Entails.antisymm h2.1 h2.2).trans ?_
  have h' := h.trans (bigSep_univ_prod (α := Fin 2) (β := Fin 16) _)
  exact congrArg (fun X : sProp 𝕄 => iprop(X ∗ oLoc d ↦[Finset.univ \ named ix]{fullShare} f)) h'

theorem toks (ℓ : Loc nD τ sig) (f : Buf (Elt F) ℓ) :
    (ℓ ↦{fullShare} f : sProp 𝕄) = iprop((ℓ ↦{Transfers.shareDrop fullShare 32} f)
      ∗ bigSep Finset.univ fun c : Fin 2 => bigSep Finset.univ fun s : Fin 16 => ℓ ↦{qOf (coordsV c s)} f) := by
  have h := Transfers.pointsTo_toks (Ix := HIx 2) (Val := Elt F) (Name := ℕ) (U := UU) (Lvl := ℕ) (ℓ := ℓ) (S := Finset.univ) (f := f) fullShare 32
  rw [bigSep_univ_equiv task, bigSep_univ_prod] at h
  exact Entails.antisymm h.1 h.2

/-- The operands held whole are the tasks' and what remains. -/
theorem deal (d : Dev nD) (tb : Buf (Elt F) (tLoc d)) (ix : Buf (Elt F) (iLoc d)) (f : Buf (Elt F) (oLoc d))
    (hne : ∀ j j' : S32x4x128.Idx, (ix j : BitVec 32).toNat = (ix j' : BitVec 32).toNat → j = j') :
    (iprop((tLoc d ↦{fullShare} tb) ∗ (iLoc d ↦{fullShare} ix) ∗ oLoc d ↦{fullShare} f) : sProp 𝕄)
      ⊣⊢ iprop(rest d tb ix f ∗ bigSep Finset.univ fun c : Fin 2 => tiles d tb ix f c) := by
  unfold rest tiles tile
  simp only [bigSep_sep']
  rw [toks (tLoc d) tb, toks (iLoc d) ix, oPts_own d ix f hne]
  constructor
  · iintro ⟨⟨Ht, Ht'⟩, ⟨Hi, Hi'⟩, ⟨Ho, Ho'⟩⟩
    isplitl [Ht Hi Ho']
    · isplitl [Ht]; · iexact Ht
      isplitl [Hi] <;> iassumption
    isplitl [Ht']; · iexact Ht'
    isplitl [Hi']; · iexact Hi'
    iexact Ho
  · iintro ⟨⟨Ht, Hi, Ho'⟩, Ht', Hi', Ho⟩
    isplitl [Ht Ht']
    · isplitl [Ht] <;> iassumption
    isplitl [Hi Hi']
    · isplitl [Hi] <;> iassumption
    isplitl [Ho] <;> iassumption

end Cert.Proof.Whole.Disp

end
-- ==== Proof.KVal.lean ====
/-
  The whole program's values: the host operations between the calls, what every array holds along the program, and the four
  pipelines' regions between those contents.
-/
module

public import Idealize.ShloMosaic.Lib.Pipeline.FrameSuffix
public import proofs.«01_k».proof.Proof.KReg0
public import proofs.«01_k».proof.Proof.KReg2
public import proofs.«01_k».proof.Proof.KReg3
public import proofs.«01_k».proof.Proof.KReg5
public import proofs.«01_k».proof.Proof.KDealG
public import proofs.«01_k».proof.Proof.KDealD

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

/-- A pipeline's region from its proof data alone: it leaves its arrays at what it wrote, everything else as it was. -/
theorem RegionOK.of {a : (p : Fin 4) → (pcfgs (F := F) p).Adm}
    {pdats : (p : Fin 4) → (c : Dev nD) → Dat τ (Elt F) (HIx 2) ℕ UU ℕ (Pipeline.pin (pcfgs (F := F)) a p) c}
    {p : Fin 4} {n : ℕ} {W : Dev nD → Valuation τ sig (Elt F)}
    (kit : Pipeline.PLaunchFacts₀ (nD := nD) (τ := τ) (pcfgs (F := F)) p)
    (hbody : ∀ c, BodyObligation (pdats p c) (defs₀ (F := F)) 𝒱₀ none Set.univ)
    (howed : ∀ c t, (pdats p c).owed t = (K (F := F)).Otc c n)
    (hrec : ∀ c t, (pdats p c).recorded t = seen (F := F) c n)
    (hq : ∀ c w, (pdats p c).q w = Pipeline.shareOf (Pipeline.pin (pcfgs (F := F)) a p).spec w)
    (hΦ : ∀ c t, (pdats p c).Φ t = iprop(Pipeline.scopedRest (Pipeline.pin (pcfgs (F := F)) a p).spec c
      ∗ Pipeline.prefHeld (pcfgs (F := F) p).pre c (fun _ => fullShare) (a p).1))
    (hA : ∀ c w, (pdats p c).A w = W c (Proc.devRef .tc (arrRef (Pipeline.pin (pcfgs (F := F)) a p).spec w)))
    (hT : ∀ c k, (a p).1 k = W c (Proc.devRef .tc ((pcfgs (F := F) p).pre.ref k))) :
    RegionOK a pdats p n W (fun c => Pipeline.withArrays (Pipeline.pin (pcfgs (F := F)) a p).spec c (W c)
      (fun w => (pdats p c).arrAt w (Pipeline.pin (pcfgs (F := F)) a p).N)) where
  kit := kit
  hbody c := (hbody c).loose
  howed := howed
  hrec := hrec
  hq c w _ := hq c w
  hΦ := hΦ
  hW c w := hA c w
  hT := hT
  hW' c w := ((pdats p c).withArrays_arrAt kit.sharedIn (W c) (hA c) w).symm
  hrest c b hb := by
    unfold Pipeline.withArrays
    rw [dif_neg]
    rintro ⟨w, rfl⟩
    exact hb (Finset.mem_map.mpr ⟨_, Finset.mem_image.mpr ⟨w, Finset.mem_univ _, rfl⟩, rfl⟩)

/-! ## The host operations between the calls -/

/-- Before the router: the operands in the layout the pipelines read. -/
def opsR : List (HloOp τ sig (Elt F)) :=
  [StableHlo.reshape main_arg0 main_v0 (rfl : (.f32 : EltTy) = .f32) shapeCasts_S1x2048x1024_S2048x1024,
   StableHlo.reshape main_arg1 main_v1 (rfl : (.f32 : EltTy) = .f32) shapeCasts_S1x2048_S2048x1,
   StableHlo.reshape main_arg3 main_v2 (rfl : (.f32 : EltTy) = .f32) shapeCasts_S8_S1x8,
   StableHlo.reshape main_arg4 main_v3 (rfl : (.f32 : EltTy) = .f32) shapeCasts_S8_S1x8]

/-- Before the dispatch: the list of rows from the slots, the table of steps, and the tokens in rows of 256. -/
def opsB : List (HloOp τ sig (Elt F)) :=
  [StableHlo.nullary main_c (constantI S_ 32 4#32),
   StableHlo.unary main_c main_v5 (broadcastInDim S4096x1 ![] bcast_S_S4096x1 : (⟨S_, .i32⟩ : BufTy).Contents (Elt F) → (⟨S4096x1, .i32⟩ : BufTy).Contents (Elt F)),
   StableHlo.binary main_v4_1 main_v5 main_v6 (muli : (⟨S4096x1, .i32⟩ : BufTy).Contents (Elt F) → (⟨S4096x1, .i32⟩ : BufTy).Contents (Elt F) → (⟨S4096x1, .i32⟩ : BufTy).Contents (Elt F)),
   StableHlo.nullary main_v7 (iotaInDim S4 32 0),
   StableHlo.unary main_v7 main_v8 (broadcastInDim S1x4 ![1] bcast_S4_S1x4_1 : (⟨S4, .i32⟩ : BufTy).Contents (Elt F) → (⟨S1x4, .i32⟩ : BufTy).Contents (Elt F)),
   StableHlo.unary main_v6 main_v9 (broadcastInDim S4096x4 ![0, 1] bcast_S4096x1_S4096x4_0_1 : (⟨S4096x1, .i32⟩ : BufTy).Contents (Elt F) → (⟨S4096x4, .i32⟩ : BufTy).Contents (Elt F)),
   StableHlo.unary main_v8 main_v10 (broadcastInDim S4096x4 ![0, 1] bcast_S1x4_S4096x4_0_1 : (⟨S1x4, .i32⟩ : BufTy).Contents (Elt F) → (⟨S4096x4, .i32⟩ : BufTy).Contents (Elt F)),
   StableHlo.binary main_v9 main_v10 main_v11 (addi : (⟨S4096x4, .i32⟩ : BufTy).Contents (Elt F) → (⟨S4096x4, .i32⟩ : BufTy).Contents (Elt F) → (⟨S4096x4, .i32⟩ : BufTy).Contents (Elt F)),
   StableHlo.reshape main_v11 main_v12 (rfl : (.i32 : EltTy) = .i32) shapeCasts_S4096x4_S32x4x128,
   StableHlo.reshape main_v4_2 main_v13 (rfl : (.i32 : EltTy) = .i32) shapeCasts_S31x1_S31,
   StableHlo.reshape main_v0 main_v14 (rfl : (.f32 : EltTy) = .f32) shapeCasts_S2048x1024_S8192x2x128]

/-- After the dispatch. -/
def opC : HloOp τ sig (Elt F) := StableHlo.reshape main_v15 main_v16 (rfl : (.f32 : EltTy) = .f32) shapeCasts_S30720x2x128_S7680x1024
/-- After the grouped pass. -/
def opE : HloOp τ sig (Elt F) := StableHlo.reshape main_v18 main_v19 (rfl : (.f32 : EltTy) = .f32) shapeCasts_S7680x1024_S30720x2x128
/-- After the gather. -/
def opsF : List (HloOp τ sig (Elt F)) :=
  [StableHlo.reshape main_v20 main_v21 (rfl : (.f32 : EltTy) = .f32) shapeCasts_S16384x2x128_S4096x1024,
   StableHlo.reshape main_arg11 main_v22 (rfl : (.f32 : EltTy) = .f32) shapeCasts_S1024_S1x1024]
/-- The results. -/
def opsG : List (HloOp τ sig (Elt F)) :=
  [StableHlo.reshape main_v23 main_v24 (rfl : (.f32 : EltTy) = .f32) shapeCasts_S2048x1024_S1x2048x1024,
   StableHlo.reshape main_v4_3 main_v25 (rfl : (.f32 : EltTy) = .f32) shapeCasts_S1x1_S_]

theorem opsR_bufs : ∀ op ∈ opsR (F := F), op.bufs ⊆ ucRefs τ sig := by
  intro op h
  refine Pipeline.sub_ucRefs op ?_
  simp only [opsR, List.mem_cons, List.not_mem_nil, or_false] at h
  rcases h with rfl | rfl | rfl | rfl <;> simp
theorem opsR_fresh : ∀ op ∈ opsR (F := F), op.fresh = ∅ := by
  intro op h
  simp only [opsR, List.mem_cons, List.not_mem_nil, or_false] at h
  rcases h with rfl | rfl | rfl | rfl <;> rfl
theorem opsB_bufs : ∀ op ∈ opsB (F := F), op.bufs ⊆ ucRefs τ sig := by
  intro op h
  refine Pipeline.sub_ucRefs op ?_
  simp only [opsB, List.mem_cons, List.not_mem_nil, or_false] at h
  rcases h with rfl | rfl | rfl | rfl | rfl | rfl | rfl | rfl | rfl | rfl | rfl <;> simp
theorem opsB_fresh : ∀ op ∈ opsB (F := F), op.fresh = ∅ := by
  intro op h
  simp only [opsB, List.mem_cons, List.not_mem_nil, or_false] at h
  rcases h with rfl | rfl | rfl | rfl | rfl | rfl | rfl | rfl | rfl | rfl | rfl <;> rfl
theorem opC_bufs : (opC (F := F)).bufs ⊆ ucRefs τ sig := Pipeline.sub_ucRefs _ (by simp [opC])
theorem opE_bufs : (opE (F := F)).bufs ⊆ ucRefs τ sig := Pipeline.sub_ucRefs _ (by simp [opE])
theorem opsF_bufs : ∀ op ∈ opsF (F := F), op.bufs ⊆ ucRefs τ sig := by
  intro op h
  refine Pipeline.sub_ucRefs op ?_
  simp only [opsF, List.mem_cons, List.not_mem_nil, or_false] at h
  rcases h with rfl | rfl <;> simp
theorem opsF_fresh : ∀ op ∈ opsF (F := F), op.fresh = ∅ := by
  intro op h
  simp only [opsF, List.mem_cons, List.not_mem_nil, or_false] at h
  rcases h with rfl | rfl <;> rfl
theorem opsG_bufs : ∀ op ∈ opsG (F := F), op.bufs ⊆ ucRefs τ sig := by
  intro op h
  refine Pipeline.sub_ucRefs op ?_
  simp only [opsG, List.mem_cons, List.not_mem_nil, or_false] at h
  rcases h with rfl | rfl <;> simp
theorem opsG_fresh : ∀ op ∈ opsG (F := F), op.fresh = ∅ := by
  intro op h
  simp only [opsG, List.mem_cons, List.not_mem_nil, or_false] at h
  rcases h with rfl | rfl <;> rfl

/-! ## The arrays' contents along the program -/

abbrev rf (b : Ref sig .tc) : DevRef τ sig := Proc.devRef .tc b

variable (m : (ℓ : Loc nD τ sig) → Buf (Elt F) ℓ) (a3 : (pcfg3 (F := F)).Adm)

/-- At the launch. -/
def V0 (d : Dev nD) : Valuation τ sig (Elt F) := fun b => m (d, b)
/-- Before the router. -/
def VA (d : Dev nD) : Valuation τ sig (Elt F) := after opsR (V0 m d)
/-- After the router. -/
def VB (d : Dev nD) : Valuation τ sig (Elt F) :=
  Pipeline.withArrays spec0 d (VA m d) fun w => (Reg0.dat (VA m) 0 cfg0.toPCfg_adm d).arrAt w cfg0.N
/-- Before the dispatch. -/
def VC (d : Dev nD) : Valuation τ sig (Elt F) := after opsB (VB m d)
/-- The list of rows. -/
def lst (d : Dev nD) : Buf (Elt F) (Disp.iLoc d) := VC m d (rf main_v12)
/-- The tokens as the dispatch reads them. -/
def toks (d : Dev nD) : Buf (Elt F) (Disp.tLoc d) := VC m d (rf main_v14)
/-- The target before the dispatch, and after. -/
def old (d : Dev nD) : Buf (Elt F) (Disp.oLoc d) := VC m d (rf main_v15)
def sorted (d : Dev nD) : Buf (Elt F) (Disp.oLoc d) := Disp.scat (toks m d) (lst m d) (old m d)
/-- After the dispatch. -/
def VD (d : Dev nD) : Valuation τ sig (Elt F) := Function.update (VC m d) (rf main_v15) (sorted m d)
def VE (d : Dev nD) : Valuation τ sig (Elt F) := opC.result (VD m d)
/-- After the shared expert. -/
def VF (d : Dev nD) : Valuation τ sig (Elt F) :=
  Pipeline.withArrays spec2 d (VE m d) fun w => (Reg2.dat (VE m) 1 cfg2.toPCfg_adm d).arrAt w cfg2.N
/-- After the grouped pass. -/
def VG (d : Dev nD) : Valuation τ sig (Elt F) :=
  Pipeline.withArrays spec3 d (VF m d) fun w => (Reg3.dat (VF m) 1 a3 d).arrAt w (cfg3 a3).N
def VH (d : Dev nD) : Valuation τ sig (Elt F) := opE.result (VG m a3 d)
def tbl (d : Dev nD) : Buf (Elt F) (Gath.tLoc d) := VH m a3 d (rf main_v19)
def lst' (d : Dev nD) : Buf (Elt F) (Gath.iLoc d) := VH m a3 d (rf main_v12)
def old' (d : Dev nD) : Buf (Elt F) (Gath.oLoc d) := VH m a3 d (rf main_v20)
def got (d : Dev nD) : Buf (Elt F) (Gath.oLoc d) := Gath.gath (tbl m a3 d) (lst' m a3 d)
/-- After the gather. -/
def VI (d : Dev nD) : Valuation τ sig (Elt F) := Function.update (VH m a3 d) (rf main_v20) (got m a3 d)
def VJ (d : Dev nD) : Valuation τ sig (Elt F) := after opsF (VI m a3 d)
/-- After the combining pass. -/
def VK (d : Dev nD) : Valuation τ sig (Elt F) :=
  Pipeline.withArrays spec5 d (VJ m a3 d) fun w => (Reg5.dat (VJ m a3) 2 cfg5.toPCfg_adm d).arrAt w cfg5.N
/-- At the end. -/
def VL (d : Dev nD) : Valuation τ sig (Elt F) := after opsG (VK m a3 d)

/-- The pipelines' tables. -/
def adm : (p : Fin 4) → (pcfgs (F := F) p).Adm
  | ⟨0, _⟩ => cfg0.toPCfg_adm | ⟨1, _⟩ => cfg2.toPCfg_adm | ⟨2, _⟩ => a3 | ⟨3, _⟩ => cfg5.toPCfg_adm
  | ⟨_ + 4, h⟩ => absurd h (Nat.not_lt.2 (Nat.le_add_left _ _))

/-- The pipelines' proof data. -/
def pdats : (p : Fin 4) → (c : Dev nD) → Dat τ (Elt F) (HIx 2) ℕ UU ℕ (Pipeline.pin (pcfgs (F := F)) (adm a3) p) c
  | ⟨0, _⟩, c => Reg0.dat (VA m) 0 cfg0.toPCfg_adm c
  | ⟨1, _⟩, c => Reg2.dat (VE m) 1 cfg2.toPCfg_adm c
  | ⟨2, _⟩, c => Reg3.dat (VF m) 1 a3 c
  | ⟨3, _⟩, c => Reg5.dat (VJ m a3) 2 cfg5.toPCfg_adm c
  | ⟨_ + 4, h⟩, _ => absurd h (Nat.not_lt.2 (Nat.le_add_left _ _))

/-- What the run asks: the list's words name rows and are distinct, the prefetched table is the router's, and the idle steps of the
    grouped pass stay where the last live step was. -/
structure RunOK : Prop where
  bound : ∀ d j, (lst m d j : BitVec 32).toNat < 30720
  distinct : ∀ d (j j' : S32x4x128.Idx), (lst m d j : BitVec 32).toNat = (lst m d j' : BitVec 32).toNat → j = j'
  table : ∀ d k, a3.1 k = VC m d (rf ((pcfg3 (F := F)).pre.ref k))
  idle : Reg3.Repeats a3

theorem VE_of_ne (d : Dev nD) (b : Ref sig .tc) (h1 : b ≠ main_v15) (h2 : b ≠ main_v16) : VE m d (rf b) = VC m d (rf b) := by
  unfold VE opC
  rw [StableHlo.reshape_result_ne _ _ _ _ _ _ _ h2]
  exact Function.update_of_ne (StableHlo.devRef_ne_of_ne h1) _ _

theorem VF_of_ne (d : Dev nD) (b : Ref sig .tc) (h : ∀ w, arrRef spec2 w ≠ b) : VF m d (rf b) = VE m d (rf b) :=
  Pipeline.withArrays_of_ne spec2 d _ _ b h
theorem VG_of_ne (d : Dev nD) (b : Ref sig .tc) (h : ∀ w, arrRef spec3 w ≠ b) : VG m a3 d (rf b) = VF m d (rf b) :=
  Pipeline.withArrays_of_ne spec3 d _ _ b h
theorem VH_of_ne (d : Dev nD) (b : Ref sig .tc) (h : b ≠ main_v19) : VH m a3 d (rf b) = VG m a3 d (rf b) := by
  unfold VH opE
  rw [StableHlo.reshape_result_ne _ _ _ _ _ _ _ h]

theorem lst'_eq (d : Dev nD) : lst' m a3 d = lst m d := by
  unfold lst' lst
  rw [VH_of_ne m a3 d main_v12 (by decide), VG_of_ne m a3 d main_v12 (by decide), VF_of_ne m d main_v12 (by decide),
    VE_of_ne m d main_v12 (by decide) (by decide)]

variable {m a3}

theorem table_VF (h : RunOK m a3) (d : Dev nD) (k) : a3.1 k = VF m d (rf ((pcfg3 (F := F)).pre.ref k)) := by
  match k with
  | ⟨0, _⟩ =>
    refine (h.table d (0 : Fin 1)).trans ?_
    exact ((VF_of_ne m d main_v13 (by decide)).trans (VE_of_ne m d main_v13 (by decide) (by decide))).symm
  | ⟨n + 1, hn⟩ => exact absurd hn (Nat.not_lt.2 (Nat.le_add_left _ _))

theorem region0 : RegionOK (adm a3) (pdats m a3) 0 0 (VA m) (VB m) :=
  RegionOK.of launch0.to₀ (fun c => Reg0.body_obligation (VA m) 0 cfg0.toPCfg_adm c) (fun _ _ => rfl) (fun _ _ => rfl) (fun _ _ => rfl) (fun _ _ => rfl)
    (fun _ _ => rfl) (fun _ k => k.elim0)

theorem region1 : RegionOK (adm a3) (pdats m a3) 1 1 (VE m) (VF m) :=
  RegionOK.of launch2.to₀ (fun c => Reg2.body_obligation (VE m) 1 cfg2.toPCfg_adm c) (fun _ _ => rfl) (fun _ _ => rfl) (fun _ _ => rfl) (fun _ _ => rfl)
    (fun _ _ => rfl) (fun _ k => k.elim0)

theorem region2 (h : RunOK m a3) : RegionOK (adm a3) (pdats m a3) 2 1 (VF m) (VG m a3) :=
  RegionOK.of launch3.to₀ (fun c => Reg3.body_obligation (VF m) 1 a3 h.idle c) (fun _ _ => rfl) (fun _ _ => rfl) (fun _ _ => rfl) (fun _ _ => rfl)
    (fun _ _ => rfl) (fun d k => table_VF h d k)

theorem region3 : RegionOK (adm a3) (pdats m a3) 3 2 (VJ m a3) (VK m a3) :=
  RegionOK.of launch₀5 (fun c => Reg5.body_obligation (VJ m a3) 2 cfg5.toPCfg_adm c) (fun _ _ => rfl) (fun _ _ => rfl) (fun _ _ => rfl) (fun _ _ => rfl)
    (fun _ _ => rfl) (fun _ k => k.elim0)

end Cert.Proof.Whole

end
-- ==== Proof.KVB.lean ====
/-
  What the router's arrays hold once it ran.
-/
module

public import proofs.«01_k».proof.Proof.KVal
public import Idealize.ShloMosaic.Lib.StableHlo.ReadAt

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

variable (W : Dev nD → Valuation τ sig (Elt F)) (n : ℕ) (d : Dev nD)

theorem iblk0_0 (t : Fin cfg0.N) : (Reg0.iblk W d 0 t : Vec F S2048x1024 .f32) = W d (rf main_v0) := by
  funext y
  refine congrArg (W d (rf main_v0)) (funext fun a => Fin.ext ?_)
  exact (cfg0.win 0).rect_emb_val_of_index_zero t a rfl y

theorem iblk0_1 (t : Fin cfg0.N) : (Reg0.iblk W d 1 t : Vec F S2048x1 .f32) = W d (rf main_v1) := by
  funext y
  refine congrArg (W d (rf main_v1)) (funext fun a => Fin.ext ?_)
  exact (cfg0.win 1).rect_emb_val_of_index_zero t a rfl y

theorem iblk0_2 (t : Fin cfg0.N) : (Reg0.iblk W d 2 t : Vec F S8x1024 .f32) = W d (rf main_arg2) := by
  funext y
  refine congrArg (W d (rf main_arg2)) (funext fun a => Fin.ext ?_)
  exact (cfg0.win 2).rect_emb_val_of_index_zero t a rfl y

theorem iblk0_3 (t : Fin cfg0.N) : (Reg0.iblk W d 3 t : Vec F S1x8 .f32) = W d (rf main_v2) := by
  funext y
  refine congrArg (W d (rf main_v2)) (funext fun a => Fin.ext ?_)
  exact (cfg0.win 3).rect_emb_val_of_index_zero t a rfl y

theorem iblk0_4 (t : Fin cfg0.N) : (Reg0.iblk W d 4 t : Vec F S1x8 .f32) = W d (rf main_v3) := by
  funext y
  refine congrArg (W d (rf main_v3)) (funext fun a => Fin.ext ?_)
  exact (cfg0.win 4).rect_emb_val_of_index_zero t a rfl y

/-- The router's only point. -/
abbrev t0 : Fin cfg0.N := ⟨0, by decide⟩

variable (m : (ℓ : Loc nD τ sig) → Buf (Elt F) ℓ)

theorem blk0_5 (t : Fin cfg0.N) (A : Vec F S4096x1 .f32) : ((cfg0.win 5).blk t).view.read (Elt F) A = A := by
  funext y
  refine congrArg A (funext fun a => Fin.ext ?_)
  exact (cfg0.win 5).rect_emb_val_of_index_zero t a rfl y

theorem VB_v4_0 : VB m d (rf main_v4_0) = Reg0.out5 (VA m d (rf main_v0)) (VA m d (rf main_v1)) (VA m d (rf main_arg2)) (VA m d (rf main_v2)) (VA m d (rf main_v3)) := by
  refine ((Reg0.dat (VA m) 0 cfg0.toPCfg_adm d).withArrays_arrAt (launch0 (F := F)).to₀.sharedIn (VA m d) (fun w => rfl) 5).trans ?_
  have h := Reg0.blocks_5 (VA m) 0 cfg0.toPCfg_adm d t0
  rw [iblk0_0, iblk0_1, iblk0_2, iblk0_3, iblk0_4] at h
  exact (blk0_5 t0 _).symm.trans h

theorem blk0_6 (t : Fin cfg0.N) (A : Vec F S4096x1 .i32) : ((cfg0.win 6).blk t).view.read (Elt F) A = A := by
  funext y
  refine congrArg A (funext fun a => Fin.ext ?_)
  exact (cfg0.win 6).rect_emb_val_of_index_zero t a rfl y

theorem VB_v4_1 : VB m d (rf main_v4_1) = Reg0.out6 (VA m d (rf main_v0)) (VA m d (rf main_v1)) (VA m d (rf main_arg2)) (VA m d (rf main_v2)) (VA m d (rf main_v3)) := by
  refine ((Reg0.dat (VA m) 0 cfg0.toPCfg_adm d).withArrays_arrAt (launch0 (F := F)).to₀.sharedIn (VA m d) (fun w => rfl) 6).trans ?_
  have h := Reg0.blocks_6 (VA m) 0 cfg0.toPCfg_adm d t0
  rw [iblk0_0, iblk0_1, iblk0_2, iblk0_3, iblk0_4] at h
  exact (blk0_6 t0 _).symm.trans h

theorem blk0_7 (t : Fin cfg0.N) (A : Vec F S31x1 .i32) : ((cfg0.win 7).blk t).view.read (Elt F) A = A := by
  funext y
  refine congrArg A (funext fun a => Fin.ext ?_)
  exact (cfg0.win 7).rect_emb_val_of_index_zero t a rfl y

theorem VB_v4_2 : VB m d (rf main_v4_2) = Reg0.out7 (VA m d (rf main_v0)) (VA m d (rf main_v1)) (VA m d (rf main_arg2)) (VA m d (rf main_v2)) (VA m d (rf main_v3)) := by
  refine ((Reg0.dat (VA m) 0 cfg0.toPCfg_adm d).withArrays_arrAt (launch0 (F := F)).to₀.sharedIn (VA m d) (fun w => rfl) 7).trans ?_
  have h := Reg0.blocks_7 (VA m) 0 cfg0.toPCfg_adm d t0
  rw [iblk0_0, iblk0_1, iblk0_2, iblk0_3, iblk0_4] at h
  exact (blk0_7 t0 _).symm.trans h

theorem blk0_8 (t : Fin cfg0.N) (A : Vec F S1x1 .f32) : ((cfg0.win 8).blk t).view.read (Elt F) A = A := by
  funext y
  refine congrArg A (funext fun a => Fin.ext ?_)
  exact (cfg0.win 8).rect_emb_val_of_index_zero t a rfl y

theorem VB_v4_3 : VB m d (rf main_v4_3) = Reg0.out8 (VA m d (rf main_v0)) (VA m d (rf main_v1)) (VA m d (rf main_arg2)) (VA m d (rf main_v2)) (VA m d (rf main_v3)) := by
  refine ((Reg0.dat (VA m) 0 cfg0.toPCfg_adm d).withArrays_arrAt (launch0 (F := F)).to₀.sharedIn (VA m d) (fun w => rfl) 8).trans ?_
  have h := Reg0.blocks_8 (VA m) 0 cfg0.toPCfg_adm d t0
  rw [iblk0_0, iblk0_1, iblk0_2, iblk0_3, iblk0_4] at h
  exact (blk0_8 t0 _).symm.trans h

theorem VB_of_ne (b : Ref sig .tc) (h : ∀ w, arrRef spec0 w ≠ b) : VB m d (rf b) = VA m d (rf b) :=
  Pipeline.withArrays_of_ne spec0 d _ _ b h

theorem VA_v0 : VA m d (rf main_v0) = shapeCast S2048x1024 (m (d, rf main_arg0)) shapeCasts_S1x2048x1024_S2048x1024 := by
  unfold VA opsR; after_results <;> rfl
theorem VA_v1 : VA m d (rf main_v1) = shapeCast S2048x1 (m (d, rf main_arg1)) shapeCasts_S1x2048_S2048x1 := by
  unfold VA opsR; after_results <;> rfl
theorem VA_v2 : VA m d (rf main_v2) = shapeCast S1x8 (m (d, rf main_arg3)) shapeCasts_S8_S1x8 := by
  unfold VA opsR; after_results <;> rfl
theorem VA_v3 : VA m d (rf main_v3) = shapeCast S1x8 (m (d, rf main_arg4)) shapeCasts_S8_S1x8 := by
  unfold VA opsR; after_results <;> rfl
theorem VA_arg (b : Ref sig .tc) (h0 : b ≠ main_v0) (h1 : b ≠ main_v1) (h2 : b ≠ main_v2) (h3 : b ≠ main_v3) :
    VA m d (rf b) = m (d, rf b) := by
  unfold VA opsR
  simp only [StableHlo.after]
  rw [StableHlo.reshape_result_ne _ _ _ _ _ _ _ h3, StableHlo.reshape_result_ne _ _ _ _ _ _ _ h2,
    StableHlo.reshape_result_ne _ _ _ _ _ _ _ h1, StableHlo.reshape_result_ne _ _ _ _ _ _ _ h0]
  rfl

theorem VC_v12 : VC m d (rf main_v12) = shapeCast S32x4x128
    (addi (broadcastInDim S4096x4 ![0, 1] bcast_S4096x1_S4096x4_0_1 (muli (VB m d (rf main_v4_1)) (broadcastInDim S4096x1 ![] bcast_S_S4096x1 (constantI S_ 32 4#32))))
      (broadcastInDim S4096x4 ![0, 1] bcast_S1x4_S4096x4_0_1 (broadcastInDim S1x4 ![1] bcast_S4_S1x4_1 (iotaInDim S4 32 0)))) shapeCasts_S4096x4_S32x4x128 := by
  unfold VC opsB; after_results <;> rfl
theorem VC_v13 : VC m d (rf main_v13) = shapeCast S31 (VB m d (rf main_v4_2)) shapeCasts_S31x1_S31 := by
  unfold VC opsB; after_results <;> rfl
theorem VC_v14 : VC m d (rf main_v14) = shapeCast S8192x2x128 (VB m d (rf main_v0)) shapeCasts_S2048x1024_S8192x2x128 := by
  unfold VC opsB; after_results <;> rfl

theorem VC_of_ne (b : Ref sig .tc) (h : b ∉ [main_c, main_v5, main_v6, main_v7, main_v8, main_v9, main_v10, main_v11, main_v12, main_v13, main_v14]) :
    VC m d (rf b) = VB m d (rf b) := by
  simp only [List.mem_cons, List.not_mem_nil, or_false, not_or] at h
  obtain ⟨h0, h1, h2, h3, h4, h5, h6, h7, h8, h9, h10⟩ := h
  unfold VC opsB
  simp only [StableHlo.after]
  rw [StableHlo.reshape_result_ne _ _ _ _ _ _ _ h10, StableHlo.reshape_result_ne _ _ _ _ _ _ _ h9,
    StableHlo.reshape_result_ne _ _ _ _ _ _ _ h8]
  refine (StableHlo.binary_result_ne (h := h7) ..).trans ?_
  refine (StableHlo.unary_result_ne (h := h6) ..).trans ?_
  refine (StableHlo.unary_result_ne (h := h5) ..).trans ?_
  refine (StableHlo.unary_result_ne (h := h4) ..).trans ?_
  refine (StableHlo.nullary_result_ne (h := h3) ..).trans ?_
  refine (StableHlo.binary_result_ne (h := h2) ..).trans ?_
  refine (StableHlo.unary_result_ne (h := h1) ..).trans ?_
  exact StableHlo.nullary_result_ne (h := h0) ..

end Cert.Proof.Whole
end
-- ==== Proof.KTop.lean ====
/- The two greatest of eight extended reals, equal ones in index order: as the router finds them (a maximum, the least
   index reaching it, the same again with that entry made least) and as a stable sort lists them. -/
module

public import proofs.«01_k».proof.Proof.KReg0
public import Idealize.ShloMosaic.Lib.Pointwise
public import Idealize.ShloMosaic.Lib.WordCmp
public import Idealize.ShloMosaic.Lib.SortFacts

@[expose] public section

noncomputable section

namespace Cert.Proof.Whole.Top

open Idealize.ShloMosaic

/-- `i` is the least index of a greatest entry of `f`. -/
def IsTop (f : Fin 8 → EReal) (i : Fin 8) : Prop := ∀ j, f j < f i ∨ (f j = f i ∧ i ≤ j)

theorem exists_top (f : Fin 8 → EReal) : ∃ i, IsTop f i := by
  obtain ⟨m, hm⟩ := Finite.exists_max f
  have hne : (Finset.univ.filter fun i => f i = f m).Nonempty := ⟨m, by simp⟩
  refine ⟨(Finset.univ.filter fun i => f i = f m).min' hne, fun j => ?_⟩
  have h1 : f ((Finset.univ.filter fun i => f i = f m).min' hne) = f m := (Finset.mem_filter.mp (Finset.min'_mem _ hne)).2
  rcases lt_or_eq_of_le (hm j) with h | h
  · left; rwa [h1]
  · right; exact ⟨h.trans h1.symm, Finset.min'_le _ _ (by simp [h])⟩

/-- The least index of a greatest entry. -/
def top (f : Fin 8 → EReal) : Fin 8 := Classical.choose (exists_top f)

theorem top_spec (f : Fin 8 → EReal) : IsTop f (top f) := Classical.choose_spec (exists_top f)

theorem top_unique {f : Fin 8 → EReal} {i : Fin 8} (h : IsTop f i) : i = top f := by
  have h' := top_spec f
  rcases h (top f) with h1 | ⟨h1, h2⟩ <;> rcases h' i with h3 | ⟨h3, h4⟩
  · exact absurd h1 (not_lt.mpr h3.le)
  · exact absurd h1 (not_lt.mpr h3.le)
  · exact absurd h3 (not_lt.mpr h1.le)
  · exact le_antisymm h2 h4

theorem le_top (f : Fin 8 → EReal) (j : Fin 8) : f j ≤ f (top f) := by
  rcases top_spec f j with h | h
  · exact h.le
  · exact h.1.le

theorem fold_max (b : EReal) (hb : b = ⊥) (f : Fin 8 → EReal) : Finset.fold max b f Finset.univ = f (top f) := by
  subst hb
  apply le_antisymm
  · rw [Finset.fold_max_le]; exact ⟨bot_le, fun x _ => le_top f x⟩
  · rw [Finset.le_fold_max]; exact Or.inr ⟨top f, Finset.mem_univ _, le_rfl⟩

/-- `f` with entry `i` made least. -/
def mask (f : Fin 8 → EReal) (i : Fin 8) : Fin 8 → EReal := fun j => if j = i then ⊥ else f j

/-- The second one. -/
def top2 (f : Fin 8 → EReal) : Fin 8 := top (mask f (top f))

theorem top2_ne {f : Fin 8 → EReal} (h : ∀ j, ⊥ < f j) : top2 f ≠ top f := by
  intro he
  have : ∃ j : Fin 8, j ≠ top f := by
    rcases eq_or_ne (top f) 0 with h0 | h0
    · exact ⟨1, by rw [h0]; decide⟩
    · exact ⟨0, fun h => h0 h.symm⟩
  obtain ⟨j, hj⟩ := this
  have h1 := le_top (mask f (top f)) j
  change _ ≤ mask f (top f) (top2 f) at h1
  rw [he] at h1
  unfold mask at h1
  rw [if_neg hj, if_pos rfl] at h1
  exact absurd h1 (not_le.mpr (h j))

theorem mask_top2 {f : Fin 8 → EReal} (h : ∀ j, ⊥ < f j) : mask f (top f) (top2 f) = f (top2 f) := if_neg (top2_ne h)

/-! ## The least index as the router's integer reduction finds it -/

theorem fold_min (f : Fin 8 → EReal) (m : EReal) (hm : m = f (top f)) (w : Fin 8 → BitVec 32) (hw : ∀ x, w x = BitVec.ofNat 32 x.val) :
    Finset.fold IntOp.minsi (2147483647#32) (fun x => if f x = m then w x else 8#32) Finset.univ = BitVec.ofNat 32 (top f).val := by
  subst hm
  have toI : ∀ n : ℕ, n ≤ 8 → (BitVec.ofNat 32 n).toInt = (n : ℤ) := by decide
  have key : ∀ x : Fin 8, (BitVec.ofNat 32 (top f).val).toInt ≤ (if f x = f (top f) then w x else 8#32).toInt := by
    intro x
    rw [toI _ (by omega)]
    split
    · rw [hw, toI _ (by omega)]
      rcases top_spec f x with h | h
      · exact absurd h (by rename_i h'; rw [h']; exact lt_irrefl _)
      · exact_mod_cast h.2
    · rw [show (8#32).toInt = ((8 : ℕ) : ℤ) from toI 8 le_rfl]; have := (top f).isLt; omega
  have hmin : ∀ y z : BitVec 32, (IntOp.minsi y z).toInt = min y.toInt z.toInt := by
    intro y z
    unfold IntOp.minsi
    by_cases h : y.toInt < z.toInt
    · rw [if_pos (by simpa [BitVec.slt] using h), min_eq_left h.le]
    · rw [if_neg (by simpa [BitVec.slt] using h), min_eq_right (not_lt.mp h)]
  apply BitVec.eq_of_toInt_eq
  apply le_antisymm
  · refine (Finset.fold_op_rel_iff_or (op := IntOp.minsi) (r := fun x y : BitVec 32 => y.toInt ≤ x.toInt) (fun {x y z} => ?_)).mpr
      (Or.inr ⟨top f, Finset.mem_univ _, ?_⟩)
    · show (IntOp.minsi y z).toInt ≤ x.toInt ↔ _
      rw [hmin]; exact min_le_iff
    · show (if f (top f) = f (top f) then w (top f) else 8#32).toInt ≤ _
      rw [if_pos rfl, hw]
  · refine (Finset.fold_op_rel_iff_and (op := IntOp.minsi) (r := fun x y : BitVec 32 => x.toInt ≤ y.toInt) (fun {x y z} => ?_)).mpr
      ⟨?_, fun x _ => key x⟩
    · show x.toInt ≤ (IntOp.minsi y z).toInt ↔ _
      rw [hmin]; exact le_min_iff
    · show (BitVec.ofNat 32 (top f).val).toInt ≤ (2147483647#32).toInt
      rw [toI _ (by omega)]
      have := (top f).isLt
      rw [show (2147483647#32).toInt = 2147483647 by decide]; omega

/-! ## The sorted order -/

/-- The order a stable sort follows: greater first, equal ones by index. -/
def lexB (f : Fin 8 → EReal) (a b : Fin 8) : Bool := decide (f b < f a ∨ (f b = f a ∧ a < b))

theorem pairwise_insert {f : Fin 8 → EReal} (a : Fin 8) (l : List (Fin 8)) (R : Fin 8 → Fin 8 → Bool)
    (hR : ∀ x y, R x y = decide (f y < f x)) (ha : ∀ b ∈ l, a < b)
    (hl : l.Pairwise fun b c => f c < f b ∨ (f c = f b ∧ b < c)) :
    (insertBefore R a l).Pairwise fun b c => f c < f b ∨ (f c = f b ∧ b < c) := by
  induction l with
  | nil => exact List.pairwise_singleton _ _
  | cons b l ih =>
    rw [List.pairwise_cons] at hl
    unfold insertBefore
    split
    · rename_i h
      rw [hR, decide_eq_true_eq] at h
      refine List.pairwise_cons.mpr ⟨fun c hc => ?_, ih (fun b' hb' => ha b' (List.mem_cons_of_mem _ hb')) hl.2⟩
      rcases List.mem_cons.mp ((perm_insertBefore R a l).mem_iff.mp hc) with rfl | hc'
      · exact Or.inl h
      · exact hl.1 c hc'
    · rename_i h
      rw [hR, decide_eq_true_eq, not_lt] at h
      have hab : f b < f a ∨ (f b = f a ∧ a < b) := by
        rcases lt_or_eq_of_le h with h' | h'
        · exact Or.inl h'
        · exact Or.inr ⟨h', ha b List.mem_cons_self⟩
      refine List.pairwise_cons.mpr ⟨fun c hc => ?_, List.pairwise_cons.mpr hl⟩
      rcases List.mem_cons.mp hc with rfl | hc'
      · exact hab
      · have hbc := hl.1 c hc'
        rcases hab with h1 | ⟨h1, h2⟩ <;> rcases hbc with h3 | ⟨h3, h4⟩
        · exact Or.inl (h3.trans h1)
        · exact Or.inl (h3 ▸ h1)
        · exact Or.inl (h1 ▸ h3)
        · exact Or.inr ⟨h3.trans h1, h2.trans h4⟩

theorem pairwise_sort {f : Fin 8 → EReal} (R : Fin 8 → Fin 8 → Bool) (hR : ∀ x y, R x y = decide (f y < f x)) (l : List (Fin 8))
    (hl : l.Pairwise (· < ·)) : (stableSort R l).Pairwise fun b c => f c < f b ∨ (f c = f b ∧ b < c) := by
  induction l with
  | nil => exact List.Pairwise.nil
  | cons a l ih =>
    rw [List.pairwise_cons] at hl
    unfold stableSort
    exact pairwise_insert a _ R hR (fun b hb => hl.1 b ((perm_stableSort R l).mem_iff.mp hb)) (ih hl.2)

theorem sorted_lt {f : Fin 8 → EReal} (R : Fin 8 → Fin 8 → Bool) (hR : ∀ x y, R x y = decide (f y < f x)) (i j : Fin 8) (hij : i < j) :
    f (sortedFrom R j) < f (sortedFrom R i) ∨ (f (sortedFrom R j) = f (sortedFrom R i) ∧ sortedFrom R i < sortedFrom R j) := by
  have hp := List.pairwise_iff_get.mp (pairwise_sort R hR (List.finRange 8) (List.pairwise_lt_finRange 8))
  exact hp (i.cast (length_sortPositions 8 R).symm) (j.cast (length_sortPositions 8 R).symm) hij

theorem sorted_zero {f : Fin 8 → EReal} (R : Fin 8 → Fin 8 → Bool) (hR : ∀ x y, R x y = decide (f y < f x)) :
    sortedFrom R (0 : Fin 8) = top f := by
  apply top_unique
  intro j
  obtain ⟨k, rfl⟩ := sortedFrom_surjective R j
  rcases eq_or_ne k 0 with rfl | hk
  · exact Or.inr ⟨rfl, le_rfl⟩
  · rcases sorted_lt R hR 0 k (Fin.pos_of_ne_zero hk) with h | h
    · exact Or.inl h
    · exact Or.inr ⟨h.1, h.2.le⟩

theorem sorted_one {f : Fin 8 → EReal} (hf : ∀ j, ⊥ < f j) (R : Fin 8 → Fin 8 → Bool) (hR : ∀ x y, R x y = decide (f y < f x)) :
    sortedFrom R (1 : Fin 8) = top2 f := by
  have h0 := sorted_zero R hR
  have hne : sortedFrom R 1 ≠ top f := by
    rw [← h0]; intro h; exact absurd (sortedFrom_injective R h) (by decide)
  apply top_unique
  intro j
  have h1 : mask f (top f) (sortedFrom R 1) = f (sortedFrom R 1) := if_neg hne
  rw [h1]
  by_cases hj : j = top f
  · left; unfold mask; rw [if_pos hj]; exact hf _
  · have h2 : mask f (top f) j = f j := if_neg hj
    rw [h2]
    obtain ⟨k, rfl⟩ := sortedFrom_surjective R j
    rcases eq_or_ne k 1 with rfl | hk
    · exact Or.inr ⟨rfl, le_rfl⟩
    · have hk0 : k ≠ 0 := by rintro rfl; exact hj h0
      have : (1 : Fin 8) < k := by
        have a1 : k.val ≠ 0 := fun h => hk0 (Fin.ext h)
        have a2 : k.val ≠ 1 := fun h => hk (Fin.ext h)
        show 1 < k.val; omega
      rcases sorted_lt R hR 1 k this with h | h
      · exact Or.inl h
      · exact Or.inr ⟨h.1, h.2.le⟩

/-! ## The reference's list of the two greatest -/

theorem along_ix2 (t : Fin 2048) (k j : Fin 8) :
    Shape.Idx.along (s := ⟨2, ![2048, 8]⟩) (ix2 t k) (1 : Fin 2) j = ix2 t j := by
  funext a
  match a with
  | 0 => rfl
  | 1 => rfl

theorem slice_ix2 {α : Type} (x : (⟨2, ![2048, 8]⟩ : Shape).Idx → α) (h) (t : Fin 2048) (k : Fin 2) :
    extractStridedSlice (⟨2, ![2048, 2]⟩ : Shape) (fun _ => 0) x h (ix2 t k) = x (ix2 t ⟨k.val, by omega⟩) := by
  unfold extractStridedSlice
  congr 1
  funext a
  match a with
  | 0 => apply Fin.ext; exact Nat.zero_add _
  | 1 => apply Fin.ext; exact Nat.zero_add _

theorem topK_row (x : (⟨2, ![2048, 8]⟩ : Shape).Idx → EReal) (h) (t : Fin 2048) (k : Fin 2) :
    ∃ R : Fin 8 → Fin 8 → Bool, (∀ a b, R a b = decide (x (ix2 t b) < x (ix2 t a)))
      ∧ (Host.topK (⟨2, ![2048, 2]⟩ : Shape) 1 (FloatOps.cmpfTotal (F := Ideal) (φ := .f32) .gt) x h).1 (ix2 t k)
          = x (ix2 t (sortedFrom R ⟨k.val, by omega⟩))
      ∧ (Host.topK (⟨2, ![2048, 2]⟩ : Shape) 1 (FloatOps.cmpfTotal (F := Ideal) (φ := .f32) .gt) x h).2 (ix2 t k)
          = BitVec.ofNat 32 (sortedFrom R ⟨k.val, by omega⟩).val := by
  refine ⟨fun a b => FloatOps.cmpfTotal (F := Ideal) (φ := .f32) .gt (x (ix2 t a)) (x (ix2 t b)) == 1#1, ?_, ?_, ?_⟩
  · intro a b
    show (BitVec.ofBool (decide (x (ix2 t b) < x (ix2 t a))) == 1#1) = _
    by_cases h : x (ix2 t b) < x (ix2 t a) <;> simp [h]
  · have e : Host.sort2 (⟨2, ![2048, 8]⟩ : Shape) 1 (fun l r : EReal × BitVec 32 => FloatOps.cmpfTotal (F := Ideal) (φ := .f32) .gt l.1 r.1) x
        (fun i => if hd : 1 < (⟨2, ![2048, 8]⟩ : Shape).rank then iotaInDim _ 32 ⟨1, hd⟩ i else 0#32) = _ := dif_pos (show 1 < 2 by decide)
    show extractStridedSlice (⟨2, ![2048, 2]⟩ : Shape) (fun _ => 0) (Host.sort2 (⟨2, ![2048, 8]⟩ : Shape) 1
      (fun l r : EReal × BitVec 32 => FloatOps.cmpfTotal (F := Ideal) (φ := .f32) .gt l.1 r.1) x
      (fun i => if hd : 1 < (⟨2, ![2048, 8]⟩ : Shape).rank then iotaInDim _ 32 ⟨1, hd⟩ i else 0#32)).1 h (ix2 t k) = _
    rw [slice_ix2, e]
    dsimp only
    show x (Shape.Idx.along (s := ⟨2, ![2048, 8]⟩) (ix2 t ⟨k.val, by omega⟩) (1 : Fin 2) _) = _
    refine (congrArg x (along_ix2 t _ _)).trans ?_
    refine congrArg (fun R => x (ix2 t (sortedFrom R ⟨k.val, by omega⟩))) ?_
    funext p p'
    show (FloatOps.cmpfTotal (F := Ideal) (φ := .f32) .gt (x (Shape.Idx.along (s := ⟨2, ![2048, 8]⟩) (ix2 t ⟨k.val, by omega⟩) (1 : Fin 2) p))
      (x (Shape.Idx.along (s := ⟨2, ![2048, 8]⟩) (ix2 t ⟨k.val, by omega⟩) (1 : Fin 2) p')) == 1#1) = _
    exact congrArg₂ (fun u v => FloatOps.cmpfTotal (F := Ideal) (φ := .f32) .gt (x u) (x v) == 1#1) (along_ix2 t _ _) (along_ix2 t _ _)
  · have e : Host.sort2 (⟨2, ![2048, 8]⟩ : Shape) 1 (fun l r : EReal × BitVec 32 => FloatOps.cmpfTotal (F := Ideal) (φ := .f32) .gt l.1 r.1) x
        (fun i => if hd : 1 < (⟨2, ![2048, 8]⟩ : Shape).rank then iotaInDim _ 32 ⟨1, hd⟩ i else 0#32) = _ := dif_pos (show 1 < 2 by decide)
    show extractStridedSlice (⟨2, ![2048, 2]⟩ : Shape) (fun _ => 0) (Host.sort2 (⟨2, ![2048, 8]⟩ : Shape) 1
      (fun l r : EReal × BitVec 32 => FloatOps.cmpfTotal (F := Ideal) (φ := .f32) .gt l.1 r.1) x
      (fun i => if hd : 1 < (⟨2, ![2048, 8]⟩ : Shape).rank then iotaInDim _ 32 ⟨1, hd⟩ i else 0#32)).2 h (ix2 t k) = _
    rw [slice_ix2, e]
    dsimp only
    rw [dif_pos (show 1 < 2 by decide)]
    show BitVec.ofNat 32 (Shape.Idx.along (s := ⟨2, ![2048, 8]⟩) (ix2 t ⟨k.val, by omega⟩) (1 : Fin 2) _ (1 : Fin 2)).val = _
    refine (congrArg (fun z : (⟨2, ![2048, 8]⟩ : Shape).Idx => BitVec.ofNat 32 (z (1 : Fin 2)).val) (along_ix2 t _ _)).trans ?_
    refine congrArg (fun R => BitVec.ofNat 32 (sortedFrom R (⟨k.val, by omega⟩ : Fin 8)).val) ?_
    funext p p'
    show (FloatOps.cmpfTotal (F := Ideal) (φ := .f32) .gt (x (Shape.Idx.along (s := ⟨2, ![2048, 8]⟩) (ix2 t ⟨k.val, by omega⟩) (1 : Fin 2) p))
      (x (Shape.Idx.along (s := ⟨2, ![2048, 8]⟩) (ix2 t ⟨k.val, by omega⟩) (1 : Fin 2) p')) == 1#1) = _
    exact congrArg₂ (fun u v => FloatOps.cmpfTotal (F := Ideal) (φ := .f32) .gt (x u) (x v) == 1#1) (along_ix2 t _ _) (along_ix2 t _ _)

/-- Of a row, the reference's list holds the greatest entry with its index, then the second one with its index. -/
theorem topK_zero (x : (⟨2, ![2048, 8]⟩ : Shape).Idx → EReal) (h) (t : Fin 2048) (f : Fin 8 → EReal) (hf : ∀ e, x (ix2 t e) = f e) :
    (Host.topK (⟨2, ![2048, 2]⟩ : Shape) 1 (FloatOps.cmpfTotal (F := Ideal) (φ := .f32) .gt) x h).1 (ix2 t 0) = f (top f)
      ∧ (Host.topK (⟨2, ![2048, 2]⟩ : Shape) 1 (FloatOps.cmpfTotal (F := Ideal) (φ := .f32) .gt) x h).2 (ix2 t 0) = BitVec.ofNat 32 (top f).val := by
  obtain ⟨R, hR, h1, h2⟩ := topK_row x h t 0
  have h0 : sortedFrom R (⟨(0 : Fin 2).val, by decide⟩ : Fin 8) = top f := sorted_zero R fun a b => by rw [hR, hf, hf]
  rw [h1, h2, h0, hf]; exact ⟨rfl, rfl⟩

theorem topK_one (x : (⟨2, ![2048, 8]⟩ : Shape).Idx → EReal) (h) (t : Fin 2048) (f : Fin 8 → EReal) (hf : ∀ e, x (ix2 t e) = f e)
    (hb : ∀ e, ⊥ < f e) :
    (Host.topK (⟨2, ![2048, 2]⟩ : Shape) 1 (FloatOps.cmpfTotal (F := Ideal) (φ := .f32) .gt) x h).1 (ix2 t 1) = f (top2 f)
      ∧ (Host.topK (⟨2, ![2048, 2]⟩ : Shape) 1 (FloatOps.cmpfTotal (F := Ideal) (φ := .f32) .gt) x h).2 (ix2 t 1) = BitVec.ofNat 32 (top2 f).val := by
  obtain ⟨R, hR, h1, h2⟩ := topK_row x h t 1
  have h0 : sortedFrom R (⟨(1 : Fin 2).val, by decide⟩ : Fin 8) = top2 f := sorted_one hb R fun a b => by rw [hR, hf, hf]
  rw [h1, h2, h0, hf]; exact ⟨rfl, rfl⟩

end Cert.Proof.Whole.Top
end
end
-- ==== Proof.KCount.lean ====
/- Where each pair of a token and an expert goes, in natural numbers: every expert takes whole blocks of 512 rows, in the
   experts' order, and a pair goes to the row of its expert's blocks that counts the earlier pairs of the same expert. -/
module

public import Mathlib.Algebra.BigOperators.Fin
public import Mathlib.Algebra.Order.BigOperators.Group.Finset
public import Mathlib.Data.Fintype.BigOperators
public import Mathlib.Tactic.Ring
public import Mathlib.Tactic.Linarith

@[expose] public section

namespace Cert.Proof.Whole.Count

open Finset

variable (ex : Fin 4096 → Fin 8)

/-- How many pairs an expert has. -/
def total (e : Fin 8) : ℕ := (univ.filter fun p : Fin 4096 => ex p = e).card
/-- How many earlier pairs have the same expert. -/
def rank (p : Fin 4096) : ℕ := (univ.filter fun p' : Fin 4096 => p' < p ∧ ex p' = ex p).card
/-- How many blocks an expert takes. -/
def nb (e : Fin 8) : ℕ := (total ex e + 511) / 512
/-- The first block of an expert. -/
def bs (e : Fin 8) : ℕ := ∑ e' : Fin 8, if e' < e then nb ex e' else 0
/-- How many blocks are used. -/
def used : ℕ := ∑ e : Fin 8, nb ex e
/-- The row of a pair. -/
def slot (p : Fin 4096) : ℕ := bs ex (ex p) * 512 + rank ex p
/-- How many experts have begun by block `b`. -/
def begun (b : ℕ) : ℕ := ∑ e : Fin 8, if bs ex e ≤ b then 1 else 0

theorem rank_lt (p : Fin 4096) : rank ex p < total ex (ex p) := by
  apply card_lt_card
  refine ⟨fun q hq => ?_, fun h => ?_⟩
  · simp only [mem_filter, mem_univ, true_and] at hq ⊢; exact hq.2
  · have := h (show p ∈ _ by simp)
    simp at this

theorem rank_inj {p p' : Fin 4096} (he : ex p = ex p') (hr : rank ex p = rank ex p') : p = p' := by
  have key : ∀ {p p' : Fin 4096}, ex p = ex p' → p < p' → rank ex p < rank ex p' := by
    intro p p' he hlt
    apply card_lt_card
    refine ⟨fun q hq => ?_, fun h => ?_⟩
    · simp only [mem_filter, mem_univ, true_and] at hq ⊢
      exact ⟨lt_trans hq.1 hlt, hq.2.trans he⟩
    · have := h (show p ∈ _ by simp [hlt, he])
      simp at this
  rcases lt_trichotomy p p' with h | h | h
  · exact absurd hr (key he h).ne
  · exact h
  · exact absurd hr (key he.symm h).ne'

theorem total_le_nb (e : Fin 8) : total ex e ≤ nb ex e * 512 := by
  unfold nb; omega

theorem sum_total : ∑ e, total ex e = 4096 := by
  have := card_eq_sum_card_fiberwise (f := ex) (s := (univ : Finset (Fin 4096))) (t := univ) (fun _ _ => by simp)
  simp only [card_univ, Fintype.card_fin] at this
  exact this.symm

theorem used_le : used ex ≤ 15 := by
  have h := sum_total ex
  unfold used nb
  simp only [Fin.sum_univ_eight] at h ⊢
  omega

theorem used_pos : 0 < used ex := by
  have h := sum_total ex
  unfold used nb
  simp only [Fin.sum_univ_eight] at h ⊢
  omega

theorem bs_add_le {e e' : Fin 8} (h : e < e') : bs ex e + nb ex e ≤ bs ex e' := by
  unfold bs
  rw [show nb ex e = ∑ j : Fin 8, if j = e then nb ex j else 0 by rw [Finset.sum_ite_eq' univ e (nb ex)]; simp, ← sum_add_distrib]
  apply sum_le_sum
  intro j _
  rcases lt_trichotomy j e with hj | hj | hj
  · rw [if_pos hj, if_neg hj.ne, if_pos (hj.trans h)]; omega
  · subst hj; rw [if_neg (lt_irrefl _), if_pos rfl, if_pos h]; omega
  · rw [if_neg hj.not_gt, if_neg hj.ne']; omega

theorem bs_add_used (e : Fin 8) : bs ex e + nb ex e ≤ used ex := by
  unfold bs used
  rw [show nb ex e = ∑ j : Fin 8, if j = e then nb ex j else 0 by rw [Finset.sum_ite_eq' univ e (nb ex)]; simp, ← sum_add_distrib]
  apply sum_le_sum
  intro j _
  rcases lt_trichotomy j e with hj | hj | hj
  · rw [if_pos hj, if_neg hj.ne]; omega
  · subst hj; rw [if_neg (lt_irrefl _), if_pos rfl]; omega
  · rw [if_neg hj.not_gt, if_neg hj.ne']; omega

theorem bs_le (e : Fin 8) : bs ex e ≤ 15 := by
  have := bs_add_used ex e; have := used_le ex; omega

theorem slot_block_ge (p : Fin 4096) : bs ex (ex p) ≤ slot ex p / 512 := by
  unfold slot; omega

theorem slot_block_lt (p : Fin 4096) : slot ex p / 512 < bs ex (ex p) + nb ex (ex p) := by
  have h1 := rank_lt ex p; have h2 := total_le_nb ex (ex p); unfold slot; omega

theorem slot_block_used (p : Fin 4096) : slot ex p / 512 < used ex :=
  (slot_block_lt ex p).trans_le (bs_add_used ex _)

theorem slot_lt (p : Fin 4096) : slot ex p < 7680 := by
  have h := slot_block_used ex p; have := used_le ex; omega

theorem slot_inj {p p' : Fin 4096} (h : slot ex p = slot ex p') : p = p' := by
  have he : ex p = ex p' := by
    by_contra hne
    rcases lt_or_gt_of_ne hne with hlt | hlt
    · have a := bs_add_le ex hlt; have b := slot_block_lt ex p; have c := slot_block_ge ex p'; omega
    · have a := bs_add_le ex hlt; have b := slot_block_lt ex p'; have c := slot_block_ge ex p; omega
  refine rank_inj ex he ?_
  unfold slot at h; rw [he] at h; omega

theorem begun_le (b : ℕ) : begun ex b ≤ 8 := by
  refine (sum_le_card_nsmul univ _ 1 fun e _ => ?_).trans (by simp)
  split <;> omega

theorem begun_pos (b : ℕ) : 1 ≤ begun ex b := by
  have h0 : (if bs ex 0 ≤ b then 1 else 0) = 1 := by
    rw [if_pos]; unfold bs; simp
  calc 1 = (if bs ex 0 ≤ b then 1 else 0) := h0.symm
    _ ≤ _ := single_le_sum (f := fun e => if bs ex e ≤ b then 1 else 0) (fun _ _ => Nat.zero_le _) (mem_univ (0 : Fin 8))

theorem begun_of (e : Fin 8) (b : ℕ) (h1 : bs ex e ≤ b) (h2 : b < bs ex e + nb ex e) : begun ex b = e.val + 1 := by
  unfold begun
  rw [sum_congr rfl (g := fun e' : Fin 8 => if e' ≤ e then 1 else 0) fun e' _ => ?_]
  · exact (by decide : ∀ e : Fin 8, (∑ e' : Fin 8, if e' ≤ e then 1 else 0) = e.val + 1) e
  · rcases lt_trichotomy e' e with h | h | h
    · have := bs_add_le ex h; rw [if_pos (by omega), if_pos h.le]
    · subst h; rw [if_pos h1, if_pos le_rfl]
    · have := bs_add_le ex h; rw [if_neg (by omega), if_neg (not_le.mpr h)]

/-! ## The counts chunk by chunk -/

/-- The pair at place `k` of chunk `q`. -/
def at' (q : Fin 8) (k : Fin 512) : Fin 4096 := ⟨512 * q.val + k.val, by omega⟩

/-- How many pairs of expert `e` chunk `q` has up to place `k`. -/
def inc (q : Fin 8) (k : Fin 512) (e : Fin 8) : ℕ := ∑ j : Fin 512, if j ≤ k ∧ ex (at' q j) = e then 1 else 0

theorem sum_chunks {M : Type*} [AddCommMonoid M] (f : Fin 4096 → M) : ∑ p, f p = ∑ q : Fin 8, ∑ k : Fin 512, f (at' q k) := by
  rw [← Fintype.sum_prod_type' (f := fun q k => f (at' q k))]
  refine (Fintype.sum_equiv (finProdFinEquiv (m := 8) (n := 512)) _ _ fun x => ?_).symm
  congr 1
  apply Fin.ext
  show 512 * x.1.val + x.2.val = x.2.val + 512 * x.1.val
  omega

theorem sum_inc (e : Fin 8) : ∑ q : Fin 8, inc ex q 511 e = total ex e := by
  unfold total
  rw [card_filter, sum_chunks]
  refine sum_congr rfl fun q _ => sum_congr rfl fun j _ => ?_
  have : j ≤ 511 := by show j.val ≤ 511; omega
  simp only [this, true_and]

theorem inc_rank (q : Fin 8) (k : Fin 512) :
    inc ex q k (ex (at' q k)) + (∑ q' : Fin 8, if q' < q then inc ex q' 511 (ex (at' q k)) else 0) = rank ex (at' q k) + 1 := by
  have h1 : rank ex (at' q k) + 1 = (univ.filter fun p' : Fin 4096 => p' ≤ at' q k ∧ ex p' = ex (at' q k)).card := by
    unfold rank
    rw [← card_insert_of_notMem (a := at' q k) (by simp)]
    congr 1
    ext p'
    simp only [mem_insert, mem_filter, mem_univ, true_and, le_iff_lt_or_eq]
    constructor
    · rintro (rfl | h)
      · exact ⟨Or.inr rfl, rfl⟩
      · exact ⟨Or.inl h.1, h.2⟩
    · rintro ⟨h | h, h'⟩
      · exact Or.inr ⟨h, h'⟩
      · exact Or.inl h
  rw [h1, card_filter, sum_chunks]
  rw [show inc ex q k (ex (at' q k)) = ∑ q' : Fin 8, if q' = q then inc ex q k (ex (at' q k)) else 0 by
    rw [Finset.sum_ite_eq' univ q]; simp, ← sum_add_distrib]
  refine sum_congr rfl fun q' _ => ?_
  rcases lt_trichotomy q' q with h | h | h
  · rw [if_neg h.ne, if_pos h, zero_add]
    refine sum_congr rfl fun j _ => ?_
    have hj : j ≤ 511 := by show j.val ≤ 511; omega
    have hp : at' q' j ≤ at' q k := by
      show 512 * q'.val + j.val ≤ 512 * q.val + k.val
      have : q'.val < q.val := h
      omega
    simp only [hj, hp, true_and]
  · subst h
    rw [if_pos rfl, if_neg (lt_irrefl _), add_zero]
    refine sum_congr rfl fun j _ => ?_
    have hp : at' q' j ≤ at' q' k ↔ j ≤ k := by
      show 512 * q'.val + j.val ≤ 512 * q'.val + k.val ↔ j.val ≤ k.val
      omega
    simp only [hp]
  · rw [if_neg h.ne', if_neg h.not_gt, add_zero]
    symm
    apply sum_eq_zero
    intro j _
    rw [if_neg]
    rintro ⟨hp, -⟩
    have hp' : 512 * q'.val + j.val ≤ 512 * q.val + k.val := hp
    have : q.val < q'.val := h
    omega

end Cert.Proof.Whole.Count

end
-- ==== Proof.KSlots.lean ====
/- The router's table of rows at the ideal instance: from the one-hot rows of the pairs' experts it computes the natural
   numbers of the counting module, each as its word. -/
module

public import proofs.«01_k».proof.Proof.KReg0
public import proofs.«01_k».proof.Proof.KCount
public import Idealize.ShloMosaic.Lib.Pointwise
public import Idealize.ShloMosaic.Lib.WordCmp

@[expose] public section

noncomputable section

namespace Cert.Proof.Whole.Slots

open Idealize.ShloMosaic Cert.KernelIdeal Cert.KernelIdeal.Gen Cert.Proof.Whole Cert.Proof.Whole.Count Cert.Proof.Whole.Reg0

/-! ## Scalars -/

theorem sel_ge (a b : EReal) {k j : ℕ} (hk : k < 2 ^ 31) (hj : j < 2 ^ 31) :
    Scalar.select (IntOp.cmpi .sge (BitVec.ofNat 32 k) (BitVec.ofNat 32 j)) a b = if j ≤ k then a else b := by
  rw [WordCmp.cmpi_sge_ofNat hk hj]; by_cases h : j ≤ k <;> simp [Scalar.select, h]

theorem sel_gt (a b : EReal) {k j : ℕ} (hk : k < 2 ^ 31) (hj : j < 2 ^ 31) :
    Scalar.select (IntOp.cmpi .sgt (BitVec.ofNat 32 k) (BitVec.ofNat 32 j)) a b = if j < k then a else b := by
  rw [WordCmp.cmpi_sgt_ofNat hk hj]; by_cases h : j < k <;> simp [Scalar.select, h]

theorem sel_lt (a b : EReal) {k j : ℕ} (hk : k < 2 ^ 31) (hj : j < 2 ^ 31) :
    Scalar.select (IntOp.cmpi .slt (BitVec.ofNat 32 k) (BitVec.ofNat 32 j)) a b = if k < j then a else b := by
  rw [WordCmp.cmpi_slt_ofNat hk hj]; by_cases h : k < j <;> simp [Scalar.select, h]

/-- A natural number in the extended reals. -/
def nr (n : ℕ) : EReal := ((n : ℝ) : EReal)

theorem nr_add (a b : ℕ) : nr (a + b) = nr a + nr b := by unfold nr; push_cast; rfl
theorem nr_mul (a b : ℕ) : nr (a * b) = nr a * nr b := by unfold nr; push_cast; rfl
theorem nr_zero : nr 0 = 0 := by unfold nr; simp
theorem nr_one : nr 1 = 1 := by unfold nr; simp
theorem nr_sub {a b : ℕ} (h : b ≤ a) : nr a - nr b = nr (a - b) := by
  unfold nr; rw [← EReal.coe_sub, Nat.cast_sub h]
theorem nr_le (a b : ℕ) : nr a ≤ nr b ↔ a ≤ b := by unfold nr; rw [EReal.coe_le_coe_iff]; exact Nat.cast_le
theorem nr_min (a b : ℕ) : min (nr a) (nr b) = nr (min a b) := by
  rcases le_total a b with h | h
  · rw [min_eq_left h, min_eq_left ((nr_le _ _).mpr h)]
  · rw [min_eq_right h, min_eq_right ((nr_le _ _).mpr h)]
theorem nr_ite (p : Prop) [Decidable p] (a b : ℕ) : nr (if p then a else b) = if p then nr a else nr b := by split <;> rfl
theorem nr_sum {ι : Type*} (s : Finset ι) (f : ι → ℕ) : nr (∑ i ∈ s, f i) = ∑ i ∈ s, nr (f i) := by
  classical
  induction s using Finset.induction_on with
  | empty => simp [nr_zero]
  | insert a s ha ih => rw [Finset.sum_insert ha, Finset.sum_insert ha, nr_add, ih]

theorem fptosi_nr {n : ℕ} (h : n < 2 ^ 31) : FloatOps.fptosi (F := Ideal) (φ := .f32) 32 (nr n) = BitVec.ofNat 32 n := by
  show Ideal.fptosi 32 ((n : ℝ) : EReal) = _
  change BitVec.ofInt 32 (max (-((2 ^ (32 - 1) : ℕ) : ℤ)) (min (((2 ^ (32 - 1) : ℕ) : ℤ) - 1) (if (0 : ℝ) ≤ (n : ℝ) then ⌊(n : ℝ)⌋ else ⌈(n : ℝ)⌉))) = _
  rw [if_pos (Nat.cast_nonneg n), Int.floor_natCast]
  rw [min_eq_right (by push_cast; omega), max_eq_right (by push_cast; omega)]
  rfl

theorem sitofp_nr {n : ℕ} (h : n < 2 ^ 31) : FloatOps.sitofp (F := Ideal) .f32 (BitVec.ofNat 32 n) = nr n := by
  show (((BitVec.ofNat 32 n).toInt : ℝ) : EReal) = _
  have : (BitVec.ofNat 32 n).toInt = (n : ℤ) := by
    rw [BitVec.toInt_eq_toNat_cond, BitVec.toNat_ofNat]
    rw [Nat.mod_eq_of_lt (by omega), if_pos (by omega)]
  rw [this]; unfold nr; simp

theorem w511 : Ideal.ofBits .f32 0x43FF8000#32 = nr 511 := by
  unfold nr; simp [Ideal.ofBits, Ideal.ieee]; norm_num [← EReal.coe_mul]
theorem w512 : Ideal.ofBits .f32 0x44000000#32 = nr 512 := by
  unfold nr; simp [Ideal.ofBits, Ideal.ieee]; norm_num [← EReal.coe_mul]
theorem winv : Ideal.ofBits .f32 0x3B000000#32 = ((1 / 512 : ℝ) : EReal) := by
  simp [Ideal.ofBits, Ideal.ieee]; norm_num [← EReal.coe_mul]

theorem floor_nr (n : ℕ) : Ideal.liftRound Int.floor (nr (n + 511) * ((1 / 512 : ℝ) : EReal)) = nr ((n + 511) / 512) := by
  unfold nr
  rw [← EReal.coe_mul]
  show ((⌊((n + 511 : ℕ) : ℝ) * (1 / 512)⌋ : ℝ) : EReal) = _
  have : ⌊((n + 511 : ℕ) : ℝ) * (1 / 512)⌋ = (((n + 511) / 512 : ℕ) : ℤ) := by
    rw [Int.floor_eq_iff]
    have h1 : ((n + 511) / 512) * 512 ≤ n + 511 := Nat.div_mul_le_self _ _
    have h2 : n + 511 < ((n + 511) / 512 + 1) * 512 := by omega
    have h1' : ((((n + 511) / 512 : ℕ)) : ℝ) * 512 ≤ ((n + 511 : ℕ) : ℝ) := by exact_mod_cast h1
    have h2' : ((n + 511 : ℕ) : ℝ) < ((((n + 511) / 512 : ℕ)) + 1 : ℝ) * 512 := by exact_mod_cast h2
    constructor
    · rw [Int.cast_natCast]; linarith
    · rw [Int.cast_natCast]; linarith
  rw [this, Int.cast_natCast]

/-! ## The counts -/

variable (oh : FVec Ideal S4096x8 .f32) (ex : Fin 4096 → Fin 8) (hoh : ∀ p e, oh (ix2 p e) = if ex p = e then 1 else 0)

include hoh in
theorem inc_sum (q : Fin 8) (k : Fin 512) (e : Fin 8) (f : Fin 512 → EReal) (hf : ∀ j, f j = oh (ix2 (at' q j) e)) :
    (∑ x : Fin 512, Scalar.select (IntOp.cmpi .sge (BitVec.ofNat 32 k.val) (BitVec.ofNat 32 x.val)) (f x) 0) = nr (inc ex q k e) := by
  unfold inc
  rw [nr_sum]
  refine Finset.sum_congr rfl fun j _ => ?_
  rw [sel_ge _ _ (by omega) (by omega), hf, hoh, nr_ite, nr_one, nr_zero]
  by_cases h : j ≤ k
  · rw [if_pos (show j.val ≤ k.val from h)]; simp only [h, true_and]
  · rw [if_neg (show ¬ j.val ≤ k.val from h), if_neg (fun h' => h h'.1)]

theorem row_eq (n : ℕ) (q : Fin 8) (hq : n = 512 * q.val) (j : Fin 512) (h : n + j.val < 4096) (e : Fin 8) :
    oh (ix2 ⟨n + j.val, h⟩ e) = oh (ix2 (at' q j) e) := by
  subst hq; rfl

include hoh in
theorem p13 (k : Fin 512) (e : Fin 8) : k0_pay13 oh ta tb (ix2 k e) = nr (inc ex 0 k e) := by
  pointwise [k0_pay13, k0_pay12]
  refine inc_sum oh ex hoh 0 k e _ fun j => ?_
  congr 2; apply Fin.ext; show j.val = 512 * 0 + j.val; omega
include hoh in
theorem p14 (k : Fin 512) (e : Fin 8) : k0_pay14 oh ta tb (ix2 k e) = nr (inc ex 1 k e) := by
  pointwise [k0_pay14, k0_pay12]
  exact inc_sum oh ex hoh 1 k e _ fun j => row_eq oh _ 1 rfl j _ e
include hoh in
theorem p15 (k : Fin 512) (e : Fin 8) : k0_pay15 oh ta tb (ix2 k e) = nr (inc ex 2 k e) := by
  pointwise [k0_pay15, k0_pay12]
  exact inc_sum oh ex hoh 2 k e _ fun j => row_eq oh _ 2 rfl j _ e
include hoh in
theorem p16 (k : Fin 512) (e : Fin 8) : k0_pay16 oh ta tb (ix2 k e) = nr (inc ex 3 k e) := by
  pointwise [k0_pay16, k0_pay12]
  exact inc_sum oh ex hoh 3 k e _ fun j => row_eq oh _ 3 rfl j _ e
include hoh in
theorem p17 (k : Fin 512) (e : Fin 8) : k0_pay17 oh ta tb (ix2 k e) = nr (inc ex 4 k e) := by
  pointwise [k0_pay17, k0_pay12]
  exact inc_sum oh ex hoh 4 k e _ fun j => row_eq oh _ 4 rfl j _ e
include hoh in
theorem p18 (k : Fin 512) (e : Fin 8) : k0_pay18 oh ta tb (ix2 k e) = nr (inc ex 5 k e) := by
  pointwise [k0_pay18, k0_pay12]
  exact inc_sum oh ex hoh 5 k e _ fun j => row_eq oh _ 5 rfl j _ e
include hoh in
theorem p19 (k : Fin 512) (e : Fin 8) : k0_pay19 oh ta tb (ix2 k e) = nr (inc ex 6 k e) := by
  pointwise [k0_pay19, k0_pay12]
  exact inc_sum oh ex hoh 6 k e _ fun j => row_eq oh _ 6 rfl j _ e
include hoh in
theorem p20 (k : Fin 512) (e : Fin 8) : k0_pay20 oh ta tb (ix2 k e) = nr (inc ex 7 k e) := by
  pointwise [k0_pay20, k0_pay12]
  exact inc_sum oh ex hoh 7 k e _ fun j => row_eq oh _ 7 rfl j _ e

include hoh in
theorem p21 (q : Fin 8) (e : Fin 8) : k0_pay21 oh ta tb (ix2 q e) = nr (inc ex q 511 e) := by
  pointwise [k0_pay21]
  match q with
  | 0 => exact p13 oh ex hoh 511 e
  | 1 => exact p14 oh ex hoh 511 e
  | 2 => exact p15 oh ex hoh 511 e
  | 3 => exact p16 oh ex hoh 511 e
  | 4 => exact p17 oh ex hoh 511 e
  | 5 => exact p18 oh ex hoh 511 e
  | 6 => exact p19 oh ex hoh 511 e
  | 7 => exact p20 oh ex hoh 511 e

include hoh in
theorem p22 (q : Fin 8) (e : Fin 8) : k0_pay22 oh ta tb (ix2 q e) = nr (∑ q' : Fin 8, if q' < q then inc ex q' 511 e else 0) := by
  pointwise [k0_pay22]
  rw [nr_sum]
  refine Finset.sum_congr rfl fun j _ => ?_
  rw [sel_gt _ _ (by omega) (by omega), p21 oh ex hoh, nr_ite, nr_zero]
  rfl

include hoh in
theorem p23 (e : Fin 8) : k0_pay23 oh ta tb (ix2 0 e) = nr (nb ex e) := by
  pointwise [k0_pay23]
  rw [show (∑ x, k0_pay21 oh ta tb (ix2 x e)) = nr (total ex e) by
    rw [← sum_inc, nr_sum]; exact Finset.sum_congr rfl fun j _ => p21 oh ex hoh j e]
  rw [w511, winv, ← nr_add, floor_nr]; rfl

include hoh in
theorem p24 (e : Fin 8) : k0_pay24 (k0_pay23 oh ta tb) ea (ix2 0 e) = nr (bs ex e) := by
  pointwise [k0_pay24]
  unfold bs
  rw [nr_sum]
  refine Finset.sum_congr rfl fun j _ => ?_
  rw [sel_lt _ _ (by omega) (by omega), p23 oh ex hoh, nr_ite, nr_zero]
  rfl

include hoh in
theorem p25 : k0_pay25 (k0_pay23 oh ta tb) (ix2 0 0) = nr (used ex) := by
  pointwise [k0_pay25]
  unfold used
  rw [nr_sum]
  exact Finset.sum_congr rfl fun j _ => p23 oh ex hoh j

/-! ## The words of the table -/

include hoh in
theorem used_word : usedOf oh (ix2 0 0) = BitVec.ofNat 32 (used ex) := by
  have := used_le ex
  pointwise [usedOf, k0_pay1]
  rw [p25 oh ex hoh, fptosi_nr (by omega)]

include hoh in
theorem block_word (i : Fin 15) : blockOf oh (ix2 i 0) = BitVec.ofNat 32 (min i.val (used ex - 1)) := by
  have := used_le ex; have := used_pos ex
  pointwise [blockOf, k0_pay3, k0_pay33]
  rw [p25 oh ex hoh, sitofp_nr (by omega), ← nr_one, nr_sub (by omega), nr_min, fptosi_nr (by omega)]

include hoh in
theorem expert_word (i : Fin 15) : expertOf oh (ix2 i 0) = BitVec.ofNat 32 (begun ex (min i.val (used ex - 1)) - 1) := by
  have := used_le ex; have := used_pos ex
  have h1 := begun_le ex (min i.val (used ex - 1)); have h2 := begun_pos ex (min i.val (used ex - 1))
  pointwise [expertOf, k0_pay2, k0_pay34, k0_pay33]
  rw [p25 oh ex hoh, sitofp_nr (by omega), ← nr_one, nr_sub (by omega), nr_min]
  rw [Finset.sum_congr rfl fun j _ => show _ = nr (if bs ex j ≤ min i.val (used ex - 1) then 1 else 0) by
    rw [p24 oh ex hoh, nr_ite, nr_zero]; simp only [nr_le], ← nr_sum]
  change FloatOps.fptosi (F := Ideal) (φ := .f32) 32 (nr (begun ex (min i.val (used ex - 1))) - nr 1 : EReal) = _
  rw [nr_sub h2, fptosi_nr (by omega)]

/-! ## The rows -/

theorem slot_arith (i c b r : ℕ) (h1 : 1 ≤ i) (h : i + c = r + 1) : i - 1 + c + b * 512 = b * 512 + r := by omega

include hoh in
theorem slot_sum (q : Fin 8) (k : Fin 512) (f a b c : Fin 8 → EReal) (hf : ∀ e, f e = oh (ix2 (at' q k) e))
    (ha : ∀ e, a e = nr (inc ex q k e)) (hb : ∀ e, b e = nr (∑ q' : Fin 8, if q' < q then inc ex q' 511 e else 0))
    (hc : ∀ e, c e = nr (bs ex e) * Ideal.ofBits .f32 0x44000000#32) :
    (∑ x : Fin 8, f x * (a x - f x + b x + c x)) = nr (slot ex (at' q k)) := by
  rw [Finset.sum_eq_single (ex (at' q k))]
  · rw [hf, hoh, if_pos rfl, one_mul, ha, hb, hc, w512]
    have h := inc_rank ex q k
    have h1 : 1 ≤ inc ex q k (ex (at' q k)) := by
      by_contra h0
      have h0 : inc ex q k (ex (at' q k)) = 0 := by omega
      unfold inc at h0
      rw [Finset.sum_eq_zero_iff] at h0
      have := h0 k (Finset.mem_univ k)
      rw [if_pos ⟨le_rfl, rfl⟩] at this
      exact one_ne_zero this
    rw [← nr_one, nr_sub h1, ← nr_add, ← nr_mul, ← nr_add]
    exact congrArg nr (slot_arith _ _ _ _ h1 h)
  · intro e _ he
    rw [hf, hoh, if_neg (fun h => he h.symm), zero_mul]
  · intro h; exact absurd (Finset.mem_univ _) h

include hoh in
theorem p26 (e : Fin 8) : k0_pay26 (k0_pay23 oh ta tb) ea (ix2 0 e) = nr (bs ex e) * Ideal.ofBits .f32 0x44000000#32 := by
  pointwise [k0_pay26]
  rw [p24 oh ex hoh]

theorem row_at (q : Fin 8) (k : Fin 512) (n c : ℕ) (hc : c = n) (hn : n ≤ 512 * q.val) (h : c + ((at' q k).val - n) < 4096) (e : Fin 8) :
    oh (ix2 ⟨c + ((at' q k).val - n), h⟩ e) = oh (ix2 (at' q k) e) := by
  subst hc
  congr 2; apply Fin.ext; show c + (512 * q.val + k.val - c) = 512 * q.val + k.val; omega

theorem at_val (q : Fin 8) (k : Fin 512) (n : ℕ) (h : 512 * q.val = n) : (at' q k).val = n + k.val := by subst h; rfl

include hoh in
theorem slot_word (q : Fin 8) (k : Fin 512) : slotsOf oh (ix2 (at' q k) 0) = BitVec.ofNat 32 (slot ex (at' q k)) := by
  rw [← fptosi_nr (n := slot ex (at' q k)) (by have := slot_lt ex (at' q k); omega)]
  have hk : (at' q k).val = 512 * q.val + k.val := rfl
  pointwise [slotsOf, k0_pay32, k0_pay27, k0_pay28, k0_pay29, k0_pay30, k0_pay31]
  simp only [Nat.sub_sub, Nat.reduceAdd]
  match q with
  | 0 =>
    rw [dif_pos (by have := at_val 0 k 0 rfl; omega)]
    exact congrArg (FloatOps.fptosi (F := Ideal) (φ := .f32) 32) (slot_sum oh ex hoh 0 k _ _ _ _ (fun e => rfl)
      (fun e => (congrArg (fun z => k0_pay13 oh ta tb (ix2 z e)) (Fin.ext (by have := at_val 0 k 0 rfl; dsimp only; omega))).trans (p13 oh ex hoh k e)) (p22 oh ex hoh 0) (p26 oh ex hoh))
  | 1 =>
    rw [dif_neg (by have := at_val 1 k 512 rfl; omega)]
    rw [dif_pos (by have := at_val 1 k 512 rfl; omega)]
    exact congrArg (FloatOps.fptosi (F := Ideal) (φ := .f32) 32) (slot_sum oh ex hoh 1 k _ _ _ _ (fun e => row_at oh 1 k 512 _ rfl (by decide) _ e)
      (fun e => (congrArg (fun z => k0_pay14 oh ta tb (ix2 z e)) (Fin.ext (by have := at_val 1 k 512 rfl; dsimp only; omega))).trans (p14 oh ex hoh k e)) (p22 oh ex hoh 1) (p26 oh ex hoh))
  | 2 =>
    rw [dif_neg (by have := at_val 2 k 1024 rfl; omega)]
    rw [dif_neg (by have := at_val 2 k 1024 rfl; omega)]
    rw [dif_pos (by have := at_val 2 k 1024 rfl; omega)]
    exact congrArg (FloatOps.fptosi (F := Ideal) (φ := .f32) 32) (slot_sum oh ex hoh 2 k _ _ _ _ (fun e => row_at oh 2 k 1024 _ rfl (by decide) _ e)
      (fun e => (congrArg (fun z => k0_pay15 oh ta tb (ix2 z e)) (Fin.ext (by have := at_val 2 k 1024 rfl; dsimp only; omega))).trans (p15 oh ex hoh k e)) (p22 oh ex hoh 2) (p26 oh ex hoh))
  | 3 =>
    rw [dif_neg (by have := at_val 3 k 1536 rfl; omega)]
    rw [dif_neg (by have := at_val 3 k 1536 rfl; omega)]
    rw [dif_neg (by have := at_val 3 k 1536 rfl; omega)]
    rw [dif_pos (by have := at_val 3 k 1536 rfl; omega)]
    exact congrArg (FloatOps.fptosi (F := Ideal) (φ := .f32) 32) (slot_sum oh ex hoh 3 k _ _ _ _ (fun e => row_at oh 3 k 1536 _ rfl (by decide) _ e)
      (fun e => (congrArg (fun z => k0_pay16 oh ta tb (ix2 z e)) (Fin.ext (by have := at_val 3 k 1536 rfl; dsimp only; omega))).trans (p16 oh ex hoh k e)) (p22 oh ex hoh 3) (p26 oh ex hoh))
  | 4 =>
    rw [dif_neg (by have := at_val 4 k 2048 rfl; omega)]
    rw [dif_neg (by have := at_val 4 k 2048 rfl; omega)]
    rw [dif_neg (by have := at_val 4 k 2048 rfl; omega)]
    rw [dif_neg (by have := at_val 4 k 2048 rfl; omega)]
    rw [dif_pos (by have := at_val 4 k 2048 rfl; omega)]
    exact congrArg (FloatOps.fptosi (F := Ideal) (φ := .f32) 32) (slot_sum oh ex hoh 4 k _ _ _ _ (fun e => row_at oh 4 k 2048 _ rfl (by decide) _ e)
      (fun e => (congrArg (fun z => k0_pay17 oh ta tb (ix2 z e)) (Fin.ext (by have := at_val 4 k 2048 rfl; dsimp only; omega))).trans (p17 oh ex hoh k e)) (p22 oh ex hoh 4) (p26 oh ex hoh))
  | 5 =>
    rw [dif_neg (by have := at_val 5 k 2560 rfl; omega)]
    rw [dif_neg (by have := at_val 5 k 2560 rfl; omega)]
    rw [dif_neg (by have := at_val 5 k 2560 rfl; omega)]
    rw [dif_neg (by have := at_val 5 k 2560 rfl; omega)]
    rw [dif_neg (by have := at_val 5 k 2560 rfl; omega)]
    rw [dif_pos (by have := at_val 5 k 2560 rfl; omega)]
    exact congrArg (FloatOps.fptosi (F := Ideal) (φ := .f32) 32) (slot_sum oh ex hoh 5 k _ _ _ _ (fun e => row_at oh 5 k 2560 _ rfl (by decide) _ e)
      (fun e => (congrArg (fun z => k0_pay18 oh ta tb (ix2 z e)) (Fin.ext (by have := at_val 5 k 2560 rfl; dsimp only; omega))).trans (p18 oh ex hoh k e)) (p22 oh ex hoh 5) (p26 oh ex hoh))
  | 6 =>
    rw [dif_neg (by have := at_val 6 k 3072 rfl; omega)]
    rw [dif_neg (by have := at_val 6 k 3072 rfl; omega)]
    rw [dif_neg (by have := at_val 6 k 3072 rfl; omega)]
    rw [dif_neg (by have := at_val 6 k 3072 rfl; omega)]
    rw [dif_neg (by have := at_val 6 k 3072 rfl; omega)]
    rw [dif_neg (by have := at_val 6 k 3072 rfl; omega)]
    rw [dif_pos (by have := at_val 6 k 3072 rfl; omega)]
    exact congrArg (FloatOps.fptosi (F := Ideal) (φ := .f32) 32) (slot_sum oh ex hoh 6 k _ _ _ _ (fun e => row_at oh 6 k 3072 _ rfl (by decide) _ e)
      (fun e => (congrArg (fun z => k0_pay19 oh ta tb (ix2 z e)) (Fin.ext (by have := at_val 6 k 3072 rfl; dsimp only; omega))).trans (p19 oh ex hoh k e)) (p22 oh ex hoh 6) (p26 oh ex hoh))
  | 7 =>
    rw [dif_neg (by have := at_val 7 k 3584 rfl; omega)]
    rw [dif_neg (by have := at_val 7 k 3584 rfl; omega)]
    rw [dif_neg (by have := at_val 7 k 3584 rfl; omega)]
    rw [dif_neg (by have := at_val 7 k 3584 rfl; omega)]
    rw [dif_neg (by have := at_val 7 k 3584 rfl; omega)]
    rw [dif_neg (by have := at_val 7 k 3584 rfl; omega)]
    rw [dif_neg (by have := at_val 7 k 3584 rfl; omega)]
    exact congrArg (FloatOps.fptosi (F := Ideal) (φ := .f32) 32) (slot_sum oh ex hoh 7 k _ _ _ _ (fun e => row_at oh 7 k 3584 _ rfl (by decide) _ e)
      (fun e => (congrArg (fun z => k0_pay20 oh ta tb (ix2 z e)) (Fin.ext (by have := at_val 7 k 3584 rfl; dsimp only; omega))).trans (p20 oh ex hoh k e)) (p22 oh ex hoh 7) (p26 oh ex hoh))

end Cert.Proof.Whole.Slots
end
end
-- ==== Proof.KRouter.lean ====
/- What the router stores, at the ideal instance: a token's probabilities, their greatest and second greatest, the
   pairs' experts, and the table of rows they give. -/
module

public import proofs.«01_k».proof.Proof.KTop
public import proofs.«01_k».proof.Proof.KSlots
public import Idealize.ShloMosaic.Lib.Pipeline.ValueKit.Tiles

@[expose] public section

noncomputable section

namespace Cert.Proof.Whole.Router

open Idealize.ShloMosaic Cert.KernelIdeal Cert.KernelIdeal.Gen Cert.Proof.Whole Cert.Proof.Whole.Count Cert.Proof.Whole.Reg0
open Cert.Proof.Whole.Top Cert.Proof.Whole.Slots

theorem wbot : Ideal.ofBits .f32 0xFF800000#32 = ⊥ := by simp [Ideal.ofBits, Ideal.ieee]

variable (x0 : Vec Ideal S2048x1024 .f32) (x1 : Vec Ideal S2048x1 .f32) (x2 : Vec Ideal S8x1024 .f32) (x3 x4 : Vec Ideal S1x8 .f32)

/-- A token's router logit, written as the kernel computes it. -/
def lg (t : Fin 2048) (e : Fin 8) : EReal :=
  ∑ k : Fin 1024, x0 (ix2 t k) * x2 (ix2 e k) + min 1 (max 0 (x1 (ix2 t 0))) * x3 (ix2 0 e) + (1 - min 1 (max 0 (x1 (ix2 t 0)))) * x4 (ix2 0 e)

/-- The probabilities of a row of logits. -/
def soft (l : Fin 8 → EReal) (e : Fin 8) : EReal :=
  Ideal.div (Ideal.exp (l e - l (top l))) (∑ j : Fin 8, Ideal.exp (l j - l (top l)))

theorem soft_fold (l : Fin 8 → EReal) (e : Fin 8) :
    soft l e = Ideal.div (Ideal.exp (l e - Finset.fold max (Ideal.ofBits .f32 0xFF800000#32) (fun x => l x) Finset.univ))
      (∑ j : Fin 8, Ideal.exp (l j - Finset.fold max (Ideal.ofBits .f32 0xFF800000#32) (fun x => l x) Finset.univ)) := by
  rw [fold_max _ wbot]; rfl

/-- A token's probabilities. -/
def P (t : Fin 2048) : Fin 8 → EReal := soft (lg x0 x1 x2 x3 x4 t)

theorem hz : (![0, 0] : Fin 2 → ℕ) = fun _ => 0 := by decide

theorem ld_rx (x : Vec Ideal S2048x1024 .f32) : View.ld x Reg0.rx = x :=
  View.ld_unit_zero hz _ x
theorem ld_rc (x : Vec Ideal S2048x1 .f32) : View.ld x Reg0.rc = x :=
  View.ld_unit_zero hz _ x
theorem ld_rw (x : Vec Ideal S8x1024 .f32) : View.ld x Reg0.rw = x :=
  View.ld_unit_zero hz _ x
theorem ld_re (x : Vec Ideal S1x8 .f32) : View.ld x Reg0.re = x :=
  View.ld_unit_zero hz _ x

theorem pr_apply (t : Fin 2048) (e : Fin 8) : pr x0 x1 x2 x3 x4 (ix2 t e) = P x0 x1 x2 x3 x4 t e := by
  unfold pr
  rw [ld_rx, ld_rc, ld_rw, ld_re, ld_re]
  pointwise [k0_pay4]
  exact (soft_fold (lg x0 x1 x2 x3 x4 t) e).symm

theorem m1_apply (t : Fin 2048) : m1 x0 x1 x2 x3 x4 (ix2 t 0) = P x0 x1 x2 x3 x4 t (top (P x0 x1 x2 x3 x4 t)) := by
  have h : m1 x0 x1 x2 x3 x4 (ix2 t 0) = Finset.fold max (Ideal.ofBits .f32 0xFF800000#32) (fun e => pr x0 x1 x2 x3 x4 (ix2 t e)) Finset.univ := by
    unfold m1; pointwise [k0_pay5]; rfl
  rw [h, funext (pr_apply x0 x1 x2 x3 x4 t)]
  exact fold_max _ wbot _

theorem i1_apply (t : Fin 2048) : i1 x0 x1 x2 x3 x4 (ix1 t) = BitVec.ofNat 32 (top (P x0 x1 x2 x3 x4 t)).val := by
  rw [← fold_min (P x0 x1 x2 x3 x4 t) _ (m1_apply x0 x1 x2 x3 x4 t) _ fun x => rfl]
  have h : i1 x0 x1 x2 x3 x4 (ix1 t) = Finset.fold IntOp.minsi (2147483647#32)
      (fun x => if pr x0 x1 x2 x3 x4 (ix2 t x) = m1 x0 x1 x2 x3 x4 (ix2 t 0) then BitVec.ofNat 32 x.val else 8#32) Finset.univ := by
    unfold i1; pointwise [k0_pay6]; rfl
  rw [h]
  simp only [pr_apply]

theorem cmp_eq (a b : Fin 8) : IntOp.cmpi .eq (BitVec.ofNat 32 a.val) (BitVec.ofNat 32 b.val) = BitVec.ofBool (decide (a = b)) := by
  revert a b; decide

theorem sel_bool (p : Prop) [Decidable p] (a b : EReal) : Scalar.select (BitVec.ofBool (decide p)) a b = if p then a else b := by
  by_cases h : p <;> simp [Scalar.select, h]

theorem p7 (t : Fin 2048) (e : Fin 8) :
    k0_pay7 io (i1 x0 x1 x2 x3 x4) (ix2 t e) = BitVec.ofBool (decide (e = top (P x0 x1 x2 x3 x4 t))) := by
  have h : k0_pay7 io (i1 x0 x1 x2 x3 x4) (ix2 t e) = IntOp.cmpi .eq (BitVec.ofNat 32 e.val) (i1 x0 x1 x2 x3 x4 (ix1 t)) := by
    pointwise [k0_pay7]
  rw [h, i1_apply]
  exact cmp_eq _ _

theorem p8 (t : Fin 2048) (e : Fin 8) :
    k0_pay8 (pr x0 x1 x2 x3 x4) io (i1 x0 x1 x2 x3 x4) (ix2 t e) = mask (P x0 x1 x2 x3 x4 t) (top (P x0 x1 x2 x3 x4 t)) e := by
  have h : k0_pay8 (pr x0 x1 x2 x3 x4) io (i1 x0 x1 x2 x3 x4) (ix2 t e)
      = Scalar.select (k0_pay7 io (i1 x0 x1 x2 x3 x4) (ix2 t e)) (Ideal.ofBits .f32 0xFF800000#32) (pr x0 x1 x2 x3 x4 (ix2 t e)) := by
    pointwise [k0_pay8]
  rw [h, p7, wbot, pr_apply, sel_bool]
  rfl

theorem p9 (t : Fin 2048) :
    k0_pay9 (pr x0 x1 x2 x3 x4) io (i1 x0 x1 x2 x3 x4) (ix2 t 0) = mask (P x0 x1 x2 x3 x4 t) (top (P x0 x1 x2 x3 x4 t)) (top2 (P x0 x1 x2 x3 x4 t)) := by
  have h : k0_pay9 (pr x0 x1 x2 x3 x4) io (i1 x0 x1 x2 x3 x4) (ix2 t 0)
      = Finset.fold max (Ideal.ofBits .f32 0xFF800000#32) (fun e => k0_pay8 (pr x0 x1 x2 x3 x4) io (i1 x0 x1 x2 x3 x4) (ix2 t e)) Finset.univ := by
    pointwise [k0_pay9]
  rw [h, funext (p8 x0 x1 x2 x3 x4 t)]
  exact fold_max _ wbot _

/-- A pair's expert: pair `p` is token `p`'s first choice, pair `2048 + p` its second. -/
def ex (p : Fin 4096) : Fin 8 :=
  if h : p.val < 2048 then top (P x0 x1 x2 x3 x4 ⟨p.val, h⟩) else top2 (P x0 x1 x2 x3 x4 ⟨p.val - 2048, by omega⟩)

theorem oh_apply (p : Fin 4096) (e : Fin 8) : oh x0 x1 x2 x3 x4 (ix2 p e) = if ex x0 x1 x2 x3 x4 p = e then 1 else 0 := by
  unfold oh
  pointwise [k0_pay11]
  unfold ex
  by_cases h : p.val < 2048
  · rw [dif_pos h, dif_pos h, p7, sel_bool]
    simp only [eq_comm]
  · rw [dif_neg h, dif_neg h]
    simp only [p8, p9]
    generalize (⟨p.val - 2048, _⟩ : Fin 2048) = t
    have hf := fold_min (mask (P x0 x1 x2 x3 x4 t) (top (P x0 x1 x2 x3 x4 t)))
      (mask (P x0 x1 x2 x3 x4 t) (top (P x0 x1 x2 x3 x4 t)) (top2 (P x0 x1 x2 x3 x4 t))) rfl (fun x => BitVec.ofNat 32 x.val) fun x => rfl
    refine (congrArg (fun w => Scalar.select (IntOp.cmpi .eq (BitVec.ofNat 32 e.val) w) (1 : EReal) 0) hf).trans ?_
    show Scalar.select (IntOp.cmpi .eq (BitVec.ofNat 32 e.val) (BitVec.ofNat 32 (top2 (P x0 x1 x2 x3 x4 t)).val)) (1 : EReal) 0 = _
    rw [cmp_eq, sel_bool]
    simp only [eq_comm]

/-! ## The stored arrays -/

theorem out5_lo (t : Fin 2048) : out5 x0 x1 x2 x3 x4 (ix2 ⟨t.val, by omega⟩ 0) = P x0 x1 x2 x3 x4 t (top (P x0 x1 x2 x3 x4 t)) := by
  rw [← m1_apply]
  unfold out5
  refine View.canon_eq_of_allAt _ _ _ (cover5 _ _ _) (View.allAt_cons_unit _ _ _ _ _ (fun x hx => ?_) (View.allAt_cons_unit _ _ _ _ _ (fun x hx => ?_) (View.allAt_nil _ _)))
  · have h0 := hx 0
    change t.val = 2048 + (x 0).val at h0
    omega
  · have h0 := hx 0
    change t.val = 0 + (x 0).val at h0
    congr 1
    funext a
    match a with
    | 0 => exact Fin.ext (by rw [Nat.zero_add] at h0; exact h0.symm)
    | 1 => exact Subsingleton.elim (α := Fin 1) _ _

theorem out5_hi (t : Fin 2048) : out5 x0 x1 x2 x3 x4 (ix2 ⟨2048 + t.val, by omega⟩ 0)
    = mask (P x0 x1 x2 x3 x4 t) (top (P x0 x1 x2 x3 x4 t)) (top2 (P x0 x1 x2 x3 x4 t)) := by
  rw [← p9]
  unfold out5
  refine View.canon_eq_of_allAt _ _ _ (cover5 _ _ _) (View.allAt_cons_unit _ _ _ _ _ (fun x hx => ?_) (View.allAt_cons_unit _ _ _ _ _ (fun x hx => ?_) (View.allAt_nil _ _)))
  · have h0 := hx 0
    change 2048 + t.val = 2048 + (x 0).val at h0
    congr 1
    funext a
    match a with
    | 0 => exact Fin.ext (by rw [Nat.add_left_cancel_iff] at h0; exact h0.symm)
    | 1 => exact Subsingleton.elim (α := Fin 1) _ _
  · have h0 := hx 0
    have h1 : (x 0).val < 2048 := (x 0).isLt
    change 2048 + t.val = 0 + (x 0).val at h0
    omega

theorem out6_eq : out6 x0 x1 x2 x3 x4 = slotsOf (oh x0 x1 x2 x3 x4) := View.canon_unit_zero hz _ _

theorem out6_apply (p : Fin 4096) : out6 x0 x1 x2 x3 x4 (ix2 p 0) = BitVec.ofNat 32 (slot (ex x0 x1 x2 x3 x4) p) := by
  have hp : p = at' ⟨p.val / 512, by omega⟩ ⟨p.val % 512, by omega⟩ := Fin.ext (Nat.div_add_mod _ _).symm
  rw [out6_eq, hp]
  exact slot_word _ _ (oh_apply x0 x1 x2 x3 x4) _ _

theorem out7_0 : out7 x0 x1 x2 x3 x4 (ix2 0 0) = BitVec.ofNat 32 (used (ex x0 x1 x2 x3 x4)) := by
  rw [← used_word _ _ (oh_apply x0 x1 x2 x3 x4)]
  unfold out7
  refine View.canon_eq_of_allAt _ _ _ (cover7 _ _ _ _) (View.allAt_cons_unit _ _ _ _ _ (fun x hx => ?_) (View.allAt_cons_unit _ _ _ _ _ (fun x hx => ?_)
    (View.allAt_cons_unit _ _ _ _ _ (fun x hx => ?_) (View.allAt_nil _ _))))
  · have h0 := hx 0
    change 0 = 16 + (x 0).val at h0
    omega
  · have h0 := hx 0
    change 0 = 1 + (x 0).val at h0
    omega
  · congr 1
    funext a
    match a with
    | 0 => exact Subsingleton.elim (α := Fin 1) _ _
    | 1 => exact Subsingleton.elim (α := Fin 1) _ _

theorem out7_1 (i : Fin 15) : out7 x0 x1 x2 x3 x4 (ix2 ⟨1 + i.val, by omega⟩ 0)
    = BitVec.ofNat 32 (begun (ex x0 x1 x2 x3 x4) (min i.val (used (ex x0 x1 x2 x3 x4) - 1)) - 1) := by
  rw [← expert_word _ _ (oh_apply x0 x1 x2 x3 x4)]
  unfold out7
  refine View.canon_eq_of_allAt _ _ _ (cover7 _ _ _ _) (View.allAt_cons_unit _ _ _ _ _ (fun x hx => ?_) (View.allAt_cons_unit _ _ _ _ _ (fun x hx => ?_)
    (View.allAt_cons_unit _ _ _ _ _ (fun x hx => ?_) (View.allAt_nil _ _))))
  · have h0 := hx 0
    change 1 + i.val = 16 + (x 0).val at h0
    omega
  · have h0 := hx 0
    change 1 + i.val = 1 + (x 0).val at h0
    congr 1
    funext a
    match a with
    | 0 => exact Fin.ext (by rw [Nat.add_left_cancel_iff] at h0; exact h0.symm)
    | 1 => exact Subsingleton.elim (α := Fin 1) _ _
  · have h0 := hx 0
    have h1 : (x 0).val < 1 := (x 0).isLt
    change 1 + i.val = 0 + (x 0).val at h0
    omega

theorem out7_16 (i : Fin 15) : out7 x0 x1 x2 x3 x4 (ix2 ⟨16 + i.val, by omega⟩ 0)
    = BitVec.ofNat 32 (min i.val (used (ex x0 x1 x2 x3 x4) - 1)) := by
  rw [← block_word _ _ (oh_apply x0 x1 x2 x3 x4)]
  unfold out7
  refine View.canon_eq_of_allAt _ _ _ (cover7 _ _ _ _) (View.allAt_cons_unit _ _ _ _ _ (fun x hx => ?_) (View.allAt_cons_unit _ _ _ _ _ (fun x hx => ?_)
    (View.allAt_cons_unit _ _ _ _ _ (fun x hx => ?_) (View.allAt_nil _ _))))
  · have h0 := hx 0
    change 16 + i.val = 16 + (x 0).val at h0
    congr 1
    funext a
    match a with
    | 0 => exact Fin.ext (by rw [Nat.add_left_cancel_iff] at h0; exact h0.symm)
    | 1 => exact Subsingleton.elim (α := Fin 1) _ _
  · have h0 := hx 0
    have h1 : (x 0).val < 15 := (x 0).isLt
    change 16 + i.val = 1 + (x 0).val at h0
    omega
  · have h0 := hx 0
    have h1 : (x 0).val < 1 := (x 0).isLt
    change 16 + i.val = 0 + (x 0).val at h0
    omega

theorem out8_apply : out8 x0 x1 x2 x3 x4 (ix2 0 0) = Ideal.ofBits .f32 0x3DA3D70A#32 *
    ∑ e : Fin 8, Ideal.div (∑ t : Fin 2048, P x0 x1 x2 x3 x4 t e) (Ideal.ofBits .f32 0x45000000#32)
      * Ideal.div (∑ t : Fin 2048, P x0 x1 x2 x3 x4 t e) (Ideal.ofBits .f32 0x45000000#32) := by
  have h : out8 x0 x1 x2 x3 x4 = k0_pay10 (pr x0 x1 x2 x3 x4) := View.canon_unit_zero hz _ _
  rw [h]
  pointwise [k0_pay10]
  simp only [pr_apply]
  rw [Fin.sum_univ_one]

end Cert.Proof.Whole.Router
end
end
-- ==== Proof.KOK.lean ====
/-
  The router's list and table on the ideal values: the run's conditions hold.
-/
module

public import proofs.«01_k».proof.Proof.KVB
public import proofs.«01_k».proof.Proof.KRouter
public import Idealize.ShloMosaic.Lib.Pointwise

@[expose] public section

noncomputable section

namespace Cert.Proof.Whole.OK

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

open Cert.Proof.Whole.Count

variable (m : (ℓ : Loc nD τ sig) → Buf (Elt Ideal) ℓ) (d : Dev nD)

/-- The expert of a pair. -/
def ex : Fin 4096 → Fin 8 :=
  Router.ex (VA m d (rf main_v0)) (VA m d (rf main_v1)) (VA m d (rf main_arg2)) (VA m d (rf main_v2)) (VA m d (rf main_v3))

theorem v4_1_apply (p : Fin 4096) : (VB m d (rf main_v4_1) : Vec Ideal S4096x1 .i32) (ix2 p 0) = BitVec.ofNat 32 (slot (ex m d) p) := by
  rw [VB_v4_1]; exact Router.out6_apply _ _ _ _ _ p

/-- The list's word `r`. -/
theorem lst_word (r : Fin 16384) : (lst m d (Disp.listIx r) : BitVec 32) = BitVec.ofNat 32 (4 * slot (ex m d) ⟨r.val / 4, by omega⟩ + r.val % 4) := by
  have hr := r.isLt
  unfold lst
  rw [VC_v12]
  rw [shapeCast_apply _ _ (Disp.listIx r) (ix2 (⟨r.val / 4, by omega⟩ : Fin 4096) (⟨r.val % 4, by omega⟩ : Fin 4)) (by
      unfold Disp.listIx
      rw [Shape.rowMajor_val_two, Shape.rowMajor_val_three]
      show r.val / 4 * 4 + r.val % 4 = (r.val / 512 * 4 + r.val / 128 % 4) * 128 + r.val % 128
      omega)]
  have h := v4_1_apply m d ⟨r.val / 4, by omega⟩
  have hs := slot_lt (ex m d) ⟨r.val / 4, by omega⟩
  have e : ∀ X : Vec Ideal S4096x1 .i32, (addi (broadcastInDim S4096x4 ![0, 1] bcast_S4096x1_S4096x4_0_1 (muli X (broadcastInDim S4096x1 ![] bcast_S_S4096x1 (constantI S_ 32 4#32))))
      (broadcastInDim S4096x4 ![0, 1] bcast_S1x4_S4096x4_0_1 (broadcastInDim S1x4 ![1] bcast_S4_S1x4_1 (iotaInDim S4 32 0))) : IVec S4096x4 32)
      (ix2 (⟨r.val / 4, by omega⟩ : Fin 4096) (⟨r.val % 4, by omega⟩ : Fin 4))
      = X (ix2 (⟨r.val / 4, by omega⟩ : Fin 4096) 0) * 4#32 + BitVec.ofNat 32 (r.val % 4) := by
    intro X
    pointwise
    rfl
  rw [e, h]
  apply BitVec.eq_of_toNat_eq
  simp only [BitVec.toNat_add, BitVec.toNat_mul, BitVec.toNat_ofNat]
  generalize slot (ex m d) ⟨r.val / 4, by omega⟩ = s at hs ⊢
  omega

theorem lst_nat (r : Fin 16384) : (lst m d (Disp.listIx r) : BitVec 32).toNat = 4 * slot (ex m d) ⟨r.val / 4, by omega⟩ + r.val % 4 := by
  have hs := slot_lt (ex m d) ⟨r.val / 4, by omega⟩
  rw [lst_word, BitVec.toNat_ofNat, Nat.mod_eq_of_lt]
  generalize slot (ex m d) ⟨r.val / 4, by omega⟩ = s at hs ⊢
  omega

theorem listIx_surj (j : S32x4x128.Idx) : ∃ r : Fin 16384, Disp.listIx r = j := by
  have h0 : (j 0).val < 32 := (j 0).isLt
  have h1 : (j 1).val < 4 := (j 1).isLt
  have h2 : (j 2).val < 128 := (j 2).isLt
  refine ⟨⟨512 * (j 0).val + 128 * (j 1).val + (j 2).val, by omega⟩, ?_⟩
  refine (Disp.listIx_chunk ⟨_, h0⟩ ⟨_, h1⟩ ⟨_, h2⟩ _).trans ?_
  funext a; fin_cases a <;> rfl

theorem bound (j : S32x4x128.Idx) : (lst m d j : BitVec 32).toNat < 30720 := by
  obtain ⟨r, rfl⟩ := listIx_surj j
  have hs := slot_lt (ex m d) ⟨r.val / 4, by omega⟩
  rw [lst_nat]
  generalize slot (ex m d) ⟨r.val / 4, by omega⟩ = s at hs ⊢
  omega

theorem distinct (j j' : S32x4x128.Idx) (h : (lst m d j : BitVec 32).toNat = (lst m d j' : BitVec 32).toNat) : j = j' := by
  obtain ⟨r, rfl⟩ := listIx_surj j
  obtain ⟨r', rfl⟩ := listIx_surj j'
  rw [lst_nat, lst_nat] at h
  have hs : slot (ex m d) ⟨r.val / 4, by omega⟩ = slot (ex m d) ⟨r'.val / 4, by omega⟩ := by
    exact (by omega : ∀ s s' a b : ℕ, 4 * s + a % 4 = 4 * s' + b % 4 → s = s') _ _ _ _ h
  have hp := congrArg Fin.val (slot_inj (ex m d) hs)
  rw [hs] at h
  have : r = r' := Fin.ext (by simp only at hp; omega)
  rw [this]

/-! ## The table -/

/-- The table's words, and how many blocks are used. -/
def T : Vec Ideal S31 .i32 := VC m 0 (rf main_v13)
abbrev U : ℕ := used (ex m 0)

theorem T_apply (k : Fin 31) : T m (ix1 k) = (VB m 0 (rf main_v4_2) : Vec Ideal S31x1 .i32) (ix2 k 0) := by
  unfold T
  rw [VC_v13]
  exact shapeCast_apply _ _ _ _ (by
    refine (Shape.rowMajor_val_two (d := ![31, 1]) (ix2 k 0)).trans ((?_ : k.val * 1 + 0 = k.val).trans (Shape.rowMajor_val_one (d := ![31]) (ix1 k)).symm)
    omega)

theorem T_0 : (T m (ix1 0) : BitVec 32) = BitVec.ofNat 32 (U m) := by
  rw [T_apply, VB_v4_2]; exact Router.out7_0 _ _ _ _ _
theorem T_1 (i : Fin 15) : (T m (ix1 ⟨1 + i.val, by omega⟩) : BitVec 32) = BitVec.ofNat 32 (begun (ex m 0) (min i.val (U m - 1)) - 1) := by
  rw [T_apply, VB_v4_2]; exact Router.out7_1 _ _ _ _ _ i
theorem T_16 (i : Fin 15) : (T m (ix1 ⟨16 + i.val, by omega⟩) : BitVec 32) = BitVec.ofNat 32 (min i.val (U m - 1)) := by
  rw [T_apply, VB_v4_2]; exact Router.out7_16 _ _ _ _ _ i

theorem T_1_nat (i : Fin 15) : (T m (ix1 ⟨1 + i.val, by omega⟩) : BitVec 32).toNat = begun (ex m 0) (min i.val (U m - 1)) - 1 := by
  have := begun_le (ex m 0) (min i.val (U m - 1))
  rw [T_1, BitVec.toNat_ofNat]; omega
theorem T_16_nat (i : Fin 15) : (T m (ix1 ⟨16 + i.val, by omega⟩) : BitVec 32).toNat = min i.val (U m - 1) := by
  have := i.isLt
  rw [T_16, BitVec.toNat_ofNat]; omega

variable (pf : pre3.Contents (Elt Ideal))

abbrev tb : Vec Ideal S31 .i32 := pf 0

theorem off16 : ∀ i : Fin 15, (Scalar.indexCast (Scalar.addi 16#32 (BitVec.ofNat 32 i.val)) : Index).toNat = 16 + i.val := by decide
theorem off1 : ∀ i : Fin 15, (Scalar.indexCast (Scalar.addi 1#32 (BitVec.ofNat 32 i.val)) : Index).toNat = 1 + i.val := by decide

theorem tr0 (i : grid3.Coords) (h : (i 0).val < 15) : cc3_transform_0 k3_off1_inb numel1_S1 pf i = ![(tb pf (ix1 ⟨16 + (i 0).val, by omega⟩) : BitVec 32).toNat, 0] := by
  refine congrArg (fun w : BitVec 32 => ![w.toNat, 0]) (congrArg (tb pf) (funext fun a => Fin.ext ?_))
  fin_cases a
  exact off16 ⟨(i 0).val, h⟩
theorem tr4 (i : grid3.Coords) (h : (i 0).val < 15) : cc3_transform_4 k3_off1_inb numel1_S1 pf i = ![(tb pf (ix1 ⟨16 + (i 0).val, by omega⟩) : BitVec 32).toNat, 0] := tr0 pf i h
theorem tr1 (i : grid3.Coords) (h : (i 0).val < 15) : cc3_transform_1 k3_off1_inb numel1_S1 pf i = ![(tb pf (ix1 ⟨1 + (i 0).val, by omega⟩) : BitVec 32).toNat, 0, 0] := by
  refine congrArg (fun w : BitVec 32 => ![w.toNat, 0, 0]) (congrArg (tb pf) (funext fun a => Fin.ext ?_))
  fin_cases a
  exact off1 ⟨(i 0).val, h⟩
theorem tr2 (i : grid3.Coords) (h : (i 0).val < 15) : cc3_transform_2 k3_off1_inb numel1_S1 pf i = ![(tb pf (ix1 ⟨1 + (i 0).val, by omega⟩) : BitVec 32).toNat, 0, 0] := tr1 pf i h
theorem tr3 (i : grid3.Coords) (h : (i 0).val < 15) : cc3_transform_3 k3_off1_inb numel1_S1 pf i = ![(tb pf (ix1 ⟨1 + (i 0).val, by omega⟩) : BitVec 32).toNat, 0, 0] := tr1 pf i h

/-- The prefetched table. -/
def pf0 : pre3.Contents (Elt Ideal) := fun k => VC m 0 (rf ((pcfg3 (F := Ideal)).pre.ref k))

theorem tb_pf0 : tb (pf0 m) = T m := rfl

theorem ok : ok3 (F := Ideal) (pf0 m) := by
  have hc : ∀ i : grid3.Coords, (i 0).val < 15 := fun i => (i 0).isLt
  have h0 : ∀ i : grid3.Coords, ∀ a, (cc3_transform_0 k3_off1_inb numel1_S1 (pf0 m) i a + 1) * S512x1024.size a ≤ S7680x1024.size a := by
    intro i a
    rw [tr0 _ i (hc i), tb_pf0, T_16_nat m ⟨_, hc i⟩]
    have := hc i
    fin_cases a
    · show (min (i 0).val (U m - 1) + 1) * 512 ≤ 7680; omega
    · show (0 + 1) * 1024 ≤ 1024; omega
  have h1 : ∀ i : grid3.Coords, ∀ a, (cc3_transform_1 k3_off1_inb numel1_S1 (pf0 m) i a + 1) * S1x1024x1024.size a ≤ S8x1024x1024.size a := by
    intro i a
    rw [tr1 _ i (hc i), tb_pf0, T_1_nat m ⟨_, hc i⟩]
    have := begun_le (ex m 0) (min (i 0).val (U m - 1))
    fin_cases a
    · show (begun (ex m 0) (min (i 0).val (U m - 1)) - 1 + 1) * 1 ≤ 8; omega
    · show (0 + 1) * 1024 ≤ 1024; omega
    · show (0 + 1) * 1024 ≤ 1024; omega
  exact ⟨fun i => ⟨h0 i, .inl rfl⟩, fun i => ⟨h1 i, .inl rfl⟩, fun i => ⟨h1 i, .inl rfl⟩, fun i => ⟨h1 i, .inl rfl⟩, fun i => ⟨h0 i, .inl rfl⟩⟩

def a3 : (pcfg3 (F := Ideal)).Adm := ⟨pf0 m, ok m⟩

theorem coord : ∀ t : Fin 15, (grid3.coords t 0).val = t.val := by decide
theorem coord_lt (t : Fin (cfg3 (a3 m)).N) : (grid3.coords t 0).val < 15 := (grid3.coords t 0).isLt

/-- The block of a step. -/
theorem idx4 (t : Fin 15) : ((cfg3 (a3 m)).win 4).index t = ![min t.val (U m - 1), 0] := by
  have h := coord t
  refine (tr4 (pf0 m) (grid3.coords t) (by rw [h]; exact t.isLt)).trans ?_
  have e := T_16_nat m t
  have hk : (⟨16 + (grid3.coords t 0).val, by rw [h]; omega⟩ : Fin 31) = ⟨16 + t.val, by omega⟩ := Fin.ext (congrArg (16 + ·) h)
  rw [tb_pf0, hk, e]

theorem idx0 (t : Fin 15) : ((cfg3 (a3 m)).win 0).index t = ![min t.val (U m - 1), 0] := idx4 m t

/-- The expert of a step. -/
theorem idx1 (t : Fin 15) : ((cfg3 (a3 m)).win 1).index t = ![begun (ex m 0) (min t.val (U m - 1)) - 1, 0, 0] := by
  have h := coord t
  refine (tr1 (pf0 m) (grid3.coords t) (by rw [h]; exact t.isLt)).trans ?_
  have e := T_1_nat m t
  have hk : (⟨1 + (grid3.coords t 0).val, by rw [h]; omega⟩ : Fin 31) = ⟨1 + t.val, by omega⟩ := Fin.ext (congrArg (1 + ·) h)
  rw [tb_pf0, hk, e]
theorem idx2 (t : Fin 15) : ((cfg3 (a3 m)).win 2).index t = ![begun (ex m 0) (min t.val (U m - 1)) - 1, 0, 0] := idx1 m t
theorem idx3 (t : Fin 15) : ((cfg3 (a3 m)).win 3).index t = ![begun (ex m 0) (min t.val (U m - 1)) - 1, 0, 0] := idx1 m t

theorem usedW_eq : Reg3.usedW (F := Ideal) ((a3 m).1 0) = BitVec.ofNat 32 (U m) := by
  rw [← T_0]
  unfold Reg3.usedW
  refine congrArg (T m) (funext fun a => ?_)
  fin_cases a; rfl

theorem cond_iff : ∀ (i : Fin 15) (u : Fin 16), (Scalar.cmpi .ne (Scalar.extui (Scalar.cmpi .slt (BitVec.ofNat 32 i.val) (BitVec.ofNat 32 u.val)) : BitVec 32) 0#32 == 1#1) = decide (i.val < u.val) := by
  decide

theorem idle_iff (t : Fin 15) : (cfg3 (a3 m)).idle 4 ((cfg3 (a3 m)).grid.coords t) = decide (U m ≤ t.val) := by
  rw [Reg3.idle_iff (a3 m) t, usedW_eq]
  have hu := used_le (ex m 0)
  have h := cond_iff ⟨(grid3.coords t 0).val, by rw [coord t]; exact t.isLt⟩ ⟨U m, by show used (ex m 0) < 16; omega⟩
  have e : (k3_cond1 (grid3.coords t) (BitVec.ofNat 32 (U m)) == 1#1) = decide ((grid3.coords t 0).val < U m) := h
  rw [e, coord t]
  by_cases hh : t.val < U m
  · simp [hh]
  · simp [hh, Nat.le_of_not_lt hh]

theorem repeats : Reg3.Repeats (a3 m) := by
  intro t ht
  have hi := idle_iff m t
  rw [ht] at hi
  have hU : U m ≤ t.val := by simpa using hi
  have hp : 0 < U m := used_pos (ex m 0)
  have hlt : t.val - 1 < 15 := by have : t.val < 15 := t.isLt; omega
  have hm : min t.val (U m - 1) = min (t.val - 1) (U m - 1) := by omega
  refine ⟨by omega, fun w => ?_⟩
  match w with
  | ⟨0, _⟩ => exact (idx0 m t).trans ((congrArg (fun x => ![x, 0]) hm).trans (idx0 m ⟨t.val - 1, hlt⟩).symm)
  | ⟨1, _⟩ => exact (idx1 m t).trans ((congrArg (fun x => ![begun (ex m 0) x - 1, 0, 0]) hm).trans (idx1 m ⟨t.val - 1, hlt⟩).symm)
  | ⟨2, _⟩ => exact (idx2 m t).trans ((congrArg (fun x => ![begun (ex m 0) x - 1, 0, 0]) hm).trans (idx2 m ⟨t.val - 1, hlt⟩).symm)
  | ⟨3, _⟩ => exact (idx3 m t).trans ((congrArg (fun x => ![begun (ex m 0) x - 1, 0, 0]) hm).trans (idx3 m ⟨t.val - 1, hlt⟩).symm)
  | ⟨4, _⟩ => exact (idx4 m t).trans ((congrArg (fun x => ![x, 0]) hm).trans (idx4 m ⟨t.val - 1, hlt⟩).symm)

/-- The steps that write back: those before the last used block, and the last step. -/
theorem flush_iff (t : Fin 15) : ((cfg3 (a3 m)).win 4).flush t = true ↔ (t.val = 14 ∨ t.val + 1 < U m) := by
  have hp : 0 < U m := used_pos (ex m 0)
  have hu : U m ≤ 15 := used_le (ex m 0)
  refine (iff_of_eq (congrArg (· = true) (Window.flush_eq_flushF ((cfg3 (a3 m)).win 4) t))).trans ?_
  unfold Window.flushF
  simp only [Bool.and_eq_true, Bool.or_eq_true, decide_eq_true_eq]
  constructor
  · rintro ⟨-, h | ⟨h, x, hx⟩⟩
    · left; have : t.val + 1 = 15 := h; omega
    · right
      by_contra hc
      apply hx
      have h' : t.val + 1 < 15 := h
      have hm : min (t.val + 1) (U m - 1) = min t.val (U m - 1) := by omega
      exact congrFun ((idx4 m ⟨t.val + 1, h'⟩).trans ((congrArg (fun k => ![k, 0]) hm).trans (idx4 m t).symm)) x
  · intro h
    refine ⟨rfl, ?_⟩
    by_cases h14 : t.val = 14
    · left; show t.val + 1 = 15; omega
    · right
      have h' : t.val + 1 < 15 := by omega
      refine ⟨h', (0 : Fin 2), fun hx => ?_⟩
      have e1 := congrFun (idx4 m ⟨t.val + 1, h'⟩) (0 : Fin 2)
      have e2 := congrFun (idx4 m t) (0 : Fin 2)
      have e3 : min (t.val + 1) (U m - 1) = min t.val (U m - 1) := e1.symm.trans (hx.trans e2)
      omega

theorem apart : Reg3.Apart (a3 m) := by
  intro t t' h h' hne he
  have hp : 0 < U m := used_pos (ex m 0)
  have hu : U m ≤ 15 := used_le (ex m 0)
  have e0 := congrFun ((idx4 m t).symm.trans (he.trans (idx4 m t'))) (0 : Fin 2)
  have e : min t.val (U m - 1) = min t'.val (U m - 1) := e0
  have f := (flush_iff m t).1 h
  have f' := (flush_iff m t').1 h'
  exact hne (Fin.ext (by omega))

theorem runOK : RunOK m (a3 m) where
  bound := bound m
  distinct := distinct m
  table d k := by
    have hd : d = 0 := Subsingleton.elim _ _
    subst hd; rfl
  idle := repeats m

end Cert.Proof.Whole.OK
end
-- ==== Proof.KMid.lean ====
/-
  The rows along the program on the ideal values: what the dispatch, the two expert passes and the gather leave.
-/
module

public import proofs.«01_k».proof.Proof.KOK

@[expose] public section

noncomputable section

namespace Cert.Proof.Whole.Mid

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

open Cert.Proof.Whole.Count Cert.Proof.Whole.OK

/-- One expert on one row: `(silu (x gᵀ) * (x uᵀ)) dᵀ`. -/
def ffn (x : Fin 1024 → EReal) (g u dn : Fin 1024 → Fin 1024 → EReal) (k : Fin 1024) : EReal :=
  ∑ f, ((∑ j, x j * g f j) * Ideal.logistic (∑ j, x j * g f j) * ∑ j, x j * u f j) * dn k f

theorem ffn_congr {x x' : Fin 1024 → EReal} {g g' u u' dn dn' : Fin 1024 → Fin 1024 → EReal} (hx : ∀ j, x j = x' j)
    (hg : ∀ f j, g f j = g' f j) (hu : ∀ f j, u f j = u' f j) (hd : ∀ f j, dn f j = dn' f j) (k : Fin 1024) :
    ffn x g u dn k = ffn x' g' u' dn' k := by
  obtain rfl : x = x' := funext hx
  obtain rfl : g = g' := funext fun f => funext (hg f)
  obtain rfl : u = u' := funext fun f => funext (hu f)
  obtain rfl : dn = dn' := funext fun f => funext (hd f)
  rfl

/-- A row over its root mean square, weighted. -/
def rms (c w : Fin 1024 → EReal) (k : Fin 1024) : EReal :=
  c k * Ideal.rsqrt (Ideal.div (∑ x, c x * c x) (Ideal.ofBits FTy.f32 1149239296#32) + Ideal.ofBits FTy.f32 897988541#32) * w k

abbrev i3 {a b c : ℕ} (i : Fin a) (j : Fin b) (k : Fin c) : (⟨3, ![a, b, c]⟩ : Shape).Idx := Idealize.ShloMosaic.ix3 i j k

theorem pay2 (x : Vec Ideal S1024x1024 .f32) (g u d : Vec Ideal S1x1024x1024 .f32) (t k : Fin 1024) :
    k2_pay1 x g u d (ix2 t k) = ffn (fun j => x (ix2 t j)) (fun f j => g (i3 0 f j)) (fun f j => u (i3 0 f j)) (fun f j => d (i3 0 f j)) k := by
  unfold ffn
  pointwise [k2_pay1]
theorem pay3 (x : Vec Ideal S512x1024 .f32) (g u d : Vec Ideal S1x1024x1024 .f32) (t : Fin 512) (k : Fin 1024) :
    k3_pay1 x g u d (ix2 t k) = ffn (fun j => x (ix2 t j)) (fun f j => g (i3 0 f j)) (fun f j => u (i3 0 f j)) (fun f j => d (i3 0 f j)) k := by
  unfold ffn
  pointwise [k3_pay1]
theorem pay5 (a b : Vec Ideal S1024x1 .f32) (r1 r2 s : Vec Ideal S1024x1024 .f32) (w : Vec Ideal S1x1024 .f32) (t k : Fin 1024) :
    k5_pay1 a r1 b r2 s w (ix2 t k)
      = rms (fun j => a (ix2 t 0) * r1 (ix2 t j) + b (ix2 t 0) * r2 (ix2 t j) + s (ix2 t j)) (fun j => w (ix2 0 j)) k := by
  unfold rms
  pointwise [k5_pay1]

theorem z2 : (![0, 0] : Fin 2 → ℕ) = fun _ => 0 := by decide
theorem z3 : (![0, 0, 0] : Fin 3 → ℕ) = fun _ => 0 := by decide

theorem out2_eq (x0 : Vec Ideal S1024x1024 .f32) (x1 x2 x3 : Vec Ideal S1x1024x1024 .f32) : Reg2.out4 x0 x1 x2 x3 = k2_pay1 x0 x1 x2 x3 := by
  unfold Reg2.out4
  rw [View.ld_unit_zero z2, View.ld_unit_zero z3, View.ld_unit_zero z3, View.ld_unit_zero z3]
  exact View.canon_unit_zero z2 _ _
theorem out3_eq (x0 : Vec Ideal S512x1024 .f32) (x1 x2 x3 : Vec Ideal S1x1024x1024 .f32) : Reg3.out4 x0 x1 x2 x3 = k3_pay1 x0 x1 x2 x3 := by
  unfold Reg3.out4
  rw [View.ld_unit_zero z2, View.ld_unit_zero z3, View.ld_unit_zero z3, View.ld_unit_zero z3]
  exact View.canon_unit_zero z2 _ _
theorem out5_eq (x0 x1 : Vec Ideal S1024x1 .f32) (x2 x3 x4 : Vec Ideal S1024x1024 .f32) (x5 : Vec Ideal S1x1024 .f32) :
    Reg5.out6 x0 x1 x2 x3 x4 x5 = k5_pay1 x0 x2 x1 x3 x4 x5 := by
  unfold Reg5.out6
  rw [View.ld_unit_zero z2, View.ld_unit_zero z2, View.ld_unit_zero z2, View.ld_unit_zero z2, View.ld_unit_zero z2, View.ld_unit_zero z2]
  exact View.canon_unit_zero z2 _ _

variable (m : (ℓ : Loc nD τ sig) → Buf (Elt Ideal) ℓ)

/-! ## Arrays that stay as they were -/

theorem VB_v0 (d : Dev nD) : VB m d (rf main_v0) = VA m d (rf main_v0) :=
  ((Reg0.dat (VA m) 0 cfg0.toPCfg_adm d).withArrays_arrAt (launch0 (F := Ideal)).to₀.sharedIn (VA m d) (fun w => rfl) 0).trans
    ((Reg0.dat (VA m) 0 cfg0.toPCfg_adm d).arrAt_in 0 rfl _)
theorem VB_arg2 (d : Dev nD) : VB m d (rf main_arg2) = VA m d (rf main_arg2) :=
  ((Reg0.dat (VA m) 0 cfg0.toPCfg_adm d).withArrays_arrAt (launch0 (F := Ideal)).to₀.sharedIn (VA m d) (fun w => rfl) 2).trans
    ((Reg0.dat (VA m) 0 cfg0.toPCfg_adm d).arrAt_in 2 rfl _)

theorem VE_v0 (d : Dev nD) : VE m d (rf main_v0) = VA m d (rf main_v0) :=
  (VE_of_ne m d main_v0 (by decide) (by decide)).trans ((VC_of_ne d m main_v0 (by decide)).trans (VB_v0 m d))

theorem VE_arg8 (d : Dev nD) : VE m d (rf main_arg8) = m (d, rf main_arg8) :=
  (VE_of_ne m d main_arg8 (by decide) (by decide)).trans ((VC_of_ne d m main_arg8 (by decide)).trans
    ((VB_of_ne d m main_arg8 (by decide)).trans (VA_arg d m main_arg8 (by decide) (by decide) (by decide) (by decide))))
theorem VF_arg8 (d : Dev nD) : VF m d (rf main_arg8) = m (d, rf main_arg8) :=
  (((Reg2.dat (VE m) 1 cfg2.toPCfg_adm d).withArrays_arrAt (launch2 (F := Ideal)).to₀.sharedIn (VE m d) (fun w => rfl) 1).trans
    ((Reg2.dat (VE m) 1 cfg2.toPCfg_adm d).arrAt_in 1 rfl _)).trans (VE_arg8 m d)
theorem VE_arg9 (d : Dev nD) : VE m d (rf main_arg9) = m (d, rf main_arg9) :=
  (VE_of_ne m d main_arg9 (by decide) (by decide)).trans ((VC_of_ne d m main_arg9 (by decide)).trans
    ((VB_of_ne d m main_arg9 (by decide)).trans (VA_arg d m main_arg9 (by decide) (by decide) (by decide) (by decide))))
theorem VF_arg9 (d : Dev nD) : VF m d (rf main_arg9) = m (d, rf main_arg9) :=
  (((Reg2.dat (VE m) 1 cfg2.toPCfg_adm d).withArrays_arrAt (launch2 (F := Ideal)).to₀.sharedIn (VE m d) (fun w => rfl) 2).trans
    ((Reg2.dat (VE m) 1 cfg2.toPCfg_adm d).arrAt_in 2 rfl _)).trans (VE_arg9 m d)
theorem VE_arg10 (d : Dev nD) : VE m d (rf main_arg10) = m (d, rf main_arg10) :=
  (VE_of_ne m d main_arg10 (by decide) (by decide)).trans ((VC_of_ne d m main_arg10 (by decide)).trans
    ((VB_of_ne d m main_arg10 (by decide)).trans (VA_arg d m main_arg10 (by decide) (by decide) (by decide) (by decide))))
theorem VF_arg10 (d : Dev nD) : VF m d (rf main_arg10) = m (d, rf main_arg10) :=
  (((Reg2.dat (VE m) 1 cfg2.toPCfg_adm d).withArrays_arrAt (launch2 (F := Ideal)).to₀.sharedIn (VE m d) (fun w => rfl) 3).trans
    ((Reg2.dat (VE m) 1 cfg2.toPCfg_adm d).arrAt_in 3 rfl _)).trans (VE_arg10 m d)
theorem VF_arg5 (d : Dev nD) : VF m d (rf main_arg5) = m (d, rf main_arg5) :=
  (VF_of_ne m d main_arg5 (by decide)).trans ((VE_of_ne m d main_arg5 (by decide) (by decide)).trans ((VC_of_ne d m main_arg5 (by decide)).trans
    ((VB_of_ne d m main_arg5 (by decide)).trans (VA_arg d m main_arg5 (by decide) (by decide) (by decide) (by decide)))))
theorem VG_arg5 (d : Dev nD) : VG m (a3 m) d (rf main_arg5) = m (d, rf main_arg5) :=
  (((Reg3.dat (VF m) 1 (a3 m) d).withArrays_arrAt (launch3 (F := Ideal)).to₀.sharedIn (VF m d) (fun w => rfl) 1).trans
    ((Reg3.dat (VF m) 1 (a3 m) d).arrAt_in 1 rfl _)).trans (VF_arg5 m d)
theorem VF_arg6 (d : Dev nD) : VF m d (rf main_arg6) = m (d, rf main_arg6) :=
  (VF_of_ne m d main_arg6 (by decide)).trans ((VE_of_ne m d main_arg6 (by decide) (by decide)).trans ((VC_of_ne d m main_arg6 (by decide)).trans
    ((VB_of_ne d m main_arg6 (by decide)).trans (VA_arg d m main_arg6 (by decide) (by decide) (by decide) (by decide)))))
theorem VG_arg6 (d : Dev nD) : VG m (a3 m) d (rf main_arg6) = m (d, rf main_arg6) :=
  (((Reg3.dat (VF m) 1 (a3 m) d).withArrays_arrAt (launch3 (F := Ideal)).to₀.sharedIn (VF m d) (fun w => rfl) 2).trans
    ((Reg3.dat (VF m) 1 (a3 m) d).arrAt_in 2 rfl _)).trans (VF_arg6 m d)
theorem VF_arg7 (d : Dev nD) : VF m d (rf main_arg7) = m (d, rf main_arg7) :=
  (VF_of_ne m d main_arg7 (by decide)).trans ((VE_of_ne m d main_arg7 (by decide) (by decide)).trans ((VC_of_ne d m main_arg7 (by decide)).trans
    ((VB_of_ne d m main_arg7 (by decide)).trans (VA_arg d m main_arg7 (by decide) (by decide) (by decide) (by decide)))))
theorem VG_arg7 (d : Dev nD) : VG m (a3 m) d (rf main_arg7) = m (d, rf main_arg7) :=
  (((Reg3.dat (VF m) 1 (a3 m) d).withArrays_arrAt (launch3 (F := Ideal)).to₀.sharedIn (VF m d) (fun w => rfl) 3).trans
    ((Reg3.dat (VF m) 1 (a3 m) d).arrAt_in 3 rfl _)).trans (VF_arg7 m d)

/-! ## The shared expert -/

theorem ix_2_0 : ∀ t : Fin 2, (cfg2.win 0).index t = ![t.val, 0] := by
  intro t; funext x; fin_cases t <;> fin_cases x <;> rfl
theorem ix_2_4 : ∀ t : Fin 2, (cfg2.win 4).index t = ![t.val, 0] := by
  intro t; funext x; fin_cases t <;> fin_cases x <;> rfl
theorem ix_2_1 : ∀ t : Fin 2, (cfg2.win 1).index t = ![0, 0, 0] := by
  intro t; funext x; fin_cases t <;> fin_cases x <;> rfl
theorem ix_2_2 : ∀ t : Fin 2, (cfg2.win 2).index t = ![0, 0, 0] := by
  intro t; funext x; fin_cases t <;> fin_cases x <;> rfl
theorem ix_2_3 : ∀ t : Fin 2, (cfg2.win 3).index t = ![0, 0, 0] := by
  intro t; funext x; fin_cases t <;> fin_cases x <;> rfl

variable (W : Dev nD → Valuation τ sig (Elt Ideal)) (d : Dev nD)

theorem iblk2_0 (t : Fin 2) (a : Fin 1024) (b : Fin 1024) :
    (Reg2.iblk W d 0 t : Vec Ideal S1024x1024 .f32) (ix2 a b) = (W d (rf main_v0) : Vec Ideal S2048x1024 .f32) (ix2 ⟨t.val * 1024 + a.val, by omega⟩ b) := by
  refine congrArg (W d (rf main_v0) : Vec Ideal S2048x1024 .f32) (funext fun x => Fin.ext ?_)
  refine ((cfg2.win 0).rect_emb_val t (ix2 a b) x).trans ?_
  rw [ix_2_0]
  fin_cases x
  · rfl
  · show 0 * 1024 + b.val = b.val; omega
theorem iblk2_1 (t : Fin 2) (a b : Fin 1024) :
    (Reg2.iblk W d 1 t : Vec Ideal S1x1024x1024 .f32) (i3 0 a b) = (W d (rf main_arg8) : Vec Ideal S1x1024x1024 .f32) (i3 0 a b) := by
  refine congrArg (W d (rf main_arg8) : Vec Ideal S1x1024x1024 .f32) (funext fun x => Fin.ext ?_)
  refine ((cfg2.win 1).rect_emb_val t (i3 0 a b) x).trans ?_
  rw [ix_2_1]
  fin_cases x
  · rfl
  · show 0 * 1024 + a.val = a.val; omega
  · show 0 * 1024 + b.val = b.val; omega
theorem iblk2_2 (t : Fin 2) (a b : Fin 1024) :
    (Reg2.iblk W d 2 t : Vec Ideal S1x1024x1024 .f32) (i3 0 a b) = (W d (rf main_arg9) : Vec Ideal S1x1024x1024 .f32) (i3 0 a b) := by
  refine congrArg (W d (rf main_arg9) : Vec Ideal S1x1024x1024 .f32) (funext fun x => Fin.ext ?_)
  refine ((cfg2.win 2).rect_emb_val t (i3 0 a b) x).trans ?_
  rw [ix_2_2]
  fin_cases x
  · rfl
  · show 0 * 1024 + a.val = a.val; omega
  · show 0 * 1024 + b.val = b.val; omega
theorem iblk2_3 (t : Fin 2) (a b : Fin 1024) :
    (Reg2.iblk W d 3 t : Vec Ideal S1x1024x1024 .f32) (i3 0 a b) = (W d (rf main_arg10) : Vec Ideal S1x1024x1024 .f32) (i3 0 a b) := by
  refine congrArg (W d (rf main_arg10) : Vec Ideal S1x1024x1024 .f32) (funext fun x => Fin.ext ?_)
  refine ((cfg2.win 3).rect_emb_val t (i3 0 a b) x).trans ?_
  rw [ix_2_3]
  fin_cases x
  · rfl
  · show 0 * 1024 + a.val = a.val; omega
  · show 0 * 1024 + b.val = b.val; omega

/-- A token's row. -/
abbrev xrow (t : Fin 2048) (j : Fin 1024) : EReal := (VA m 0 (rf main_v0) : Vec Ideal S2048x1024 .f32) (ix2 t j)
/-- An operand as an expert's matrix. -/
abbrev mat {n : ℕ} (A : Vec Ideal ⟨3, ![n, 1024, 1024]⟩ .f32) (e : Fin n) (f j : Fin 1024) : EReal := A (i3 e f j)

theorem VF_v17 (t : Fin 2048) (k : Fin 1024) : (VF m 0 (rf main_v17) : Vec Ideal S2048x1024 .f32) (ix2 t k)
    = ffn (xrow m t) (mat (n := 1) (m (0, rf main_arg8)) 0) (mat (n := 1) (m (0, rf main_arg9)) 0) (mat (n := 1) (m (0, rf main_arg10)) 0) k := by
  have hq : t.val / 1024 < 2 := by omega
  have hr : t.val % 1024 < 1024 := Nat.mod_lt _ (by norm_num)
  have h := congrFun (Reg2.blocks_4 (VE m) 1 cfg2.toPCfg_adm 0 ⟨t.val / 1024, hq⟩) (ix2 (⟨t.val % 1024, hr⟩ : Fin 1024) k)
  refine (congrFun ((Reg2.dat (VE m) 1 cfg2.toPCfg_adm 0).withArrays_arrAt (launch2 (F := Ideal)).to₀.sharedIn (VE m 0) (fun w => rfl) 4) (ix2 t k)).trans ?_
  refine (congrArg ((Reg2.dat (VE m) 1 cfg2.toPCfg_adm 0).arrAt 4 cfg2.N : Vec Ideal S2048x1024 .f32) (funext fun x => Fin.ext ?_)).trans (h.trans ?_)
  · refine Eq.symm (((cfg2.win 4).rect_emb_val (⟨t.val / 1024, hq⟩ : Fin 2) (ix2 (⟨t.val % 1024, hr⟩ : Fin 1024) k) x).trans ?_)
    rw [ix_2_4]
    fin_cases x
    · show t.val / 1024 * 1024 + t.val % 1024 = t.val; omega
    · show 0 * 1024 + k.val = k.val; omega
  · refine (congrFun (out2_eq _ _ _ _) (ix2 (⟨t.val % 1024, hr⟩ : Fin 1024) k)).trans ((pay2 _ _ _ _ _ _).trans ?_)
    have e : (⟨t.val / 1024 * 1024 + t.val % 1024, by omega⟩ : Fin 2048) = t := Fin.ext (by show t.val / 1024 * 1024 + t.val % 1024 = t.val; omega)
    refine ffn_congr (fun j => ?_) (fun f j => ?_) (fun f j => ?_) (fun f j => ?_) k
    · refine (iblk2_0 (VE m) 0 ⟨t.val / 1024, hq⟩ _ _).trans ?_
      rw [VE_v0]
      exact congrArg (fun t : Fin 2048 => xrow m t j) e
    · refine (iblk2_1 (VE m) 0 ⟨t.val / 1024, hq⟩ _ _).trans ?_
      rw [VE_arg8]
    · refine (iblk2_2 (VE m) 0 ⟨t.val / 1024, hq⟩ _ _).trans ?_
      rw [VE_arg9]
    · refine (iblk2_3 (VE m) 0 ⟨t.val / 1024, hq⟩ _ _).trans ?_
      rw [VE_arg10]

/-! ## The dispatched rows -/

theorem toks_eq : toks m 0 = shapeCast S8192x2x128 (VA m 0 (rf main_v0)) shapeCasts_S2048x1024_S8192x2x128 := by
  unfold toks; rw [VC_v14, VB_v0]

theorem VE_v16 : VE m d (rf main_v16) = shapeCast S7680x1024 (sorted m d) shapeCasts_S30720x2x128_S7680x1024 := by
  unfold VE opC
  rw [StableHlo.reshape_result]
  unfold VD
  rw [Function.update_self]
  rfl

/-- The row of a pair's slot is the pair's token. -/
theorem sorted_row (p : Fin 4096) (k : Fin 1024) (hs : slot (ex m 0) p < 7680) :
    (VE m 0 (rf main_v16) : Vec Ideal S7680x1024 .f32) (ix2 ⟨slot (ex m 0) p, hs⟩ k) = xrow m ⟨p.val % 2048, Nat.mod_lt _ (by norm_num)⟩ k := by
  rw [VE_v16]
  have hp := p.isLt
  have hk := k.isLt
  have hr4 : 4 * p.val + k.val / 256 < 16384 := by omega
  have hl := lst_nat m 0 ⟨4 * p.val + k.val / 256, hr4⟩
  have hpe : (⟨(4 * p.val + k.val / 256) / 4, by omega⟩ : Fin 4096) = p := Fin.ext (by show (4 * p.val + k.val / 256) / 4 = p.val; omega)
  rw [hpe] at hl
  generalize hS : slot (ex m 0) p = s at hs hl ⊢
  refine (shapeCast_apply _ _ (ix2 (⟨s, hs⟩ : Fin 7680) k) (ValueIdx.ix3 (⟨4 * s + k.val / 256, by omega⟩ : Fin 30720) (⟨k.val / 128 % 2, Nat.mod_lt _ (by norm_num)⟩ : Fin 2) (⟨k.val % 128, Nat.mod_lt _ (by norm_num)⟩ : Fin 128)) (by
      rw [Shape.rowMajor_val_two, Shape.rowMajor_val_three]
      show ((4 * s + k.val / 256) * 2 + k.val / 128 % 2) * 128 + k.val % 128 = s * 1024 + k.val
      omega)).trans ?_
  unfold sorted
  refine (Disp.scat_named (toks m 0) (lst m 0) (old m 0) (distinct m 0) ⟨4 * p.val + k.val / 256, hr4⟩ _ ?_).trans ?_
  · rw [hl]
    show 4 * s + (4 * p.val + k.val / 256) % 4 = 4 * s + k.val / 256
    omega
  rw [toks_eq]
  refine (shapeCast_apply _ _ _ (ix2 (⟨p.val % 2048, Nat.mod_lt _ (by norm_num)⟩ : Fin 2048) k) ?_).trans rfl
  rw [Shape.rowMajor_val_two, Shape.rowMajor_val_three]
  show p.val % 2048 * 1024 + k.val = ((4 * p.val + k.val / 256) % 8192 * 2 + k.val / 128 % 2) * 128 + k.val % 128
  omega

/-! ## The grouped pass -/

theorem iblk3_0 (t : Fin 15) (a : Fin 512) (b : Fin 1024) (hb : min t.val (U m - 1) * 512 + a.val < 7680) :
    (Reg3.iblk W (a3 m) d 0 t : Vec Ideal S512x1024 .f32) (ix2 a b)
      = (W d (rf main_v16) : Vec Ideal S7680x1024 .f32) (ix2 ⟨min t.val (U m - 1) * 512 + a.val, hb⟩ b) := by
  refine congrArg (W d (rf main_v16) : Vec Ideal S7680x1024 .f32) (funext fun x => Fin.ext ?_)
  refine (((cfg3 (a3 m)).win 0).rect_emb_val t (ix2 a b) x).trans ?_
  rw [congrFun (idx0 m t) x]
  fin_cases x
  · rfl
  · show 0 * 1024 + b.val = b.val; omega
theorem iblk3_1 (t : Fin 15) (a b : Fin 1024) (e : Fin 8) (he : begun (ex m 0) (min t.val (U m - 1)) - 1 = e.val) :
    (Reg3.iblk W (a3 m) d 1 t : Vec Ideal S1x1024x1024 .f32) (i3 0 a b) = (W d (rf main_arg5) : Vec Ideal S8x1024x1024 .f32) (i3 e a b) := by
  refine congrArg (W d (rf main_arg5) : Vec Ideal S8x1024x1024 .f32) (funext fun x => Fin.ext ?_)
  refine (((cfg3 (a3 m)).win 1).rect_emb_val t (i3 0 a b) x).trans ?_
  rw [congrFun (idx1 m t) x]
  fin_cases x
  · show (begun (ex m 0) (min t.val (U m - 1)) - 1) * 1 + 0 = e.val; omega
  · show 0 * 1024 + a.val = a.val; omega
  · show 0 * 1024 + b.val = b.val; omega
theorem iblk3_2 (t : Fin 15) (a b : Fin 1024) (e : Fin 8) (he : begun (ex m 0) (min t.val (U m - 1)) - 1 = e.val) :
    (Reg3.iblk W (a3 m) d 2 t : Vec Ideal S1x1024x1024 .f32) (i3 0 a b) = (W d (rf main_arg6) : Vec Ideal S8x1024x1024 .f32) (i3 e a b) := by
  refine congrArg (W d (rf main_arg6) : Vec Ideal S8x1024x1024 .f32) (funext fun x => Fin.ext ?_)
  refine (((cfg3 (a3 m)).win 2).rect_emb_val t (i3 0 a b) x).trans ?_
  rw [congrFun (idx2 m t) x]
  fin_cases x
  · show (begun (ex m 0) (min t.val (U m - 1)) - 1) * 1 + 0 = e.val; omega
  · show 0 * 1024 + a.val = a.val; omega
  · show 0 * 1024 + b.val = b.val; omega
theorem iblk3_3 (t : Fin 15) (a b : Fin 1024) (e : Fin 8) (he : begun (ex m 0) (min t.val (U m - 1)) - 1 = e.val) :
    (Reg3.iblk W (a3 m) d 3 t : Vec Ideal S1x1024x1024 .f32) (i3 0 a b) = (W d (rf main_arg7) : Vec Ideal S8x1024x1024 .f32) (i3 e a b) := by
  refine congrArg (W d (rf main_arg7) : Vec Ideal S8x1024x1024 .f32) (funext fun x => Fin.ext ?_)
  refine (((cfg3 (a3 m)).win 3).rect_emb_val t (i3 0 a b) x).trans ?_
  rw [congrFun (idx3 m t) x]
  fin_cases x
  · show (begun (ex m 0) (min t.val (U m - 1)) - 1) * 1 + 0 = e.val; omega
  · show 0 * 1024 + a.val = a.val; omega
  · show 0 * 1024 + b.val = b.val; omega

theorem VG_arr : VG m (a3 m) 0 (rf main_v18) = (Reg3.dat (VF m) 1 (a3 m) 0).arrAt 4 (cfg3 (a3 m)).N :=
  (Reg3.dat (VF m) 1 (a3 m) 0).withArrays_arrAt (launch3 (F := Ideal)).to₀.sharedIn (VF m 0) (fun w => rfl) 4

theorem blk_row (A : Vec Ideal S7680x1024 .f32) (t : Fin 15) (s : ℕ) (hs : s < 7680) (htb : min t.val (U m - 1) = s / 512) (k : Fin 1024) :
    (((cfg3 (a3 m)).win 4).blk t).view.read (Elt Ideal) A (ix2 (⟨s % 512, Nat.mod_lt _ (by norm_num)⟩ : Fin 512) k) = A (ix2 ⟨s, hs⟩ k) := by
  refine congrArg A (funext fun x => Fin.ext ?_)
  refine (((cfg3 (a3 m)).win 4).rect_emb_val t (ix2 (⟨s % 512, Nat.mod_lt _ (by norm_num)⟩ : Fin 512) k) x).trans ?_
  rw [congrFun (idx4 m t) x, htb]
  fin_cases x
  · show s / 512 * 512 + s % 512 = s; omega
  · show 0 * 1024 + k.val = k.val; omega

/-- A row of a block that step `t` writes back. -/
theorem VG_row (t : Fin 15) (hfl : ((cfg3 (a3 m)).win 4).flush t = true) (s : ℕ) (hs : s < 7680) (htb : min t.val (U m - 1) = s / 512)
    (e : Fin 8) (he : begun (ex m 0) (min t.val (U m - 1)) - 1 = e.val) (k : Fin 1024) :
    (VG m (a3 m) 0 (rf main_v18) : Vec Ideal S7680x1024 .f32) (ix2 ⟨s, hs⟩ k)
      = ffn (fun j => (VF m 0 (rf main_v16) : Vec Ideal S7680x1024 .f32) (ix2 ⟨s, hs⟩ j)) (mat (n := 8) (m (0, rf main_arg5)) e)
          (mat (n := 8) (m (0, rf main_arg6)) e) (mat (n := 8) (m (0, rf main_arg7)) e) k := by
  have hr : s % 512 < 512 := Nat.mod_lt _ (by norm_num)
  rw [VG_arr]
  refine (blk_row m _ t s hs htb k).symm.trans ?_
  rw [Reg3.blocks_4 (VF m) 1 (a3 m) (apart m) 0 t hfl]
  show Reg3.out4 _ _ _ _ (ix2 (⟨s % 512, hr⟩ : Fin 512) k) = _
  · refine (congrFun (out3_eq _ _ _ _) (ix2 (⟨s % 512, hr⟩ : Fin 512) k)).trans ((pay3 _ _ _ _ _ _).trans ?_)
    have hlt : min t.val (U m - 1) * 512 + s % 512 < 7680 := by rw [htb]; omega
    refine ffn_congr (fun j => ?_) (fun f j => ?_) (fun f j => ?_) (fun f j => ?_) k
    · refine (iblk3_0 m (VF m) 0 t ⟨s % 512, hr⟩ j hlt).trans ?_
      exact congrArg (fun i : Fin 7680 => (VF m 0 (rf main_v16) : Vec Ideal S7680x1024 .f32) (ix2 i j))
        (Fin.ext (by show min t.val (U m - 1) * 512 + s % 512 = s; rw [htb]; omega))
    · exact (iblk3_1 m (VF m) 0 t _ _ _ he).trans (congrFun (VF_arg5 m 0) _)
    · exact (iblk3_2 m (VF m) 0 t _ _ _ he).trans (congrFun (VF_arg6 m 0) _)
    · exact (iblk3_3 m (VF m) 0 t _ _ _ he).trans (congrFun (VF_arg7 m 0) _)

/-- The step that writes back block `b`. -/
theorem step_of (u : ℕ) (hU : u ≤ 15) (b : ℕ) (hb : b < u) : ∃ t : Fin 15, min t.val (u - 1) = b ∧ (t.val = 14 ∨ t.val + 1 < u) := by
  by_cases h : b + 1 < u
  · exact ⟨⟨b, by omega⟩, by show min b (u - 1) = _; omega, .inr h⟩
  · exact ⟨⟨14, by omega⟩, by show min 14 (u - 1) = _; omega, .inl rfl⟩

/-- The row of a pair's slot is the pair's expert on the pair's token. -/
theorem VG_v18 (p : Fin 4096) (k : Fin 1024) (hs : slot (ex m 0) p < 7680) :
    (VG m (a3 m) 0 (rf main_v18) : Vec Ideal S7680x1024 .f32) (ix2 ⟨slot (ex m 0) p, hs⟩ k)
      = ffn (xrow m ⟨p.val % 2048, Nat.mod_lt _ (by norm_num)⟩) (mat (n := 8) (m (0, rf main_arg5)) (ex m 0 p)) (mat (n := 8) (m (0, rf main_arg6)) (ex m 0 p))
          (mat (n := 8) (m (0, rf main_arg7)) (ex m 0 p)) k := by
  have hbe : begun (ex m 0) (slot (ex m 0) p / 512) = (ex m 0 p).val + 1 := begun_of (ex m 0) (ex m 0 p) _ (slot_block_ge _ p) (slot_block_lt _ p)
  obtain ⟨t, htb, htf⟩ := step_of (U m) (used_le (ex m 0)) _ (slot_block_used (ex m 0) p)
  refine (VG_row m t ((flush_iff m t).2 htf) _ hs htb (ex m 0 p) (by rw [htb, hbe]; rfl) k).trans ?_
  refine ffn_congr (fun j => ?_) (fun _ _ => rfl) (fun _ _ => rfl) (fun _ _ => rfl) k
  exact (congrFun (VF_of_ne m 0 main_v16 (by decide)) _).trans (sorted_row m p j hs)

/-! ## The gathered rows -/

theorem VH_v19 : VH m (a3 m) d (rf main_v19) = shapeCast S30720x2x128 (VG m (a3 m) d (rf main_v18)) shapeCasts_S7680x1024_S30720x2x128 := by
  unfold VH opE
  rw [StableHlo.reshape_result]
  rfl

theorem VJ_v21 : VJ m (a3 m) d (rf main_v21) = shapeCast S4096x1024 (got m (a3 m) d) shapeCasts_S16384x2x128_S4096x1024 := by
  unfold VJ opsF
  simp only [StableHlo.after]
  rw [StableHlo.reshape_result_ne _ _ _ _ _ _ _ (by decide : main_v21 ≠ main_v22), StableHlo.reshape_result]
  unfold VI
  rw [Function.update_self]
  rfl

theorem VJ_v22 : VJ m (a3 m) d (rf main_v22) = shapeCast S1x1024 (VI m (a3 m) d (rf main_arg11)) shapeCasts_S1024_S1x1024 := by
  unfold VJ opsF
  simp only [StableHlo.after]
  rw [StableHlo.reshape_result, StableHlo.reshape_result_ne _ _ _ _ _ _ _ (by decide : main_arg11 ≠ main_v21)]
  rfl

theorem VI_of_ne (b : Ref sig .tc) (h : b ≠ main_v20) : VI m (a3 m) d (rf b) = VH m (a3 m) d (rf b) :=
  Function.update_of_ne (StableHlo.devRef_ne_of_ne h) _ _

theorem VJ_of_ne (b : Ref sig .tc) (h1 : b ≠ main_v21) (h2 : b ≠ main_v22) : VJ m (a3 m) d (rf b) = VI m (a3 m) d (rf b) := by
  unfold VJ opsF
  simp only [StableHlo.after]
  rw [StableHlo.reshape_result_ne _ _ _ _ _ _ _ h2, StableHlo.reshape_result_ne _ _ _ _ _ _ _ h1]

theorem VL_of_ne (b : Ref sig .tc) (h1 : b ≠ main_v24) (h2 : b ≠ main_v25) : VL m (a3 m) d (rf b) = VK m (a3 m) d (rf b) := by
  unfold VL opsG
  simp only [StableHlo.after]
  rw [StableHlo.reshape_result_ne _ _ _ _ _ _ _ h2, StableHlo.reshape_result_ne _ _ _ _ _ _ _ h1]

theorem VK_of_ne (b : Ref sig .tc) (h : ∀ w, arrRef spec5 w ≠ b) : VK m (a3 m) d (rf b) = VJ m (a3 m) d (rf b) :=
  Pipeline.withArrays_of_ne spec5 d _ _ b h

theorem VL_v24 : VL m (a3 m) d (rf main_v24) = shapeCast S1x2048x1024 (VK m (a3 m) d (rf main_v23)) shapeCasts_S2048x1024_S1x2048x1024 := by
  unfold VL opsG
  simp only [StableHlo.after]
  rw [StableHlo.reshape_result_ne _ _ _ _ _ _ _ (by decide : main_v24 ≠ main_v25), StableHlo.reshape_result]
  rfl
theorem VL_v25 : VL m (a3 m) d (rf main_v25) = shapeCast S_ (VK m (a3 m) d (rf main_v4_3)) shapeCasts_S1x1_S_ := by
  unfold VL opsG
  simp only [StableHlo.after]
  rw [StableHlo.reshape_result, StableHlo.reshape_result_ne _ _ _ _ _ _ _ (by decide : main_v4_3 ≠ main_v24)]
  rfl

/-- The gathered row of a pair. -/
theorem gathered (p : Fin 4096) (k : Fin 1024) : (VJ m (a3 m) 0 (rf main_v21) : Vec Ideal S4096x1024 .f32) (ix2 p k)
    = ffn (xrow m ⟨p.val % 2048, Nat.mod_lt _ (by norm_num)⟩) (mat (n := 8) (m (0, rf main_arg5)) (ex m 0 p)) (mat (n := 8) (m (0, rf main_arg6)) (ex m 0 p))
        (mat (n := 8) (m (0, rf main_arg7)) (ex m 0 p)) k := by
  have hs := slot_lt (ex m 0) p
  rw [← VG_v18 m p k hs, VJ_v21]
  have hp := p.isLt
  have hk := k.isLt
  have hr4 : 4 * p.val + k.val / 256 < 16384 := by omega
  have hl := lst_nat m 0 ⟨4 * p.val + k.val / 256, hr4⟩
  have hpe : (⟨(4 * p.val + k.val / 256) / 4, by omega⟩ : Fin 4096) = p := Fin.ext (by show (4 * p.val + k.val / 256) / 4 = p.val; omega)
  rw [hpe] at hl
  generalize hS : slot (ex m 0) p = s at hs hl ⊢
  refine (shapeCast_apply _ _ (ix2 p k) (ValueIdx.ix3 (⟨4 * p.val + k.val / 256, hr4⟩ : Fin 16384) (⟨k.val / 128 % 2, Nat.mod_lt _ (by norm_num)⟩ : Fin 2) (⟨k.val % 128, Nat.mod_lt _ (by norm_num)⟩ : Fin 128)) (by
      rw [Shape.rowMajor_val_two, Shape.rowMajor_val_three]
      show ((4 * p.val + k.val / 256) * 2 + k.val / 128 % 2) * 128 + k.val % 128 = p.val * 1024 + k.val
      omega)).trans ?_
  unfold got
  rw [Gath.gath_ix3, lst'_eq]
  unfold tbl
  rw [VH_v19]
  refine shapeCast_apply _ _ _ (ix2 (⟨s, hs⟩ : Fin 7680) k) ?_
  rw [Shape.rowMajor_val_two, Shape.rowMajor_val_three]
  show s * 1024 + k.val = ((lst m 0 (Gath.listIx ⟨4 * p.val + k.val / 256, hr4⟩) : BitVec 32).toNat % 30720 * 2 + k.val / 128 % 2) * 128 + k.val % 128
  have hl' : (lst m 0 (Gath.listIx ⟨4 * p.val + k.val / 256, hr4⟩) : BitVec 32).toNat = 4 * s + (4 * p.val + k.val / 256) % 4 := hl
  rw [hl']
  omega

end Cert.Proof.Whole.Mid
end
-- ==== Proof.KEnd.lean ====
/-
  The two results of the whole program on the ideal values, and the arguments it leaves as they were.
-/
module

public import proofs.«01_k».proof.Proof.KMid

@[expose] public section

noncomputable section

namespace Cert.Proof.Whole.Mid

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

open Cert.Proof.Whole.Count Cert.Proof.Whole.OK

theorem ix_5_0 : ∀ t : Fin 2, (cfg5.win 0).index t = ![t.val, 0] := by
  intro t; funext x; fin_cases t <;> fin_cases x <;> rfl
theorem ix_5_1 : ∀ t : Fin 2, (cfg5.win 1).index t = ![2 + t.val, 0] := by
  intro t; funext x; fin_cases t <;> fin_cases x <;> rfl
theorem ix_5_2 : ∀ t : Fin 2, (cfg5.win 2).index t = ![t.val, 0] := by
  intro t; funext x; fin_cases t <;> fin_cases x <;> rfl
theorem ix_5_3 : ∀ t : Fin 2, (cfg5.win 3).index t = ![2 + t.val, 0] := by
  intro t; funext x; fin_cases t <;> fin_cases x <;> rfl
theorem ix_5_4 : ∀ t : Fin 2, (cfg5.win 4).index t = ![t.val, 0] := by
  intro t; funext x; fin_cases t <;> fin_cases x <;> rfl
theorem ix_5_5 : ∀ t : Fin 2, (cfg5.win 5).index t = ![0, 0] := by
  intro t; funext x; fin_cases t <;> fin_cases x <;> rfl
theorem ix_5_6 : ∀ t : Fin 2, (cfg5.win 6).index t = ![t.val, 0] := by
  intro t; funext x; fin_cases t <;> fin_cases x <;> rfl

variable (m : (ℓ : Loc nD τ sig) → Buf (Elt Ideal) ℓ) (W : Dev nD → Valuation τ sig (Elt Ideal)) (d : Dev nD)

theorem iblk5_0 (t : Fin 2) (a : Fin 1024) (b : Fin 1) :
    (Reg5.iblk W d 0 t : Vec Ideal S1024x1 .f32) (ix2 a b) = (W d (rf main_v4_0) : Vec Ideal S4096x1 .f32) (ix2 ⟨t.val * 1024 + a.val, by omega⟩ b) := by
  refine congrArg (W d (rf main_v4_0) : Vec Ideal S4096x1 .f32) (funext fun x => Fin.ext ?_)
  refine ((cfg5.win 0).rect_emb_val t (ix2 a b) x).trans ?_
  rw [ix_5_0]
  fin_cases x
  · rfl
  · show 0 * 1 + b.val = b.val; omega
theorem iblk5_1 (t : Fin 2) (a : Fin 1024) (b : Fin 1) :
    (Reg5.iblk W d 1 t : Vec Ideal S1024x1 .f32) (ix2 a b) = (W d (rf main_v4_0) : Vec Ideal S4096x1 .f32) (ix2 ⟨(2 + t.val) * 1024 + a.val, by omega⟩ b) := by
  refine congrArg (W d (rf main_v4_0) : Vec Ideal S4096x1 .f32) (funext fun x => Fin.ext ?_)
  refine ((cfg5.win 1).rect_emb_val t (ix2 a b) x).trans ?_
  rw [ix_5_1]
  fin_cases x
  · rfl
  · show 0 * 1 + b.val = b.val; omega
theorem iblk5_2 (t : Fin 2) (a : Fin 1024) (b : Fin 1024) :
    (Reg5.iblk W d 2 t : Vec Ideal S1024x1024 .f32) (ix2 a b) = (W d (rf main_v21) : Vec Ideal S4096x1024 .f32) (ix2 ⟨t.val * 1024 + a.val, by omega⟩ b) := by
  refine congrArg (W d (rf main_v21) : Vec Ideal S4096x1024 .f32) (funext fun x => Fin.ext ?_)
  refine ((cfg5.win 2).rect_emb_val t (ix2 a b) x).trans ?_
  rw [ix_5_2]
  fin_cases x
  · rfl
  · show 0 * 1024 + b.val = b.val; omega
theorem iblk5_3 (t : Fin 2) (a : Fin 1024) (b : Fin 1024) :
    (Reg5.iblk W d 3 t : Vec Ideal S1024x1024 .f32) (ix2 a b) = (W d (rf main_v21) : Vec Ideal S4096x1024 .f32) (ix2 ⟨(2 + t.val) * 1024 + a.val, by omega⟩ b) := by
  refine congrArg (W d (rf main_v21) : Vec Ideal S4096x1024 .f32) (funext fun x => Fin.ext ?_)
  refine ((cfg5.win 3).rect_emb_val t (ix2 a b) x).trans ?_
  rw [ix_5_3]
  fin_cases x
  · rfl
  · show 0 * 1024 + b.val = b.val; omega
theorem iblk5_4 (t : Fin 2) (a : Fin 1024) (b : Fin 1024) :
    (Reg5.iblk W d 4 t : Vec Ideal S1024x1024 .f32) (ix2 a b) = (W d (rf main_v17) : Vec Ideal S2048x1024 .f32) (ix2 ⟨t.val * 1024 + a.val, by omega⟩ b) := by
  refine congrArg (W d (rf main_v17) : Vec Ideal S2048x1024 .f32) (funext fun x => Fin.ext ?_)
  refine ((cfg5.win 4).rect_emb_val t (ix2 a b) x).trans ?_
  rw [ix_5_4]
  fin_cases x
  · rfl
  · show 0 * 1024 + b.val = b.val; omega
theorem iblk5_5 (t : Fin 2) (b : Fin 1024) :
    (Reg5.iblk W d 5 t : Vec Ideal S1x1024 .f32) (ix2 0 b) = (W d (rf main_v22) : Vec Ideal S1x1024 .f32) (ix2 0 b) := by
  refine congrArg (W d (rf main_v22) : Vec Ideal S1x1024 .f32) (funext fun x => Fin.ext ?_)
  refine ((cfg5.win 5).rect_emb_val t (ix2 0 b) x).trans ?_
  rw [ix_5_5]
  fin_cases x
  · rfl
  · show 0 * 1024 + b.val = b.val; omega

theorem VK_arr : VK m (a3 m) 0 (rf main_v23) = (Reg5.dat (VJ m (a3 m)) 2 cfg5.toPCfg_adm 0).arrAt 6 cfg5.N :=
  (Reg5.dat (VJ m (a3 m)) 2 cfg5.toPCfg_adm 0).withArrays_arrAt (launch₀5 (F := Ideal)).sharedIn (VJ m (a3 m) 0) (fun w => rfl) 6

theorem blk5_row (A : Vec Ideal S2048x1024 .f32) (t : Fin 2048) (k : Fin 1024) :
    ((cfg5.win 6).blk (⟨t.val / 1024, by omega⟩ : Fin 2)).view.read (Elt Ideal) A (ix2 (⟨t.val % 1024, Nat.mod_lt _ (by norm_num)⟩ : Fin 1024) k) = A (ix2 t k) := by
  refine congrArg A (funext fun x => Fin.ext ?_)
  refine ((cfg5.win 6).rect_emb_val (⟨t.val / 1024, by omega⟩ : Fin 2) (ix2 (⟨t.val % 1024, Nat.mod_lt _ (by norm_num)⟩ : Fin 1024) k) x).trans ?_
  rw [ix_5_6]
  fin_cases x
  · show t.val / 1024 * 1024 + t.val % 1024 = t.val; omega
  · show 0 * 1024 + k.val = k.val; omega

theorem rms_congr {c c' w w' : Fin 1024 → EReal} (hc : ∀ j, c j = c' j) (hw : ∀ j, w j = w' j) (k : Fin 1024) : rms c w k = rms c' w' k := by
  obtain rfl : c = c' := funext hc
  obtain rfl : w = w' := funext hw
  rfl

/-- What the combining pass adds up for a token. -/
def comb (w : Vec Ideal S4096x1 .f32) (r : Vec Ideal S4096x1024 .f32) (s : Vec Ideal S2048x1024 .f32) (t : Fin 2048) (j : Fin 1024) : EReal :=
  w (ix2 ⟨t.val, by omega⟩ 0) * r (ix2 ⟨t.val, by omega⟩ j) + w (ix2 ⟨2048 + t.val, by omega⟩ 0) * r (ix2 ⟨2048 + t.val, by omega⟩ j) + s (ix2 t j)

/-- A row of the result, from what the combining pass reads. -/
theorem VK_v23 (t : Fin 2048) (k : Fin 1024) : (VK m (a3 m) 0 (rf main_v23) : Vec Ideal S2048x1024 .f32) (ix2 t k)
    = rms (comb (VJ m (a3 m) 0 (rf main_v4_0)) (VJ m (a3 m) 0 (rf main_v21)) (VJ m (a3 m) 0 (rf main_v17)) t)
        (fun j => (VJ m (a3 m) 0 (rf main_v22) : Vec Ideal S1x1024 .f32) (ix2 0 j)) k := by
  have hq : t.val / 1024 < 2 := by omega
  have hr : t.val % 1024 < 1024 := Nat.mod_lt _ (by norm_num)
  rw [VK_arr]
  refine (blk5_row _ t k).symm.trans ?_
  refine (congrFun (Reg5.blocks_6 (VJ m (a3 m)) 2 cfg5.toPCfg_adm 0 ⟨t.val / 1024, hq⟩) (ix2 (⟨t.val % 1024, hr⟩ : Fin 1024) k)).trans ?_
  show Reg5.out6 _ _ _ _ _ _ (ix2 (⟨t.val % 1024, hr⟩ : Fin 1024) k) = _
  refine (congrFun (out5_eq _ _ _ _ _ _) (ix2 (⟨t.val % 1024, hr⟩ : Fin 1024) k)).trans ((pay5 _ _ _ _ _ _ _ _).trans ?_)
  have e0 : (⟨t.val / 1024 * 1024 + t.val % 1024, by omega⟩ : Fin 4096) = ⟨t.val, by omega⟩ := Fin.ext (by show t.val / 1024 * 1024 + t.val % 1024 = t.val; omega)
  have e1 : (⟨(2 + t.val / 1024) * 1024 + t.val % 1024, by omega⟩ : Fin 4096) = ⟨2048 + t.val, by omega⟩ := Fin.ext (by show (2 + t.val / 1024) * 1024 + t.val % 1024 = 2048 + t.val; omega)
  have e2 : (⟨t.val / 1024 * 1024 + t.val % 1024, by omega⟩ : Fin 2048) = t := Fin.ext (by show t.val / 1024 * 1024 + t.val % 1024 = t.val; omega)
  refine rms_congr (fun j => ?_) (fun j => iblk5_5 (VJ m (a3 m)) 0 ⟨t.val / 1024, hq⟩ j) k
  refine congrArg₂ (· + ·) (congrArg₂ (· + ·) (congrArg₂ (· * ·) ?_ ?_) (congrArg₂ (· * ·) ?_ ?_)) ?_
  · exact (iblk5_0 (VJ m (a3 m)) 0 ⟨t.val / 1024, hq⟩ _ _).trans (congrArg (fun i : Fin 4096 => (VJ m (a3 m) 0 (rf main_v4_0) : Vec Ideal S4096x1 .f32) (ix2 i 0)) e0)
  · exact (iblk5_2 (VJ m (a3 m)) 0 ⟨t.val / 1024, hq⟩ _ _).trans (congrArg (fun i : Fin 4096 => (VJ m (a3 m) 0 (rf main_v21) : Vec Ideal S4096x1024 .f32) (ix2 i j)) e0)
  · exact (iblk5_1 (VJ m (a3 m)) 0 ⟨t.val / 1024, hq⟩ _ _).trans (congrArg (fun i : Fin 4096 => (VJ m (a3 m) 0 (rf main_v4_0) : Vec Ideal S4096x1 .f32) (ix2 i 0)) e1)
  · exact (iblk5_3 (VJ m (a3 m)) 0 ⟨t.val / 1024, hq⟩ _ _).trans (congrArg (fun i : Fin 4096 => (VJ m (a3 m) 0 (rf main_v21) : Vec Ideal S4096x1024 .f32) (ix2 i j)) e1)
  · exact (iblk5_4 (VJ m (a3 m)) 0 ⟨t.val / 1024, hq⟩ _ _).trans (congrArg (fun i : Fin 2048 => (VJ m (a3 m) 0 (rf main_v17) : Vec Ideal S2048x1024 .f32) (ix2 i j)) e2)

/-! ## What the combining pass reads, traced back -/

theorem VJ_v4_0 : VJ m (a3 m) d (rf main_v4_0) = VB m d (rf main_v4_0) :=
  (VJ_of_ne m d main_v4_0 (by decide) (by decide)).trans ((VI_of_ne m d main_v4_0 (by decide)).trans ((VH_of_ne m (a3 m) d main_v4_0 (by decide)).trans
    ((VG_of_ne m (a3 m) d main_v4_0 (by decide)).trans ((VF_of_ne m d main_v4_0 (by decide)).trans ((VE_of_ne m d main_v4_0 (by decide) (by decide)).trans (VC_of_ne d m main_v4_0 (by decide)))))))
theorem VJ_v17 : VJ m (a3 m) d (rf main_v17) = VF m d (rf main_v17) :=
  (VJ_of_ne m d main_v17 (by decide) (by decide)).trans ((VI_of_ne m d main_v17 (by decide)).trans ((VH_of_ne m (a3 m) d main_v17 (by decide)).trans
    (VG_of_ne m (a3 m) d main_v17 (by decide))))
theorem VK_v4_3 : VK m (a3 m) d (rf main_v4_3) = VB m d (rf main_v4_3) :=
  (VK_of_ne m d main_v4_3 (by decide)).trans ((VJ_of_ne m d main_v4_3 (by decide) (by decide)).trans ((VI_of_ne m d main_v4_3 (by decide)).trans ((VH_of_ne m (a3 m) d main_v4_3 (by decide)).trans
    ((VG_of_ne m (a3 m) d main_v4_3 (by decide)).trans ((VF_of_ne m d main_v4_3 (by decide)).trans ((VE_of_ne m d main_v4_3 (by decide) (by decide)).trans (VC_of_ne d m main_v4_3 (by decide))))))))

/-! ## The arguments -/

theorem VI_arg11 : VI m (a3 m) d (rf main_arg11) = m (d, rf main_arg11) :=
  (VI_of_ne m d main_arg11 (by decide)).trans ((VH_of_ne m (a3 m) d main_arg11 (by decide)).trans
    ((VG_of_ne m (a3 m) d main_arg11 (by decide)).trans ((VF_of_ne m d main_arg11 (by decide)).trans ((VE_of_ne m d main_arg11 (by decide) (by decide)).trans ((VC_of_ne d m main_arg11 (by decide)).trans
      ((VB_of_ne d m main_arg11 (by decide)).trans (VA_arg d m main_arg11 (by decide) (by decide) (by decide) (by decide))))))))
theorem VL_arg0 : VL m (a3 m) d (rf main_arg0) = m (d, rf main_arg0) :=
  (VL_of_ne m d main_arg0 (by decide) (by decide)).trans ((VK_of_ne m d main_arg0 (by decide)).trans ((VJ_of_ne m d main_arg0 (by decide) (by decide)).trans ((VI_of_ne m d main_arg0 (by decide)).trans ((VH_of_ne m (a3 m) d main_arg0 (by decide)).trans
    ((VG_of_ne m (a3 m) d main_arg0 (by decide)).trans ((VF_of_ne m d main_arg0 (by decide)).trans ((VE_of_ne m d main_arg0 (by decide) (by decide)).trans ((VC_of_ne d m main_arg0 (by decide)).trans ((VB_of_ne d m main_arg0 (by decide)).trans (VA_arg d m main_arg0 (by decide) (by decide) (by decide) (by decide)))))))))))
theorem VL_arg1 : VL m (a3 m) d (rf main_arg1) = m (d, rf main_arg1) :=
  (VL_of_ne m d main_arg1 (by decide) (by decide)).trans ((VK_of_ne m d main_arg1 (by decide)).trans ((VJ_of_ne m d main_arg1 (by decide) (by decide)).trans ((VI_of_ne m d main_arg1 (by decide)).trans ((VH_of_ne m (a3 m) d main_arg1 (by decide)).trans
    ((VG_of_ne m (a3 m) d main_arg1 (by decide)).trans ((VF_of_ne m d main_arg1 (by decide)).trans ((VE_of_ne m d main_arg1 (by decide) (by decide)).trans ((VC_of_ne d m main_arg1 (by decide)).trans ((VB_of_ne d m main_arg1 (by decide)).trans (VA_arg d m main_arg1 (by decide) (by decide) (by decide) (by decide)))))))))))
theorem VL_arg2 : VL m (a3 m) d (rf main_arg2) = m (d, rf main_arg2) :=
  (VL_of_ne m d main_arg2 (by decide) (by decide)).trans ((VK_of_ne m d main_arg2 (by decide)).trans ((VJ_of_ne m d main_arg2 (by decide) (by decide)).trans ((VI_of_ne m d main_arg2 (by decide)).trans ((VH_of_ne m (a3 m) d main_arg2 (by decide)).trans
    ((VG_of_ne m (a3 m) d main_arg2 (by decide)).trans ((VF_of_ne m d main_arg2 (by decide)).trans ((VE_of_ne m d main_arg2 (by decide) (by decide)).trans ((VC_of_ne d m main_arg2 (by decide)).trans ((VB_arg2 m d).trans (VA_arg d m main_arg2 (by decide) (by decide) (by decide) (by decide)))))))))))
theorem VL_arg3 : VL m (a3 m) d (rf main_arg3) = m (d, rf main_arg3) :=
  (VL_of_ne m d main_arg3 (by decide) (by decide)).trans ((VK_of_ne m d main_arg3 (by decide)).trans ((VJ_of_ne m d main_arg3 (by decide) (by decide)).trans ((VI_of_ne m d main_arg3 (by decide)).trans ((VH_of_ne m (a3 m) d main_arg3 (by decide)).trans
    ((VG_of_ne m (a3 m) d main_arg3 (by decide)).trans ((VF_of_ne m d main_arg3 (by decide)).trans ((VE_of_ne m d main_arg3 (by decide) (by decide)).trans ((VC_of_ne d m main_arg3 (by decide)).trans ((VB_of_ne d m main_arg3 (by decide)).trans (VA_arg d m main_arg3 (by decide) (by decide) (by decide) (by decide)))))))))))
theorem VL_arg4 : VL m (a3 m) d (rf main_arg4) = m (d, rf main_arg4) :=
  (VL_of_ne m d main_arg4 (by decide) (by decide)).trans ((VK_of_ne m d main_arg4 (by decide)).trans ((VJ_of_ne m d main_arg4 (by decide) (by decide)).trans ((VI_of_ne m d main_arg4 (by decide)).trans ((VH_of_ne m (a3 m) d main_arg4 (by decide)).trans
    ((VG_of_ne m (a3 m) d main_arg4 (by decide)).trans ((VF_of_ne m d main_arg4 (by decide)).trans ((VE_of_ne m d main_arg4 (by decide) (by decide)).trans ((VC_of_ne d m main_arg4 (by decide)).trans ((VB_of_ne d m main_arg4 (by decide)).trans (VA_arg d m main_arg4 (by decide) (by decide) (by decide) (by decide)))))))))))
theorem VL_arg5 : VL m (a3 m) d (rf main_arg5) = m (d, rf main_arg5) :=
  (VL_of_ne m d main_arg5 (by decide) (by decide)).trans ((VK_of_ne m d main_arg5 (by decide)).trans ((VJ_of_ne m d main_arg5 (by decide) (by decide)).trans ((VI_of_ne m d main_arg5 (by decide)).trans ((VH_of_ne m (a3 m) d main_arg5 (by decide)).trans
    (VG_arg5 m d)))))
theorem VL_arg6 : VL m (a3 m) d (rf main_arg6) = m (d, rf main_arg6) :=
  (VL_of_ne m d main_arg6 (by decide) (by decide)).trans ((VK_of_ne m d main_arg6 (by decide)).trans ((VJ_of_ne m d main_arg6 (by decide) (by decide)).trans ((VI_of_ne m d main_arg6 (by decide)).trans ((VH_of_ne m (a3 m) d main_arg6 (by decide)).trans
    (VG_arg6 m d)))))
theorem VL_arg7 : VL m (a3 m) d (rf main_arg7) = m (d, rf main_arg7) :=
  (VL_of_ne m d main_arg7 (by decide) (by decide)).trans ((VK_of_ne m d main_arg7 (by decide)).trans ((VJ_of_ne m d main_arg7 (by decide) (by decide)).trans ((VI_of_ne m d main_arg7 (by decide)).trans ((VH_of_ne m (a3 m) d main_arg7 (by decide)).trans
    (VG_arg7 m d)))))
theorem VL_arg8 : VL m (a3 m) d (rf main_arg8) = m (d, rf main_arg8) :=
  (VL_of_ne m d main_arg8 (by decide) (by decide)).trans ((VK_of_ne m d main_arg8 (by decide)).trans ((VJ_of_ne m d main_arg8 (by decide) (by decide)).trans ((VI_of_ne m d main_arg8 (by decide)).trans ((VH_of_ne m (a3 m) d main_arg8 (by decide)).trans
    ((VG_of_ne m (a3 m) d main_arg8 (by decide)).trans (VF_arg8 m d))))))
theorem VL_arg9 : VL m (a3 m) d (rf main_arg9) = m (d, rf main_arg9) :=
  (VL_of_ne m d main_arg9 (by decide) (by decide)).trans ((VK_of_ne m d main_arg9 (by decide)).trans ((VJ_of_ne m d main_arg9 (by decide) (by decide)).trans ((VI_of_ne m d main_arg9 (by decide)).trans ((VH_of_ne m (a3 m) d main_arg9 (by decide)).trans
    ((VG_of_ne m (a3 m) d main_arg9 (by decide)).trans (VF_arg9 m d))))))
theorem VL_arg10 : VL m (a3 m) d (rf main_arg10) = m (d, rf main_arg10) :=
  (VL_of_ne m d main_arg10 (by decide) (by decide)).trans ((VK_of_ne m d main_arg10 (by decide)).trans ((VJ_of_ne m d main_arg10 (by decide) (by decide)).trans ((VI_of_ne m d main_arg10 (by decide)).trans ((VH_of_ne m (a3 m) d main_arg10 (by decide)).trans
    ((VG_of_ne m (a3 m) d main_arg10 (by decide)).trans (VF_arg10 m d))))))
theorem VL_arg11 : VL m (a3 m) d (rf main_arg11) = m (d, rf main_arg11) :=
  (VL_of_ne m d main_arg11 (by decide) (by decide)).trans ((VK_of_ne m d main_arg11 (by decide)).trans ((VJ_of_ne m d main_arg11 (by decide) (by decide)).trans ((VI_of_ne m d main_arg11 (by decide)).trans ((VH_of_ne m (a3 m) d main_arg11 (by decide)).trans
    ((VG_of_ne m (a3 m) d main_arg11 (by decide)).trans ((VF_of_ne m d main_arg11 (by decide)).trans ((VE_of_ne m d main_arg11 (by decide) (by decide)).trans ((VC_of_ne d m main_arg11 (by decide)).trans ((VB_of_ne d m main_arg11 (by decide)).trans (VA_arg d m main_arg11 (by decide) (by decide) (by decide) (by decide)))))))))))

/-! ## The results -/

section
variable (m : (ℓ : Loc nD τ sig) → Buf (Elt Ideal) ℓ)

/-- A token's probabilities. -/
def P (t : Fin 2048) : Fin 8 → EReal :=
  Router.P (VA m 0 (rf main_v0)) (VA m 0 (rf main_v1)) (VA m 0 (rf main_arg2)) (VA m 0 (rf main_v2)) (VA m 0 (rf main_v3)) t

/-- An expert on a token. -/
def eo (e : Fin 8) (t : Fin 2048) : Fin 1024 → EReal :=
  ffn (xrow m t) (mat (n := 8) (m (0, rf main_arg5)) e) (mat (n := 8) (m (0, rf main_arg6)) e) (mat (n := 8) (m (0, rf main_arg7)) e)
/-- The shared expert on a token. -/
def sh (t : Fin 2048) : Fin 1024 → EReal :=
  ffn (xrow m t) (mat (n := 1) (m (0, rf main_arg8)) 0) (mat (n := 1) (m (0, rf main_arg9)) 0) (mat (n := 1) (m (0, rf main_arg10)) 0)

theorem ex_lo (t : Fin 2048) (h : t.val < 4096) : ex m 0 ⟨t.val, h⟩ = Top.top (P m t) := dif_pos t.isLt
theorem ex_hi (t : Fin 2048) (h : 2048 + t.val < 4096) : ex m 0 ⟨2048 + t.val, h⟩ = Top.top2 (P m t) := by
  refine (dif_neg (by show ¬ 2048 + t.val < 2048; omega)).trans ?_
  have e : (⟨2048 + t.val - 2048, by omega⟩ : Fin 2048) = t := Fin.ext (by show 2048 + t.val - 2048 = t.val; omega)
  exact congrArg (fun t : Fin 2048 => Top.top2 (P m t)) e

/-- The first result. -/
theorem VL_y (t : Fin 2048) (k : Fin 1024) : (VL m (a3 m) 0 (rf main_v24) : Vec Ideal S1x2048x1024 .f32) (i3 0 t k)
    = rms (fun j => P m t (Top.top (P m t)) * eo m (Top.top (P m t)) t j + Top.mask (P m t) (Top.top (P m t)) (Top.top2 (P m t)) * eo m (Top.top2 (P m t)) t j + sh m t j)
        (fun j => (m (0, rf main_arg11) : Vec Ideal S1024 .f32) (ix1 j)) k := by
  rw [VL_v24]
  refine (shapeCast_apply _ _ (i3 0 t k) (ix2 t k) ?_).trans ((VK_v23 m t k).trans ?_)
  · rw [Shape.rowMajor_val_two, Shape.rowMajor_val_three]
    show t.val * 1024 + k.val = (0 * 2048 + t.val) * 1024 + k.val
    omega
  have hp0 : (⟨t.val % 2048, Nat.mod_lt _ (by norm_num)⟩ : Fin 2048) = t := Fin.ext (Nat.mod_eq_of_lt t.isLt)
  have hp1 : (⟨(2048 + t.val) % 2048, Nat.mod_lt _ (by norm_num)⟩ : Fin 2048) = t := Fin.ext (by show (2048 + t.val) % 2048 = t.val; omega)
  refine rms_congr (fun j => ?_) (fun j => ?_) k
  · rw [VJ_v4_0, VJ_v17, VB_v4_0]
    refine congrArg₂ (· + ·) (congrArg₂ (· + ·) (congrArg₂ (· * ·) ?_ ?_) (congrArg₂ (· * ·) ?_ ?_)) ?_
    · exact Router.out5_lo _ _ _ _ _ t
    · refine (gathered m _ j).trans ?_
      rw [hp0, ex_lo]; rfl
    · exact Router.out5_hi _ _ _ _ _ t
    · refine (gathered m _ j).trans ?_
      rw [hp1, ex_hi]; rfl
    · exact VF_v17 m t j
  · rw [VJ_v22, VI_arg11]
    refine shapeCast_apply _ _ _ _ ?_
    rw [Shape.rowMajor_val_two]
    refine (Shape.rowMajor_val_one (d := ![1024]) (ix1 j)).trans ?_
    show j.val = 0 * 1024 + j.val
    omega

/-- The second. -/
theorem VL_bal (i : S_.Idx) : (VL m (a3 m) 0 (rf main_v25) : Vec Ideal S_ .f32) i = Ideal.ofBits .f32 0x3DA3D70A#32 *
    ∑ e : Fin 8, Ideal.div (∑ t : Fin 2048, P m t e) (Ideal.ofBits .f32 0x45000000#32)
      * Ideal.div (∑ t : Fin 2048, P m t e) (Ideal.ofBits .f32 0x45000000#32) := by
  rw [VL_v25, VK_v4_3, VB_v4_3]
  refine (congrArg (Reg0.out8 _ _ _ _ _) ?_).trans (Router.out8_apply _ _ _ _ _)
  funext a; fin_cases a <;> exact Subsingleton.elim (α := Fin 1) _ _

end

end Cert.Proof.Whole.Mid
end
-- ==== Proof.KRef.lean ====
/-
  The reference's results on the ideal values, read at an index.
-/
module

public import proofs.«01_k».proof.Proof.KMid
public import proofs.«01_k».proof.Proof.Gen.ReferenceIdeal.Run
public import Idealize.ShloMosaic.Lib.Pointwise

@[expose] public section

noncomputable section

namespace Cert.Proof.Whole.Ref

open Cert.Proof.Whole.Mid (i3 ffn rms)
open Cert.ReferenceIdeal Cert.ReferenceIdeal.Gen Cert.ReferenceIdeal.Value

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

def rx (a0 : FVec Ideal S1x2048x1024 .f32) : FVec Ideal S2048x1024 .f32 :=
  (shapeCast _ a0 shapeCasts_S1x2048x1024_S2048x1024)
def rc (a1 : FVec Ideal S1x2048 .f32) : FVec Ideal S2048x1 .f32 :=
  (minimumf (broadcastInDim S2048x1 ![] bcast_S_S2048x1 (id (constant S_ .f32 0x3F800000#32))) (maximumf (broadcastInDim S2048x1 ![] bcast_S_S2048x1 (id (constant S_ .f32 0x00000000#32))) (shapeCast _ a1 shapeCasts_S1x2048_S2048x1)))
def rlg (a0 : FVec Ideal S1x2048x1024 .f32) (a1 : FVec Ideal S1x2048 .f32) (a2 : FVec Ideal S8x1024 .f32) (a3 : FVec Ideal S8 .f32) (a4 : FVec Ideal S8 .f32) : FVec Ideal S2048x8 .f32 :=
  (addf (addf (Host.dotGeneral dot_S2048x1024_S1024x8_S2048x8_1_0_0_1_n_n none (rx a0) (transpose S1024x8 [1, 0] a2 transposes_S8x1024_S1024x8_1_0)) (mulf (broadcastInDim S2048x8 ![0, 1] bcast_S2048x1_S2048x8_0_1 (rc a1)) (broadcastInDim S2048x8 ![0, 1] bcast_S1x8_S2048x8_0_1 (broadcastInDim S1x8 ![1] bcast_S8_S1x8_1 a3)))) (mulf (broadcastInDim S2048x8 ![0, 1] bcast_S2048x1_S2048x8_0_1 (subf (broadcastInDim S2048x1 ![] bcast_S_S2048x1 (constant S_ .f32 0x3F800000#32)) (rc a1))) (broadcastInDim S2048x8 ![0, 1] bcast_S1x8_S2048x8_0_1 (broadcastInDim S1x8 ![1] bcast_S8_S1x8_1 a4))))
def rpr (l : FVec Ideal S2048x8 .f32) : FVec Ideal S2048x8 .f32 :=
  (Host.divf (Host.exp (subf l (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x8_S2048_d1 h_S_)))))) (broadcastInDim S2048x8 ![0, 1] bcast_S2048x1_S2048x8_0_1 (broadcastInDim S2048x1 ![0] bcast_S2048_S2048x1_0 (Host.reduceAdd (Host.exp (subf l (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x8_S2048_d1 h_S_)))))) (constant S_ .f32 0x00000000#32) reducesTo_S2048x8_S2048_d1 h_S_))))
def rw (pr : FVec Ideal S2048x8 .f32) : FVec Ideal S2048x8 .f32 :=
  (addf (addf (broadcastInDim S2048x8 ![] bcast_S_S2048x8 (constant S_ .f32 0x00000000#32)) (mulf (uitofp .f32 (cmpi .eq (broadcastInDim S2048x8 ![0, 1] bcast_S2048x1_S2048x8_0_1 (broadcastInDim S2048x1 ![0] bcast_S2048_S2048x1_0 (shapeCast _ (extractStridedSlice S2048x1 ![0, 0] ((Host.topK S2048x2 1 (FloatOps.cmpfTotal .gt) pr sliceFits_S2048x8_S2048x2).2) slices_S2048x2_S2048x1_0_0) shapeCasts_S2048x1_S2048))) (broadcastInDim S2048x8 ![0, 1] bcast_S1x8_S2048x8_0_1 (iotaInDim S1x8 32 1)))) (broadcastInDim S2048x8 ![0, 1] bcast_S2048x1_S2048x8_0_1 (extractStridedSlice S2048x1 ![0, 0] ((Host.topK S2048x2 1 (FloatOps.cmpfTotal .gt) pr sliceFits_S2048x8_S2048x2).1) slices_S2048x2_S2048x1_0_0)))) (mulf (uitofp .f32 (cmpi .eq (broadcastInDim S2048x8 ![0, 1] bcast_S2048x1_S2048x8_0_1 (broadcastInDim S2048x1 ![0] bcast_S2048_S2048x1_0 (shapeCast _ (extractStridedSlice S2048x1 ![0, 1] ((Host.topK S2048x2 1 (FloatOps.cmpfTotal .gt) pr sliceFits_S2048x8_S2048x2).2) slices_S2048x2_S2048x1_0_1) shapeCasts_S2048x1_S2048))) (broadcastInDim S2048x8 ![0, 1] bcast_S1x8_S2048x8_0_1 (iotaInDim S1x8 32 1)))) (broadcastInDim S2048x8 ![0, 1] bcast_S2048x1_S2048x8_0_1 (extractStridedSlice S2048x1 ![0, 1] ((Host.topK S2048x2 1 (FloatOps.cmpfTotal .gt) pr sliceFits_S2048x8_S2048x2).1) slices_S2048x2_S2048x1_0_1))))
def rmoe (a0 : FVec Ideal S1x2048x1024 .f32) (a5 : FVec Ideal S8x1024x1024 .f32) (a6 : FVec Ideal S8x1024x1024 .f32) (a7 : FVec Ideal S8x1024x1024 .f32) (w : FVec Ideal S2048x8 .f32) : FVec Ideal S2048x1024 .f32 :=
  (Host.dotGeneral dot_S2048x8x1024_S2048x8_S2048x1024_1_1_2_n_0_0 none (transpose S2048x8x1024 [2, 0, 1] (Host.dotGeneral dot_S8x1024x1024_S2048x8x1024_S8x1024x2048_2_2_1_0_0_1 none a7 (mulf (mulf (Host.dotGeneral dot_S2048x1024_S8x1024x1024_S2048x8x1024_1_2_0_01_n_n none (rx a0) a5) (Host.divf (broadcastInDim S2048x8x1024 ![] bcast_S_S2048x8x1024 (constant S_ .f32 0x3F800000#32)) (addf (broadcastInDim S2048x8x1024 ![] bcast_S_S2048x8x1024 (constant S_ .f32 0x3F800000#32)) (Host.exp (Host.negf (Host.dotGeneral dot_S2048x1024_S8x1024x1024_S2048x8x1024_1_2_0_01_n_n none (rx a0) a5)))))) (Host.dotGeneral dot_S2048x1024_S8x1024x1024_S2048x8x1024_1_2_0_01_n_n none (rx a0) a6))) transposes_S8x1024x2048_S2048x8x1024_2_0_1) w)
def rsh (a0 : FVec Ideal S1x2048x1024 .f32) (a8 : FVec Ideal S1x1024x1024 .f32) (a9 : FVec Ideal S1x1024x1024 .f32) (a10 : FVec Ideal S1x1024x1024 .f32) : FVec Ideal S2048x1024 .f32 :=
  (Host.dotGeneral dot_S2048x1024_S1024x1024_S2048x1024_1_0_0_1_n_n none (mulf (mulf (Host.dotGeneral dot_S2048x1024_S1024x1024_S2048x1024_1_0_0_1_n_n none (rx a0) (transpose S1024x1024 [1, 0] (shapeCast _ a8 shapeCasts_S1x1024x1024_S1024x1024) transposes_S1024x1024_S1024x1024_1_0)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (Host.dotGeneral dot_S2048x1024_S1024x1024_S2048x1024_1_0_0_1_n_n none (rx a0) (transpose S1024x1024 [1, 0] (shapeCast _ a8 shapeCasts_S1x1024x1024_S1024x1024) transposes_S1024x1024_S1024x1024_1_0))))))) (Host.dotGeneral dot_S2048x1024_S1024x1024_S2048x1024_1_0_0_1_n_n none (rx a0) (transpose S1024x1024 [1, 0] (shapeCast _ a9 shapeCasts_S1x1024x1024_S1024x1024) transposes_S1024x1024_S1024x1024_1_0))) (transpose S1024x1024 [1, 0] (shapeCast _ a10 shapeCasts_S1x1024x1024_S1024x1024) transposes_S1024x1024_S1024x1024_1_0))
def rz (a0 : FVec Ideal S1x2048x1024 .f32) (a5 : FVec Ideal S8x1024x1024 .f32) (a6 : FVec Ideal S8x1024x1024 .f32) (a7 : FVec Ideal S8x1024x1024 .f32) (a8 : FVec Ideal S1x1024x1024 .f32) (a9 : FVec Ideal S1x1024x1024 .f32) (a10 : FVec Ideal S1x1024x1024 .f32) (w : FVec Ideal S2048x8 .f32) : FVec Ideal S1x2048x1024 .f32 :=
  (shapeCast _ (addf (rmoe a0 a5 a6 a7 w) (rsh a0 a8 a9 a10)) shapeCasts_S2048x1024_S1x2048x1024)
def ry (a11 : FVec Ideal S1024 .f32) (z : FVec Ideal S1x2048x1024 .f32) : FVec Ideal S1x2048x1024 .f32 :=
  mulf (mulf z (broadcastInDim S1x2048x1024 ![0, 1, 2] bcast_S1x2048x1_S1x2048x1024_0_1_2 (Host.rsqrt (addf (Host.divf (broadcastInDim S1x2048x1 ![0, 1] bcast_S1x2048_S1x2048x1_0_1 (Host.reduceAdd (mulf z z) (constant S_ .f32 0x00000000#32) reducesTo_S1x2048x1024_S1x2048_d2 h_S_)) (broadcastInDim S1x2048x1 ![] bcast_S_S1x2048x1 (constant S_ .f32 0x44800000#32))) (broadcastInDim S1x2048x1 ![] bcast_S_S1x2048x1 (constant S_ .f32 0x358637BD#32)))))) (broadcastInDim S1x2048x1024 ![0, 1, 2] bcast_S1x1x1024_S1x2048x1024_0_1_2 (broadcastInDim S1x1x1024 ![2] bcast_S1024_S1x1x1024_2 a11))
def rb (pr : FVec Ideal S2048x8 .f32) : FVec Ideal S_ .f32 :=
  mulf (mulf (constant S_ .f32 0x41000000#32) (Host.reduceAdd (mulf (Host.divf (Host.reduceAdd pr (constant S_ .f32 0x00000000#32) reducesTo_S2048x8_S8_d0 h_S_) (broadcastInDim S8 ![] bcast_S_S8 (constant S_ .f32 0x45000000#32))) (Host.divf (Host.reduceAdd pr (constant S_ .f32 0x00000000#32) reducesTo_S2048x8_S8_d0 h_S_) (broadcastInDim S8 ![] bcast_S_S8 (constant S_ .f32 0x45000000#32)))) (constant S_ .f32 0x00000000#32) reducesTo_S8_S_d0 h_S_)) (constant S_ .f32 0x3C23D70A#32)

variable (m : (ℓ : Loc nD τ sig) → Buf (Elt Ideal) ℓ) (c : Dev nD)

theorem bal_eq : res_main_v34 m c = rb (rpr (rlg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) := rfl

theorem y_eq : res_main_v82 m c = ry (m ((c.tc : Thread nD τ).loc main_arg11)) (rz (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (rw (rpr (rlg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))))) := rfl

/-! ## The parts at an index -/

theorem one_word : Ideal.ofBits .f32 0x3F800000#32 = 1 := by simp [Ideal.ofBits, Ideal.ieee]; norm_num [← EReal.coe_mul]
theorem zero_word : Ideal.ofBits .f32 0#32 = 0 := by simp [Ideal.ofBits, Ideal.ieee]
theorem wbot : Ideal.ofBits .f32 0xFF800000#32 = ⊥ := by simp [Ideal.ofBits, Ideal.ieee]

/-- A logit, from the arguments. -/
def lgt (a0 : FVec Ideal S1x2048x1024 .f32) (a1 : FVec Ideal S1x2048 .f32) (a2 : FVec Ideal S8x1024 .f32) (a3 a4 : FVec Ideal S8 .f32) (t : Fin 2048) (e : Fin 8) : EReal :=
  ∑ x, a0 (i3 0 t x) * a2 (ix2 e x) + min 1 (max 0 (a1 (ix2 0 t))) * a3 (ix1 e) + (1 - min 1 (max 0 (a1 (ix2 0 t)))) * a4 (ix1 e)

theorem rlg_apply (a0 a1 a2 a3 a4) (t : Fin 2048) (e : Fin 8) : rlg a0 a1 a2 a3 a4 (ix2 t e) = lgt a0 a1 a2 a3 a4 t e := by
  unfold lgt
  pointwise [rlg, rx, rc]
  show _ + min (Ideal.ofBits .f32 0x3F800000#32) (max (Ideal.ofBits .f32 0#32) _) * _ + (1 - min (Ideal.ofBits .f32 0x3F800000#32) (max (Ideal.ofBits .f32 0#32) _)) * _ = _
  rw [one_word, zero_word]

theorem rpr_apply (l) (t : Fin 2048) (e : Fin 8) : rpr l (ix2 t e) = Router.soft (fun x => l (ix2 t x)) e := by
  rw [Router.soft_fold]
  pointwise [rpr]
  rw [wbot]
  simp only [bot_le, max_eq_right]

theorem bit_word (a b : Fin 8) : (FloatOps.uitofp FTy.f32 (IntOp.cmpi CmpIPredicate.eq (BitVec.ofNat 32 a.val) (BitVec.ofNat 32 b.val)) : Ideal .f32) = if a = b then (1 : EReal) else 0 := by
  have h : ∀ a b : Fin 8, IntOp.cmpi CmpIPredicate.eq (BitVec.ofNat 32 a.val) (BitVec.ofNat 32 b.val) = if a = b then 1#1 else 0#1 := by decide
  rw [h]
  by_cases hab : a = b
  · rw [if_pos hab, if_pos hab]
    show (((1#1 : BitVec 1).toNat : ℝ) : EReal) = 1
    simp
  · rw [if_neg hab, if_neg hab]
    show (((0#1 : BitVec 1).toNat : ℝ) : EReal) = 0
    simp

theorem rw_apply (pr) (t : Fin 2048) (f : Fin 8 → EReal) (hf : ∀ e, pr (ix2 t e) = f e) (hb : ∀ e, ⊥ < f e) (e : Fin 8) :
    rw pr (ix2 t e) = (if Top.top f = e then 1 else 0) * f (Top.top f) + (if Top.top2 f = e then 1 else 0) * f (Top.top2 f) := by
  have h0 := Top.topK_zero pr sliceFits_S2048x8_S2048x2 t f hf
  have h1 := Top.topK_one pr sliceFits_S2048x8_S2048x2 t f hf hb
  pointwise [rw]
  refine congrArg₂ (· + ·) (congrArg₂ (· * ·) ?_ h0.1) (congrArg₂ (· * ·) ?_ h1.1)
  · refine (congrArg (fun w => (FloatOps.uitofp FTy.f32 (IntOp.cmpi CmpIPredicate.eq w (BitVec.ofNat 32 e.val)) : Ideal .f32)) h0.2).trans (bit_word _ _)
  · refine (congrArg (fun w => (FloatOps.uitofp FTy.f32 (IntOp.cmpi CmpIPredicate.eq w (BitVec.ofNat 32 e.val)) : Ideal .f32)) h1.2).trans (bit_word _ _)

/-- The sum over the experts has two terms. -/
theorem two_terms (E : Fin 8 → EReal) (i j : Fin 8) (hij : j ≠ i) (p q : EReal) :
    ∑ e, E e * ((if i = e then 1 else 0) * p + (if j = e then 1 else 0) * q) = p * E i + q * E j := by
  have h : ∀ e, E e * ((if i = e then 1 else 0) * p + (if j = e then 1 else 0) * q) = (if i = e then p * E e else 0) + (if j = e then q * E e else 0) := by
    intro e
    by_cases h1 : i = e
    · subst h1
      rw [if_pos rfl, if_pos rfl, if_neg hij, if_neg hij]
      simp [mul_comm]
    · by_cases h2 : j = e
      · rw [if_neg h1, if_neg h1, if_pos h2, if_pos h2]
        simp [mul_comm]
      · simp [h1, h2]
  rw [Finset.sum_congr rfl fun e _ => h e, Finset.sum_add_distrib, Finset.sum_ite_eq, Finset.sum_ite_eq]
  simp

theorem rmoe_apply (a0 a5 a6 a7 w) (t : Fin 2048) (k : Fin 1024) : rmoe a0 a5 a6 a7 w (ix2 t k)
    = ∑ e : Fin 8, ffn (fun j => a0 (i3 0 t j)) (fun f j => a5 (i3 e f j)) (fun f j => a6 (i3 e f j)) (fun f j => a7 (i3 e f j)) k * w (ix2 t e) := by
  unfold ffn
  pointwise [rmoe, rx]
  refine Finset.sum_congr rfl fun e _ => congrArg (· * w (ix2 t e)) (Finset.sum_congr rfl fun f _ => mul_comm _ _)

theorem rsh_apply (a0 a8 a9 a10) (t : Fin 2048) (k : Fin 1024) : rsh a0 a8 a9 a10 (ix2 t k)
    = ffn (fun j => a0 (i3 0 t j)) (fun f j => a8 (i3 0 f j)) (fun f j => a9 (i3 0 f j)) (fun f j => a10 (i3 0 f j)) k := by
  unfold ffn
  pointwise [rsh, rx]
  rfl

theorem rz_apply (a0 a5 a6 a7 a8 a9 a10 w) (t : Fin 2048) (k : Fin 1024) : rz a0 a5 a6 a7 a8 a9 a10 w (i3 0 t k)
    = rmoe a0 a5 a6 a7 w (ix2 t k) + rsh a0 a8 a9 a10 (ix2 t k) := by
  unfold rz
  refine shapeCast_apply _ _ (i3 0 t k) (ix2 t k) ?_
  rw [Shape.rowMajor_val_two, Shape.rowMajor_val_three]
  show t.val * 1024 + k.val = (0 * 2048 + t.val) * 1024 + k.val
  omega

theorem ry_apply (a z) (t : Fin 2048) (k : Fin 1024) : ry a z (i3 0 t k) = rms (fun j => z (i3 0 t j)) (fun j => a (ix1 j)) k := by
  unfold rms
  pointwise [ry]

theorem eight_hundredths : Ideal.ofBits .f32 0x41000000#32 * Ideal.ofBits .f32 0x3C23D70A#32 = Ideal.ofBits .f32 0x3DA3D70A#32 := by
  simp [Ideal.ofBits, Ideal.ieee]; norm_num [← EReal.coe_mul]

theorem rb_apply (pr) (i) : rb pr i = Ideal.ofBits .f32 0x3DA3D70A#32 *
    ∑ e : Fin 8, Ideal.div (∑ t : Fin 2048, pr (ix2 t e)) (Ideal.ofBits .f32 0x45000000#32) * Ideal.div (∑ t : Fin 2048, pr (ix2 t e)) (Ideal.ofBits .f32 0x45000000#32) := by
  rw [← eight_hundredths]
  pointwise [rb]
  exact mul_right_comm _ _ _

/-! ## Finite logits -/

theorem soft_bot {l : Fin 8 → EReal} (h : ∀ e, ⊥ < l e ∧ l e < ⊤) (e : Fin 8) : ⊥ < Router.soft l e := by
  have hr : ∀ e, ((l e).toReal : EReal) = l e := fun e => EReal.coe_toReal (h e).2.ne (h e).1.ne'
  have hx : ∀ e, Ideal.exp (l e - l (Top.top l)) = ((Real.exp ((l e).toReal - (l (Top.top l)).toReal) : ℝ) : EReal) := by
    intro e
    conv_lhs => rw [← hr e, ← hr (Top.top l), ← EReal.coe_sub]
    rfl
  have hpos : 0 < ∑ j : Fin 8, Real.exp ((l j).toReal - (l (Top.top l)).toReal) := Finset.sum_pos (fun j _ => Real.exp_pos _) Finset.univ_nonempty
  have hs : (∑ j : Fin 8, Ideal.exp (l j - l (Top.top l))) = ((∑ j : Fin 8, Real.exp ((l j).toReal - (l (Top.top l)).toReal) : ℝ) : EReal) := by
    rw [Finset.sum_congr rfl fun j _ => hx j]
    exact (map_sum (⟨⟨((↑) : ℝ → EReal), EReal.coe_zero⟩, EReal.coe_add⟩ : ℝ →+ EReal) _ _).symm
  unfold Router.soft
  rw [hs, hx e]
  unfold Ideal.div
  rw [if_neg (by exact_mod_cast hpos.ne'), ← EReal.coe_inv, ← EReal.coe_mul]
  exact EReal.bot_lt_coe _

/-! ## The results -/

variable (h : ∀ t e, ⊥ < lgt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t e
  ∧ lgt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t e < ⊤)

/-- A token's probabilities. -/
def pb (t : Fin 2048) : Fin 8 → EReal :=
  Router.soft (lgt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t)

theorem pb_eq (t : Fin 2048) (e : Fin 8) : rpr (rlg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (ix2 t e) = pb m c t e := by
  rw [rpr_apply]
  exact congrArg (fun l => Router.soft l e) (funext fun x => rlg_apply _ _ _ _ _ t x)

theorem bal (i : S_.Idx) : res_main_v34 m c i = Ideal.ofBits .f32 0x3DA3D70A#32 *
    ∑ e : Fin 8, Ideal.div (∑ t : Fin 2048, pb m c t e) (Ideal.ofBits .f32 0x45000000#32) * Ideal.div (∑ t : Fin 2048, pb m c t e) (Ideal.ofBits .f32 0x45000000#32) := by
  rw [bal_eq, rb_apply]
  simp only [pb_eq]

/-- An expert on a token. -/
def eo (e : Fin 8) (t : Fin 2048) : Fin 1024 → EReal :=
  ffn (fun j => (m ((c.tc : Thread nD τ).loc main_arg0) : FVec Ideal S1x2048x1024 .f32) (i3 0 t j)) (fun f j => (m ((c.tc : Thread nD τ).loc main_arg5) : FVec Ideal S8x1024x1024 .f32) (i3 e f j))
    (fun f j => (m ((c.tc : Thread nD τ).loc main_arg6) : FVec Ideal S8x1024x1024 .f32) (i3 e f j)) (fun f j => (m ((c.tc : Thread nD τ).loc main_arg7) : FVec Ideal S8x1024x1024 .f32) (i3 e f j))
/-- The shared expert on a token. -/
def sh (t : Fin 2048) : Fin 1024 → EReal :=
  ffn (fun j => (m ((c.tc : Thread nD τ).loc main_arg0) : FVec Ideal S1x2048x1024 .f32) (i3 0 t j)) (fun f j => (m ((c.tc : Thread nD τ).loc main_arg8) : FVec Ideal S1x1024x1024 .f32) (i3 0 f j))
    (fun f j => (m ((c.tc : Thread nD τ).loc main_arg9) : FVec Ideal S1x1024x1024 .f32) (i3 0 f j)) (fun f j => (m ((c.tc : Thread nD τ).loc main_arg10) : FVec Ideal S1x1024x1024 .f32) (i3 0 f j))

include h in
theorem yres (t : Fin 2048) (k : Fin 1024) : (res_main_v82 m c : FVec Ideal S1x2048x1024 .f32) (i3 0 t k)
    = rms (fun j => pb m c t (Top.top (pb m c t)) * eo m c (Top.top (pb m c t)) t j + pb m c t (Top.top2 (pb m c t)) * eo m c (Top.top2 (pb m c t)) t j + sh m c t j)
        (fun j => (m ((c.tc : Thread nD τ).loc main_arg11) : FVec Ideal S1024 .f32) (ix1 j)) k := by
  have hb : ∀ e, ⊥ < pb m c t e := fun e => soft_bot (h t) e
  rw [y_eq, ry_apply]
  refine congrArg (fun c' => rms c' _ k) (funext fun j => ?_)
  rw [rz_apply]
  refine congrArg₂ (· + ·) ?_ (rsh_apply _ _ _ _ t j)
  rw [rmoe_apply, ← two_terms (fun e => eo m c e t j) _ _ (Top.top2_ne hb)]
  refine Finset.sum_congr rfl fun e _ => congrArg₂ (· * ·) rfl ?_
  exact rw_apply _ t (pb m c t) (pb_eq m c t) hb e

end Cert.Proof.Whole.Ref
end
-- ==== Proof.KPre.lean ====
/-
  The precondition of the value claim: the side conditions its function states, and what it says of the logits.
-/
module

public import proofs.«01_k».proof.Pre_logits_finite
public import proofs.«01_k».proof.Proof.KRef

@[expose] public section

noncomputable section

namespace Cert.Proof.Whole.Pre

open Idealize.ShloMosaic
open Cert.Pre_logits_finite

instance facts : Cert.Pre_logits_finite.Facts where
  shapeCasts_S1x2048_S2048x1 := by decide
  bcast_S_S2048x1 := by decide
  shapeCasts_S1x2048x1024_S2048x1024 := by decide
  transposes_S8x1024_S1024x8_1_0 := by decide
  bcast_S8_S1x8_1 := by decide
  bcast_S2048x1_S2048x8_0_1 := by decide
  bcast_S1x8_S2048x8_0_1 := by decide
  bcast_S_S2048x8 := by decide
  dot_S2048x1024_S1024x8_S2048x8_1_0_0_1_n_n_wf := by decide

theorem top_word : Ideal.ofBits .f32 0x7F800000#32 = ⊤ := by simp [Ideal.ofBits, Ideal.ieee]

theorem finite_of_abs (x : Ideal .f32) (h : FloatOps.cmpf (F := Ideal) (φ := .f32) .olt (FloatOps.hostAbsf x) (FloatOps.ofBits FTy.f32 0x7F800000#32) = 1#1) :
    (⊥ : EReal) < x ∧ x < (⊤ : EReal) := by
  have h1 : BitVec.ofBool (decide (max x (-x) < Ideal.ofBits .f32 0x7F800000#32)) = 1#1 := h
  rw [top_word] at h1
  have h2 : max x (-x) < (⊤ : EReal) := by
    by_contra hn
    rw [decide_eq_false hn] at h1
    exact absurd h1 (by decide)
  have h3 := max_lt_iff.mp h2
  refine ⟨?_, h3.1⟩
  rw [bot_lt_iff_ne_bot]
  rintro rfl
  exact absurd h3.2 (by simp)

theorem finite {a0 a1 a2 a3 a4 a5 a6 a7 a8 a9 a10 a11} (h : Cert.Pre_logits_finite.fn (F := Ideal) a0 a1 a2 a3 a4 a5 a6 a7 a8 a9 a10 a11 = fun _ => 1#1) (t : Fin 2048) (e : Fin 8) :
    ⊥ < Ref.lgt a0 a1 a2 a3 a4 t e ∧ Ref.lgt a0 a1 a2 a3 a4 t e < ⊤ := by
  have h1 : cmpf .olt (Host.absf (F := Ideal) (Ref.rlg a0 a1 a2 a3 a4)) (broadcastInDim S2048x8 ![] Facts.bcast_S_S2048x8 (constant S_ .f32 0x7F800000#32)) = fun _ => 1#1 := h
  have h2 := congrFun h1 (ix2 t e)
  rw [← Ref.rlg_apply]
  generalize Ref.rlg a0 a1 a2 a3 a4 = l at h2
  simp only [cmpf, Host.absf, broadcastInDim, constant] at h2
  exact finite_of_abs _ h2

end Cert.Proof.Whole.Pre

end
-- ==== Proof.KRun.lean ====
/-
  The whole program's run: the two SparseCore calls' launches, and @main through its host operations, its four pipelines and
  the two calls. `run_main` says where the program ends.
-/
module

public import proofs.«01_k».proof.Proof.KVal

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

variable {F : FTy → Type} [FloatOps F]

local notation "𝕄" => MT nD τ sig (HIx 2) (Elt F) ℕ UU ℕ

variable (m : (ℓ : Loc nD τ sig) → Buf (Elt F) ℓ) (ρ : Dev nD → PrngReg) (a3 : (pcfg3 (F := F)).Adm)

/-! ## The launch -/

/-- What the two calls take and hand back, per SparseCore and per task. -/
def P : (K (F := F)).Pay (nD := nD) (Val := Elt F) (Name := ℕ) (U := UU) where
  st := fun q d c => match q with
    | 0 => Disp.tiles d (toks m d) (lst m d) (old m d) c | 1 => Gath.tiles d (tbl m a3 d) (lst' m a3 d) (old' m a3 d) c
  dn := fun q d c => match q with
    | 0 => Disp.tiles d (toks m d) (lst m d) (sorted m d) c | 1 => Gath.tiles d (tbl m a3 d) (lst' m a3 d) (got m a3 d) c
  go := fun q d c i => match q with
    | 0 => Disp.tile d (toks m d) (lst m d) (old m d) (Disp.coordsV c (Fin.cast (nSub_eq 0) i))
    | 1 => Gath.tile d (tbl m a3 d) (lst' m a3 d) (old' m a3 d) (Gath.coordsV c (Fin.cast (nSub_eq 1) i))
  td := fun q d c i => match q with
    | 0 => Disp.tile d (toks m d) (lst m d) (sorted m d) (Disp.coordsV c (Fin.cast (nSub_eq 0) i))
    | 1 => Gath.tile d (tbl m a3 d) (lst' m a3 d) (got m a3 d) (Gath.coordsV c (Fin.cast (nSub_eq 1) i))
  x := fun _ _ => iprop(emp)

instance P_storable : (P m a3).IsStorable where
  st q d c := match q with
    | 0 => (by unfold Disp.tiles; infer_instance : BI.Storable (upEmb : UEmb _ 𝕄) (Disp.tiles d (toks m d) (lst m d) (old m d) c))
    | 1 => (by unfold Gath.tiles; infer_instance : BI.Storable (upEmb : UEmb _ 𝕄) (Gath.tiles d (tbl m a3 d) (lst' m a3 d) (old' m a3 d) c))
  dn q d c := match q with
    | 0 => (by unfold Disp.tiles; infer_instance : BI.Storable (upEmb : UEmb _ 𝕄) (Disp.tiles d (toks m d) (lst m d) (sorted m d) c))
    | 1 => (by unfold Gath.tiles; infer_instance : BI.Storable (upEmb : UEmb _ 𝕄) (Gath.tiles d (tbl m a3 d) (lst' m a3 d) (got m a3 d) c))
  go q d c i := match q with
    | 0 => (inferInstance : BI.Storable (upEmb : UEmb _ 𝕄) (Disp.tile d (toks m d) (lst m d) (old m d) (Disp.coordsV c (Fin.cast (nSub_eq 0) i))))
    | 1 => (inferInstance : BI.Storable (upEmb : UEmb _ 𝕄) (Gath.tile d (tbl m a3 d) (lst' m a3 d) (old' m a3 d) (Gath.coordsV c (Fin.cast (nSub_eq 1) i))))
  td q d c i := match q with
    | 0 => (inferInstance : BI.Storable (upEmb : UEmb _ 𝕄) (Disp.tile d (toks m d) (lst m d) (sorted m d) (Disp.coordsV c (Fin.cast (nSub_eq 0) i))))
    | 1 => (inferInstance : BI.Storable (upEmb : UEmb _ 𝕄) (Gath.tile d (tbl m a3 d) (lst' m a3 d) (got m a3 d) (Gath.coordsV c (Fin.cast (nSub_eq 1) i))))

theorem defs₀_disp (c : Fin τ.nSC) (s : Fin τ.nSub) :
    defs₀ (F := F) (.scVector c s) 1 ()
      = SparseCore.onTile hcore1 hsub1 (fun c s => cc1_dispatch_sc (Disp.coordsV c s)
          (Memref.whole main_v14_scv) (Memref.isWhole_whole _) (Memref.whole main_v12_scv) (Memref.isWhole_whole _) (Memref.whole main_v15_scv) (Memref.isWhole_whole _)
          (Memref.whole cc1_scratch0) (Memref.isWhole_whole _) (Memref.whole cc1_scratch1) (Memref.isWhole_whole _) (Memref.whole cc1_scratch2) (Memref.isWhole_whole _)
          cc1_scratch3 cc1_scratch4 cc1_scratch5 cc1_scratch6 cc1_scoped0) ⟨⟩ c s := rfl

theorem defs₀_gath (c : Fin τ.nSC) (s : Fin τ.nSub) :
    defs₀ (F := F) (.scVector c s) 4 ()
      = SparseCore.onTile hcore4 hsub4 (fun c s => cc4_combine_gather_sc (Gath.coordsV c s)
          (Memref.whole main_v19_scv) (Memref.isWhole_whole _) (Memref.whole main_v12_scv) (Memref.isWhole_whole _) (Memref.whole main_v20_scv) (Memref.isWhole_whole _)
          (Memref.whole cc4_scratch0) (Memref.isWhole_whole _) (Memref.whole cc4_scratch1) (Memref.isWhole_whole _) (Memref.whole cc4_scratch2) (Memref.isWhole_whole _)
          cc4_scratch3 cc4_scratch4 cc4_scratch5 cc4_scratch6 cc4_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every dispatching task runs as `Disp.tile_body` says. -/
theorem tileObl0 (hF : (K (F := F)).Facts) (h : RunOK m a3) : (K (F := F)).TileObl (D (F := F)) 𝒱 (P m a3) v₀ 0 := by
  intro d c i O W hO _ _
  simp only [show (P m a3).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_disp]; simp only [SparseCore.onTile, hci, and_self, ↓reduceDIte]
  exact (Disp.tile_body d (Disp.coordsV ⟨_, hci.1⟩ ⟨_, hci.2⟩) hF (Disp.qOf (Disp.coordsV ⟨_, hci.1⟩ ⟨_, hci.2⟩)) (toks m d) (lst m d) (old m d)
    (h.bound d) (h.distinct d) O W hO).trans (wp_mono frame _ _ fun _ => obl_post)

set_option maxRecDepth 16384 in
/-- Every gathering task runs as `Gath.tile_body` says. -/
theorem tileObl1 (hF : (K (F := F)).Facts) (h : RunOK m a3) : (K (F := F)).TileObl (D (F := F)) 𝒱 (P m a3) v₀ 1 := by
  intro d c i O W hO _ _
  simp only [show (P m a3).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [defs₀_gath]; simp only [SparseCore.onTile, hci, and_self, ↓reduceDIte]
  exact (Gath.tile_body d (Gath.coordsV ⟨_, hci.1⟩ ⟨_, hci.2⟩) hF (Gath.qOf (Gath.coordsV ⟨_, hci.1⟩ ⟨_, hci.2⟩)) (tbl m a3 d) (lst' m a3 d) (old' m a3 d)
    (by rw [lst'_eq]; exact h.bound d) O W hO).trans (wp_mono frame _ _ fun _ => obl_post)

theorem bigSep_tasks (q : Fin 2) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)

theorem vecSplit0 : (K (F := F)).VecSplit' (P m a3) 0 := by
  intro d c
  show Disp.tiles d (toks m d) (lst m d) (old m d) c ⊢ |={Set.univ}=> iprop(
      (bigSep Finset.univ fun i : Fin ((K (F := F)).nSub 0) => Disp.tile d (toks m d) (lst m d) (old m d) (Disp.coordsV c (Fin.cast (nSub_eq 0) i)))
      ∗ ((bigSep Finset.univ fun i : Fin ((K (F := F)).nSub 0) => Disp.tile d (toks m d) (lst m d) (sorted m d) (Disp.coordsV c (Fin.cast (nSub_eq 0) i)))
          -∗ Disp.tiles d (toks m d) (lst m d) (sorted m d) c))
  rw [bigSep_tasks (F := F) 0 (fun i => Disp.tile d (toks m d) (lst m d) (old m d) (Disp.coordsV c i)),
    bigSep_tasks (F := F) 0 (fun i => Disp.tile d (toks m d) (lst m d) (sorted m d) (Disp.coordsV c i))]
  unfold Disp.tiles
  iintro H; imodintro
  isplitl [H]; · iexact H
  iintro H; iexact H

theorem vecSplit1 : (K (F := F)).VecSplit' (P m a3) 1 := by
  intro d c
  show Gath.tiles d (tbl m a3 d) (lst' m a3 d) (old' m a3 d) c ⊢ |={Set.univ}=> iprop(
      (bigSep Finset.univ fun i : Fin ((K (F := F)).nSub 1) => Gath.tile d (tbl m a3 d) (lst' m a3 d) (old' m a3 d) (Gath.coordsV c (Fin.cast (nSub_eq 1) i)))
      ∗ ((bigSep Finset.univ fun i : Fin ((K (F := F)).nSub 1) => Gath.tile d (tbl m a3 d) (lst' m a3 d) (got m a3 d) (Gath.coordsV c (Fin.cast (nSub_eq 1) i)))
          -∗ Gath.tiles d (tbl m a3 d) (lst' m a3 d) (got m a3 d) c))
  rw [bigSep_tasks (F := F) 1 (fun i => Gath.tile d (tbl m a3 d) (lst' m a3 d) (old' m a3 d) (Gath.coordsV c i)),
    bigSep_tasks (F := F) 1 (fun i => Gath.tile d (tbl m a3 d) (lst' m a3 d) (got m a3 d) (Gath.coordsV c i))]
  unfold Gath.tiles
  iintro H; imodintro
  isplitl [H]; · iexact H
  iintro H; iexact H

/-- The pipelines' ghost state, per device. -/
def G (d : Dev nD) : sProp 𝕄 := bigSep Finset.univ fun p : Fin 4 => ghost (adm a3) p d

/-- The certificate's ghost state at the launch. -/
def u₀ : UU := (initOf (K (F := F)).hsCells (K (F := F)).hsToks,
  (initOf (Pipeline.cells (Pipeline.pin (pcfgs (F := F)) (adm a3)) (Gen.cellOf_inj (adm a3)))
    (Pipeline.launchToks (Pipeline.pin (pcfgs (F := F)) (adm a3)) (Gen.cellOf_inj (adm a3))), 1))

theorem hu₀ : (ownU (u₀ a3) : sProp 𝕄)
    ⊢ |={Set.univ}=> iprop(BI.own (EH (initOf (K (F := F)).hsCells (K (F := F)).hsToks)) ∗ (bigSep Finset.univ fun d : Dev nD => G a3 d)
        ∗ bigSep Finset.univ fun thr : Thread nD τ => bigSep Finset.univ fun q : Fin 2 => (P m a3).x q thr) := by
  unfold u₀
  iintro Hu
  ihave H := (ownU_pair (initOf (K (F := F)).hsCells (K (F := F)).hsToks) ((initOf (Pipeline.cells (Pipeline.pin (pcfgs (F := F)) (adm a3)) (Gen.cellOf_inj (adm a3)))
    (Pipeline.launchToks (Pipeline.pin (pcfgs (F := F)) (adm a3)) (Gen.cellOf_inj (adm a3))), 1) : UP)) $$ Hu
  icases H with ⟨HH, HP⟩
  ihave HP := (own_pair_emb (embR : Emb UP 𝕄) (initOf (Pipeline.cells (Pipeline.pin (pcfgs (F := F)) (adm a3)) (Gen.cellOf_inj (adm a3)))
    (Pipeline.launchToks (Pipeline.pin (pcfgs (F := F)) (adm a3)) (Gen.cellOf_inj (adm a3)))) (1 : Counters)) $$ HP
  icases HP with ⟨HP, -⟩
  imod (Pipeline.fund_ghost (Pipeline.pin (pcfgs (F := F)) (adm a3)) (EP (F := F)) (Gen.cellOf_inj (adm a3))) $$ HP with ⟨Hc, Ht⟩
  imodintro
  isplitl [HH]; · iexact HH
  isplitl [Hc Ht]
  · unfold G ghost
    simp only [bigSep_sep']
    isplitl [Hc]
    · iexact Hc
    · iexact Ht
  have hx : (bigSep Finset.univ fun thr : Thread nD τ => bigSep Finset.univ fun q : Fin 2 => (P (F := F) m a3).x q thr) = (iprop(emp) : sProp 𝕄) := by
    have h1 : ∀ thr : Thread nD τ, (bigSep Finset.univ fun q : Fin 2 => (P (F := F) m a3).x q thr) = (iprop(emp) : sProp 𝕄) := fun thr => bigSep_emp_const _
    simp only [h1]
    exact bigSep_emp_const _
  rw [hx]
  iempintro

/-! ## @main on the TensorCore -/

abbrev S₀ : Finset (DevRef τ sig) := ucRefs τ sig

/-- The dispatch's three operands among all the arrays. -/
theorem held_opsD (d : Dev nD) (W : Valuation τ sig (Elt F)) :
    (held (T d) S₀ W : sProp 𝕄) = iprop(((Disp.tLoc d ↦{fullShare} W (rf main_v14)) ∗ (Disp.iLoc d ↦{fullShare} W (rf main_v12)) ∗ Disp.oLoc d ↦{fullShare} W (rf main_v15))
      ∗ held (T d) (S₀ \ {rf main_v14, rf main_v12, rf main_v15}) W) := by
  rw [StableHlo.held_sub_split (T d) (show ({rf main_v14, rf main_v12, rf main_v15} : Finset (DevRef τ sig)) ⊆ S₀ by decide)]
  congr 1
  unfold held
  rw [SparseCore.bigSep_insert' (by decide), SparseCore.bigSep_insert' (by decide), bigSep_singleton]

/-- The gather's three operands among all the arrays. -/
theorem held_opsG (d : Dev nD) (W : Valuation τ sig (Elt F)) :
    (held (T d) S₀ W : sProp 𝕄) = iprop(((Gath.tLoc d ↦{fullShare} W (rf main_v19)) ∗ (Gath.iLoc d ↦{fullShare} W (rf main_v12)) ∗ Gath.oLoc d ↦{fullShare} W (rf main_v20))
      ∗ held (T d) (S₀ \ {rf main_v19, rf main_v12, rf main_v20}) W) := by
  rw [StableHlo.held_sub_split (T d) (show ({rf main_v19, rf main_v12, rf main_v20} : Finset (DevRef τ sig)) ⊆ S₀ by decide)]
  congr 1
  unfold held
  rw [SparseCore.bigSep_insert' (by decide), SparseCore.bigSep_insert' (by decide), bigSep_singleton]

theorem held_VC (d : Dev nD) :
    (held d.tc S₀ (after opsB (VB m d)) : sProp 𝕄)
      = iprop(((Disp.tLoc d ↦{fullShare} toks m d) ∗ (Disp.iLoc d ↦{fullShare} lst m d) ∗ Disp.oLoc d ↦{fullShare} old m d)
        ∗ held (T d) (S₀ \ {rf main_v14, rf main_v12, rf main_v15}) (VC m d)) := held_opsD d (VC m d)

theorem held_VD (d : Dev nD) :
    (held d.tc S₀ (VD m d) : sProp 𝕄)
      = iprop(((Disp.tLoc d ↦{fullShare} toks m d) ∗ (Disp.iLoc d ↦{fullShare} lst m d) ∗ Disp.oLoc d ↦{fullShare} sorted m d)
        ∗ held (T d) (S₀ \ {rf main_v14, rf main_v12, rf main_v15}) (VC m d)) := by
  refine (held_opsD d (VD m d)).trans ?_
  rw [show VD m d (rf main_v14) = toks m d from Function.update_of_ne (StableHlo.devRef_ne_of_ne (by decide)) _ _,
    show VD m d (rf main_v12) = lst m d from Function.update_of_ne (StableHlo.devRef_ne_of_ne (by decide)) _ _,
    show VD m d (rf main_v15) = sorted m d from Function.update_self _ _ _,
    show (held (T d) (S₀ \ {rf main_v14, rf main_v12, rf main_v15}) (VD m d) : sProp 𝕄) = held (T d) (S₀ \ {rf main_v14, rf main_v12, rf main_v15}) (VC m d) from
      StableHlo.held_congr (T d) fun b hb => Function.update_of_ne (fun e => (Finset.mem_sdiff.mp hb).2 (by rw [e]; decide)) _ _]

theorem held_VH (d : Dev nD) :
    (held d.tc S₀ (opE.result (VG m a3 d)) : sProp 𝕄)
      = iprop(((Gath.tLoc d ↦{fullShare} tbl m a3 d) ∗ (Gath.iLoc d ↦{fullShare} lst' m a3 d) ∗ Gath.oLoc d ↦{fullShare} old' m a3 d)
        ∗ held (T d) (S₀ \ {rf main_v19, rf main_v12, rf main_v20}) (VH m a3 d)) := held_opsG d (VH m a3 d)

theorem held_VI (d : Dev nD) :
    (held d.tc S₀ (VI m a3 d) : sProp 𝕄)
      = iprop(((Gath.tLoc d ↦{fullShare} tbl m a3 d) ∗ (Gath.iLoc d ↦{fullShare} lst' m a3 d) ∗ Gath.oLoc d ↦{fullShare} got m a3 d)
        ∗ held (T d) (S₀ \ {rf main_v19, rf main_v12, rf main_v20}) (VH m a3 d)) := by
  refine (held_opsG d (VI m a3 d)).trans ?_
  rw [show VI m a3 d (rf main_v19) = tbl m a3 d from Function.update_of_ne (StableHlo.devRef_ne_of_ne (by decide)) _ _,
    show VI m a3 d (rf main_v12) = lst' m a3 d from Function.update_of_ne (StableHlo.devRef_ne_of_ne (by decide)) _ _,
    show VI m a3 d (rf main_v20) = got m a3 d from Function.update_self _ _ _,
    show (held (T d) (S₀ \ {rf main_v19, rf main_v12, rf main_v20}) (VI m a3 d) : sProp 𝕄) = held (T d) (S₀ \ {rf main_v19, rf main_v12, rf main_v20}) (VH m a3 d) from
      StableHlo.held_congr (T d) fun b hb => Function.update_of_ne (fun e => (Finset.mem_sdiff.mp hb).2 (by rw [e]; decide)) _ _]

theorem main_eq (d : Dev nD) : main (F := F) d
    = (StableHlo.seq (opsR (F := F)) >>= fun _ => (do
        Prog.lift (.customCall (SparseCore.inner (Pipeline.entry 0)) ())
        StableHlo.seq (opsB (F := F)) >>= fun _ => (do
          (K (F := F)).run d 0
          hlo rfl opC (fun _ => .ret ⟨⟩)
          Prog.lift (.customCall (SparseCore.inner (Pipeline.entry 1)) ())
          Prog.lift (.customCall (SparseCore.inner (Pipeline.entry 2)) ())
          hlo rfl opE (fun _ => .ret ⟨⟩)
          (K (F := F)).run d 1
          StableHlo.seq (opsF (F := F)) >>= fun _ => (do
            Prog.lift (.customCall (SparseCore.inner (Pipeline.entry 3)) ())
            StableHlo.seq (opsG (F := F)) >>= fun _ => pure ⟨⟩)))) := rfl

theorem G_eq (d : Dev nD) : (G a3 d : sProp 𝕄) = iprop(ghost (adm a3) 0 d ∗ ghost (adm a3) 1 d ∗ ghost (adm a3) 2 d ∗ ghost (adm a3) 3 d) := by
  unfold G
  rw [show (Finset.univ : Finset (Fin 4)) = {0, 1, 2, 3} by decide, SparseCore.bigSep_insert' (by decide), SparseCore.bigSep_insert' (by decide),
    SparseCore.bigSep_insert' (by decide), bigSep_singleton]

variable {m a3}

theorem hmain [∀ e, Nonempty (Elt F e)] (h : RunOK m a3) (κ : GSem nD τ sig → ℕ) (d : Dev nD) :
    iprop((K (F := F)).ctx EH (P m a3) κ ∗ (K (F := F)).tcSt EH d 0 ∗ (K (F := F)).tcRes m ρ d ∗ G a3 d)
      ⊢ wp frame (wpE ((K (F := F)).defs (D (F := F))) 𝒱 (SparseCore.T d) none) Set.univ (main d)
          fun _ => iprop((K (F := F)).tcSt EH d 2 ∗ held (T d) S₀ (VL m a3 d) ∗ (K (F := F)).tcEnd d) := by
  unfold SparseCore.Cfg.tcRes SparseCore.Cfg.tcEnd
  rw [main_eq, G_eq, show (unscopedBufs d (fun b => m ((SparseCore.T d).loc b)) : sProp 𝕄) = held (T d) S₀ (V0 m d) from Pipeline.unscopedBufs_held d (V0 m d)]
  iintro ⟨#Hctx, Hst, ⟨Hb, Hheld, Hts, -⟩, ⟨G0, G1, G2, G3⟩⟩
  iapply (StableHlo.wp_seq 𝒱 none Set.univ d S₀ _ opsR opsR_bufs opsR_fresh (V0 m d)) $$ [Hb Hheld]
  · isplitl [Hb] <;> iassumption
  iintro ⟨Hb, Hheld⟩
  simp only [wp_bind, wp_pure]
  iapply ((region0 (m := m) (a3 := a3)).step (P m a3) κ d) $$ [Hctx Hst Hb Hheld G0 Hts G1 G2 G3]
  isplitr; · iexact Hctx
  isplitl [Hb]; · iexact Hb
  isplitl [Hheld]; · iexact Hheld
  isplitl [Hst]; · iexact Hst
  isplitl [G0]; · iexact G0
  iintro ⟨Hb, Hheld, Hst⟩
  iapply (StableHlo.wp_seq 𝒱 none Set.univ d S₀ _ opsB opsB_bufs opsB_fresh (VB m d)) $$ [Hb Hheld]
  · isplitl [Hb] <;> iassumption
  iintro ⟨Hb, Hheld⟩
  rw [show (StableHlo.seq [] : Prog (TpuEff nD τ sig (Elt F) _ _) PUnit) = Prog.ret ⟨⟩ from rfl, wp_ret]; imodintro
  ihave Hh := (Entails.of_eq (held_VC m d)) $$ Hheld
  icases Hh with ⟨Hops, Hother⟩
  ihave Hd := (Disp.deal d (toks m d) (lst m d) (old m d) (h.distinct d)).1 $$ Hops
  icases Hd with ⟨Hrest, Htiles⟩
  iapply ((K (F := F)).wp_run (D (F := F)) 𝒱 (EH := EH) (P := P m a3) κ d 0) $$ [Hst Htiles Hb Hts Hother Hrest G1 G2 G3]
  isplitr; · iexact Hctx
  isplitl [Hst]; · iexact Hst
  isplitl [Htiles]; · iexact Htiles
  iintro ⟨Hst, Hdn⟩
  ihave Hrest := (Entails.of_eq (Disp.rest_scat d (toks m d) (lst m d) (old m d))) $$ Hrest
  ihave Hops := (Disp.deal d (toks m d) (lst m d) (sorted m d) (h.distinct d)).2 $$ [Hrest Hdn]
  · isplitl [Hrest]; · iexact Hrest
    iexact Hdn
  iapply (StableHlo.wp_hlo_within 𝒱 (SparseCore.T d) none Set.univ (op := opC) (S := S₀) opC_bufs (V := VD m d)) $$ [Hb Hops Hother]
  · isplitl [Hb]; · iexact Hb
    rw [held_VD]
    isplitl [Hops] <;> iassumption
  iintro ⟨Hb, Hheld⟩
  rw [wp_ret]; imodintro
  iapply ((region1 (m := m) (a3 := a3)).step (P m a3) κ d) $$ [Hctx Hst Hb Hheld Hts G1 G2 G3]
  isplitr; · iexact Hctx
  isplitl [Hb]; · iexact Hb
  isplitl [Hheld]; · iexact Hheld
  isplitl [Hst]; · iexact Hst
  isplitl [G1]; · iexact G1
  iintro ⟨Hb, Hheld, Hst⟩
  iapply ((region2 h).step (P m a3) κ d) $$ [Hctx Hst Hb Hheld Hts G2 G3]
  isplitr; · iexact Hctx
  isplitl [Hb]; · iexact Hb
  isplitl [Hheld]; · iexact Hheld
  isplitl [Hst]; · iexact Hst
  isplitl [G2]; · iexact G2
  iintro ⟨Hb, Hheld, Hst⟩
  iapply (StableHlo.wp_hlo_within 𝒱 (SparseCore.T d) none Set.univ (op := opE) (S := S₀) opE_bufs (V := VG m a3 d)) $$ [Hb Hheld]
  · isplitl [Hb] <;> iassumption
  iintro ⟨Hb, Hheld⟩
  rw [wp_ret]; imodintro
  ihave Hh := (Entails.of_eq (held_VH m a3 d)) $$ Hheld
  icases Hh with ⟨Hops, Hother⟩
  ihave Hd := (Gath.deal d (tbl m a3 d) (lst' m a3 d) (old' m a3 d)).1 $$ Hops
  icases Hd with ⟨Hrest, Htiles⟩
  iapply ((K (F := F)).wp_run (D (F := F)) 𝒱 (EH := EH) (P := P m a3) κ d 1) $$ [Hst Htiles Hb Hts Hother Hrest G3]
  isplitr; · iexact Hctx
  isplitl [Hst]; · iexact Hst
  isplitl [Htiles]; · iexact Htiles
  iintro ⟨Hst, Hdn⟩
  ihave Hops := (Gath.deal d (tbl m a3 d) (lst' m a3 d) (got m a3 d)).2 $$ [Hrest Hdn]
  · isplitl [Hrest]; · iexact Hrest
    iexact Hdn
  iapply (StableHlo.wp_seq 𝒱 none Set.univ d S₀ _ opsF opsF_bufs opsF_fresh (VI m a3 d)) $$ [Hb Hops Hother]
  · isplitl [Hb]; · iexact Hb
    rw [held_VI]
    isplitl [Hops] <;> iassumption
  iintro ⟨Hb, Hheld⟩
  rw [show (StableHlo.seq [] : Prog (TpuEff nD τ sig (Elt F) _ _) PUnit) = Prog.ret ⟨⟩ from rfl, wp_ret]; imodintro
  iapply ((region3 (m := m) (a3 := a3)).step (P m a3) κ d) $$ [Hctx Hst Hb Hheld Hts G3]
  isplitr; · iexact Hctx
  isplitl [Hb]; · iexact Hb
  isplitl [Hheld]; · iexact Hheld
  isplitl [Hst]; · iexact Hst
  isplitl [G3]; · iexact G3
  iintro ⟨Hb, Hheld, Hst⟩
  iapply (StableHlo.wp_seq 𝒱 none Set.univ d S₀ _ opsG opsG_bufs opsG_fresh (VK m a3 d)) $$ [Hb Hheld]
  · isplitl [Hb] <;> iassumption
  iintro ⟨Hb, Hheld⟩
  rw [show (StableHlo.seq [] : Prog (TpuEff nD τ sig (Elt F) _ _) PUnit) = Prog.ret ⟨⟩ from rfl, wp_ret]; imodintro; imodintro
  isplitl [Hst]; · iexact Hst
  isplitl [Hheld]; · iexact Hheld
  isplitl [Hb] <;> iassumption

variable (m a3)

/-- Every array of the TensorCore ends at its computed contents. -/
def fq (d : Dev nD) (s' : Phys nD τ sig (Elt F)) : Prop := ∀ b ∈ S₀, s'.mem.mem (d, b) = VL m a3 d b

theorem hfin (d : Dev nD) (s' : Phys nD τ sig (Elt F)) : iprop(held (T d) S₀ (VL m a3 d) ∗ SI s') ⊢ (⌜fq m a3 d s'⌝ : sProp 𝕄) := by
  unfold held fq
  iintro ⟨Hh, HSI⟩
  ihave Hr := (pointsTo_read_all S₀ (fun b => (d, b)) (VL m a3 d) s') $$ [Hh HSI]
  · isplitl [Hh] <;> iassumption
  icases Hr with ⟨%h, -⟩
  ipureintro; exact h

def QC : PUnit × MemSt nD τ sig (Elt F) → Prop := fun r => (∀ c : Dev nD, ∀ b ∈ S₀, r.2.mem (c, b) = VL m a3 c b) ∧ r.2.sem = fun _ => 0

/-- The program terminates without fault, every array at its computed contents and every semaphore at zero. -/
theorem run_main [∀ e, Nonempty (Elt F e)] (h : RunOK m a3) :
    θ_run (Cert.KernelIdeal.defs (F := F)) (Cert.KernelIdeal.threads (F := F)) ⟨m, fun _ => 0, ρ⟩ (QC m a3) :=
  SparseCore.Cfg.θ_run_sc_quiescent (K := K (F := F)) (D := D (F := F)) (𝒱 := 𝒱) (EH := EH) (P := P m a3) (A := ∅) facts v₀
    (fun q hq => match q with | 0 => nomatch hq | 1 => nomatch hq)
    (fun q _ => match q with | 0 => tileObl0 m a3 facts h | 1 => tileObl1 m a3 facts h)
    (fun q _ => match q with | 0 => SparseCore.Cfg.VecSplit.of_plain (vecSplit0 m a3) | 1 => SparseCore.Cfg.VecSplit.of_plain (vecSplit1 m a3))
    m ρ main (G a3) (fun d => held (T d) S₀ (VL m a3 d)) (u₀ a3) (sep_elim_left.trans (hu₀ m a3)) (hmain ρ h) (fq m a3) (hfin m a3) (QC m a3)
    (fun _ h hz => ⟨h, hz⟩)

end Cert.Proof.Whole

end
-- ==== Proof.KWhole.lean ====
/-
  The whole program: both frames, and that kernel and reference compute the same two results over the extended reals.
-/
module

public import proofs.«01_k».proof.Defs
public import proofs.«01_k».proof.Proof.KEnd
public import proofs.«01_k».proof.Proof.KPre
public import proofs.«01_k».proof.Proof.KRun

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf arrRef arrRefs tblRefs ucRefs)

open Cert.Proof.Whole.Mid Cert.Proof.Whole.OK

theorem mem_S₀ (b : Ref sig .tc) (h : (rf b).isScoped = false) : (rf b : DevRef τ sig) ∈ S₀ :=
  Finset.mem_filter.mpr ⟨StableHlo.devRef_mem_tcRefs b, by rw [h]; exact Bool.false_ne_true⟩

variable (m : (ℓ : Loc nD τ sig) → Buf (Elt Ideal) ℓ)

/-- The run, read at the results and the arguments. -/
theorem run_values (ρ : Dev nD → PrngReg) :
    θ_run (Cert.KernelIdeal.defs (F := Ideal)) (Cert.KernelIdeal.threads (F := Ideal)) ⟨m, fun _ => 0, ρ⟩ fun r =>
      (∀ c : Dev nD, r.2.mem ((c.tc : Thread nD τ).loc main_v24) = VL m (a3 m) c (rf main_v24)
        ∧ r.2.mem ((c.tc : Thread nD τ).loc main_v25) = VL m (a3 m) c (rf main_v25)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
      ∧ r.2.sem = fun _ => 0 :=
  (θ_run Cert.KernelIdeal.defs _ _).mono
    (fun _ hr => ⟨fun c => ⟨hr.1 c _ (mem_S₀ main_v24 rfl), hr.1 c _ (mem_S₀ main_v25 rfl), (hr.1 c _ (mem_S₀ main_arg0 rfl)).trans (VL_arg0 m c), (hr.1 c _ (mem_S₀ main_arg1 rfl)).trans (VL_arg1 m c), (hr.1 c _ (mem_S₀ main_arg2 rfl)).trans (VL_arg2 m c), (hr.1 c _ (mem_S₀ main_arg3 rfl)).trans (VL_arg3 m c), (hr.1 c _ (mem_S₀ main_arg4 rfl)).trans (VL_arg4 m c), (hr.1 c _ (mem_S₀ main_arg5 rfl)).trans (VL_arg5 m c), (hr.1 c _ (mem_S₀ main_arg6 rfl)).trans (VL_arg6 m c), (hr.1 c _ (mem_S₀ main_arg7 rfl)).trans (VL_arg7 m c), (hr.1 c _ (mem_S₀ main_arg8 rfl)).trans (VL_arg8 m c), (hr.1 c _ (mem_S₀ main_arg9 rfl)).trans (VL_arg9 m c), (hr.1 c _ (mem_S₀ main_arg10 rfl)).trans (VL_arg10 m c), (hr.1 c _ (mem_S₀ main_arg11 rfl)).trans (VL_arg11 m c)⟩, hr.2⟩)
    (run_main m ρ (a3 m) (runOK m))

theorem frame_kernel : Cert.quiescent_KernelIdeal := fun m ρ _ =>
  (θ_run Cert.KernelIdeal.defs _ _).mono (fun _ h => ⟨fun c => (h.1 c).2.2, h.2⟩) (run_values m ρ)

theorem frame_reference : Cert.quiescent_ReferenceIdeal := fun m ρ _ =>
  (θ_run _ _ _).mono (fun _ h => ⟨fun c => (h c).2.2, sem_eq_zero_of_no_sems rfl _⟩) (Cert.ReferenceIdeal.Value.run (F := Ideal) m ρ)

/-! ## The kernel's values from the arguments -/

theorem xrow_eq (t : Fin 2048) (j : Fin 1024) : xrow m t j = (m (0, rf main_arg0) : Vec Ideal S1x2048x1024 .f32) (i3 0 t j) := by
  unfold xrow
  rw [VA_v0]
  refine shapeCast_apply _ _ (ix2 t j) (i3 0 t j) ?_
  rw [Shape.rowMajor_val_two, Shape.rowMajor_val_three]
  show (0 * 2048 + t.val) * 1024 + j.val = t.val * 1024 + j.val
  omega

theorem v1_eq (t : Fin 2048) : (VA m 0 (rf main_v1) : Vec Ideal S2048x1 .f32) (ix2 t 0) = (m (0, rf main_arg1) : Vec Ideal S1x2048 .f32) (ix2 0 t) := by
  rw [VA_v1]
  refine shapeCast_apply _ _ (ix2 t 0) (ix2 0 t) ?_
  rw [Shape.rowMajor_val_two, Shape.rowMajor_val_two]
  show 0 * 2048 + t.val = t.val * 1 + 0
  omega

theorem v2_eq (e : Fin 8) : (VA m 0 (rf main_v2) : Vec Ideal S1x8 .f32) (ix2 0 e) = (m (0, rf main_arg3) : Vec Ideal S8 .f32) (ix1 e) := by
  rw [VA_v2]
  refine shapeCast_apply _ _ (ix2 0 e) (ix1 e) ?_
  rw [Shape.rowMajor_val_two]
  refine (Shape.rowMajor_val_one (d := ![8]) (ix1 e)).trans ?_
  show e.val = 0 * 8 + e.val
  omega

theorem v3_eq (e : Fin 8) : (VA m 0 (rf main_v3) : Vec Ideal S1x8 .f32) (ix2 0 e) = (m (0, rf main_arg4) : Vec Ideal S8 .f32) (ix1 e) := by
  rw [VA_v3]
  refine shapeCast_apply _ _ (ix2 0 e) (ix1 e) ?_
  rw [Shape.rowMajor_val_two]
  refine (Shape.rowMajor_val_one (d := ![8]) (ix1 e)).trans ?_
  show e.val = 0 * 8 + e.val
  omega

theorem lg_eq (t : Fin 2048) (e : Fin 8) :
    Router.lg (VA m 0 (rf main_v0)) (VA m 0 (rf main_v1)) (VA m 0 (rf main_arg2)) (VA m 0 (rf main_v2)) (VA m 0 (rf main_v3)) t e
      = Ref.lgt (m (0, rf main_arg0)) (m (0, rf main_arg1)) (m (0, rf main_arg2)) (m (0, rf main_arg3)) (m (0, rf main_arg4)) t e := by
  unfold Router.lg Ref.lgt
  refine congrArg₂ (· + ·) (congrArg₂ (· + ·) (Finset.sum_congr rfl fun k _ => congrArg₂ (· * ·) (xrow_eq m t k) ?_)
    (congrArg₂ (· * ·) (congrArg (fun v => min 1 (max 0 v)) (v1_eq m t)) (v2_eq m e))) (congrArg₂ (· * ·) (congrArg (fun v => 1 - min 1 (max 0 v)) (v1_eq m t)) (v3_eq m e))
  rw [VA_arg 0 m main_arg2 (by decide) (by decide) (by decide) (by decide)]

theorem P_eq (t : Fin 2048) : Mid.P m t = Router.soft (Ref.lgt (m (0, rf main_arg0)) (m (0, rf main_arg1)) (m (0, rf main_arg2)) (m (0, rf main_arg3)) (m (0, rf main_arg4)) t) := by
  unfold Mid.P Router.P
  exact congrArg Router.soft (funext fun e => lg_eq m t e)

/-! ## Kernel and reference -/

section
variable (m' : (ℓ : Loc Cert.ReferenceIdeal.nD Cert.ReferenceIdeal.τ Cert.ReferenceIdeal.sig) → Buf (Elt Ideal) ℓ)

/-- Every argument of the two programs agrees. -/
def Agree : Prop :=
  m' (((0 : Dev Cert.ReferenceIdeal.nD).tc : Thread Cert.ReferenceIdeal.nD Cert.ReferenceIdeal.τ).loc Cert.ReferenceIdeal.main_arg0) = m (0, rf main_arg0)
  ∧ m' (((0 : Dev Cert.ReferenceIdeal.nD).tc : Thread Cert.ReferenceIdeal.nD Cert.ReferenceIdeal.τ).loc Cert.ReferenceIdeal.main_arg1) = m (0, rf main_arg1)
  ∧ m' (((0 : Dev Cert.ReferenceIdeal.nD).tc : Thread Cert.ReferenceIdeal.nD Cert.ReferenceIdeal.τ).loc Cert.ReferenceIdeal.main_arg2) = m (0, rf main_arg2)
  ∧ m' (((0 : Dev Cert.ReferenceIdeal.nD).tc : Thread Cert.ReferenceIdeal.nD Cert.ReferenceIdeal.τ).loc Cert.ReferenceIdeal.main_arg3) = m (0, rf main_arg3)
  ∧ m' (((0 : Dev Cert.ReferenceIdeal.nD).tc : Thread Cert.ReferenceIdeal.nD Cert.ReferenceIdeal.τ).loc Cert.ReferenceIdeal.main_arg4) = m (0, rf main_arg4)
  ∧ m' (((0 : Dev Cert.ReferenceIdeal.nD).tc : Thread Cert.ReferenceIdeal.nD Cert.ReferenceIdeal.τ).loc Cert.ReferenceIdeal.main_arg5) = m (0, rf main_arg5)
  ∧ m' (((0 : Dev Cert.ReferenceIdeal.nD).tc : Thread Cert.ReferenceIdeal.nD Cert.ReferenceIdeal.τ).loc Cert.ReferenceIdeal.main_arg6) = m (0, rf main_arg6)
  ∧ m' (((0 : Dev Cert.ReferenceIdeal.nD).tc : Thread Cert.ReferenceIdeal.nD Cert.ReferenceIdeal.τ).loc Cert.ReferenceIdeal.main_arg7) = m (0, rf main_arg7)
  ∧ m' (((0 : Dev Cert.ReferenceIdeal.nD).tc : Thread Cert.ReferenceIdeal.nD Cert.ReferenceIdeal.τ).loc Cert.ReferenceIdeal.main_arg8) = m (0, rf main_arg8)
  ∧ m' (((0 : Dev Cert.ReferenceIdeal.nD).tc : Thread Cert.ReferenceIdeal.nD Cert.ReferenceIdeal.τ).loc Cert.ReferenceIdeal.main_arg9) = m (0, rf main_arg9)
  ∧ m' (((0 : Dev Cert.ReferenceIdeal.nD).tc : Thread Cert.ReferenceIdeal.nD Cert.ReferenceIdeal.τ).loc Cert.ReferenceIdeal.main_arg10) = m (0, rf main_arg10)
  ∧ m' (((0 : Dev Cert.ReferenceIdeal.nD).tc : Thread Cert.ReferenceIdeal.nD Cert.ReferenceIdeal.τ).loc Cert.ReferenceIdeal.main_arg11) = m (0, rf main_arg11)

variable (ha : Agree m m')

include ha in
theorem pb_eq (t : Fin 2048) : Ref.pb m' 0 t = Mid.P m t := by
  obtain ⟨h0, h1, h2, h3, h4, -⟩ := ha
  rw [P_eq]
  unfold Ref.pb
  rw [h0, h1, h2, h3, h4]

include ha in
theorem eo_eq (e : Fin 8) (t : Fin 2048) : Ref.eo m' 0 e t = eo m e t := by
  obtain ⟨h0, -, -, -, -, h5, h6, h7, -⟩ := ha
  unfold Ref.eo
  rw [h0, h5, h6, h7]
  exact funext fun k => ffn_congr (fun j => (xrow_eq m t j).symm) (fun _ _ => rfl) (fun _ _ => rfl) (fun _ _ => rfl) k

include ha in
theorem sh_eq (t : Fin 2048) : Ref.sh m' 0 t = sh m t := by
  obtain ⟨h0, -, -, -, -, -, -, -, h8, h9, h10, -⟩ := ha
  unfold Ref.sh
  rw [h0, h8, h9, h10]
  exact funext fun k => ffn_congr (fun j => (xrow_eq m t j).symm) (fun _ _ => rfl) (fun _ _ => rfl) (fun _ _ => rfl) k

include ha in
theorem bal_agree : (Cert.ReferenceIdeal.Value.res_main_v34 m' 0 : FVec Ideal S_ .f32) = VL m (a3 m) 0 (rf main_v25) := by
  funext i
  rw [VL_bal]
  refine (Ref.bal m' 0 i).trans ?_
  simp only [pb_eq m m' ha]

include ha in
theorem y_agree (hf : ∀ t e, ⊥ < Ref.lgt (m (0, rf main_arg0)) (m (0, rf main_arg1)) (m (0, rf main_arg2)) (m (0, rf main_arg3)) (m (0, rf main_arg4)) t e
      ∧ Ref.lgt (m (0, rf main_arg0)) (m (0, rf main_arg1)) (m (0, rf main_arg2)) (m (0, rf main_arg3)) (m (0, rf main_arg4)) t e < ⊤) :
    (Cert.ReferenceIdeal.Value.res_main_v82 m' 0 : FVec Ideal S1x2048x1024 .f32) = VL m (a3 m) 0 (rf main_v24) := by
  funext i
  obtain ⟨t, k, rfl⟩ : ∃ (t : Fin 2048) (k : Fin 1024), i = i3 0 t k :=
    ⟨i 1, i 2, funext fun a => by fin_cases a; exacts [Subsingleton.elim (α := Fin 1) _ _, rfl, rfl]⟩
  have hb : ∀ e, ⊥ < Mid.P m t e := by
    rw [P_eq]
    exact fun e => Ref.soft_bot (hf t) e
  rw [VL_y, Top.mask_top2 hb]
  obtain ⟨h0, h1, h2, h3, h4, -, -, -, -, -, -, h11⟩ := id ha
  refine (Ref.yres m' 0 (by rw [h0, h1, h2, h3, h4]; exact hf) t k).trans ?_
  rw [pb_eq m m' ha, sh_eq m m' ha, eo_eq m m' ha, eo_eq m m' ha, h11]

end

theorem algebraic : Cert.algebraic_KernelIdeal_ReferenceIdeal_pre_logits_finite := by
  intro m ρ m' ρ' hpre hargs
  have ha : Agree m m' := hargs 0
  have hf := fun t e => Pre.finite (hpre 0) t e
  refine ⟨fun c => VL m (a3 m) c (rf main_v24), fun c => VL m (a3 m) c (rf main_v25), (θ_run Cert.KernelIdeal.defs _ _).mono (fun _ h => h.1) (run_values m ρ), ?_⟩
  refine (θ_run _ _ _).mono (fun _ h c => ?_) (Cert.ReferenceIdeal.Value.run (F := Ideal) m' ρ')
  obtain rfl : c = 0 := Subsingleton.elim (α := Fin 1) _ _
  exact ⟨(h 0).1.trans (y_agree m m' ha hf), (h 0).2.1.trans (bal_agree m m' ha), (h 0).2.2⟩

end Cert.Proof.Whole
end
-- ==== Proof.lean ====
/-
  The certificate of the whole kernel and of its gather call: the programs' frames, and that kernel and reference
  compute the same results over the extended reals.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Gather
public import proofs.«01_k».proof.Proof.Gen.GatherIdeal
public import proofs.«01_k».proof.Proof.Gen.GatherReferenceIdeal
public import proofs.«01_k».proof.Proof.Gen.GatherReferenceIdeal.Run
public import proofs.«01_k».proof.Proof.Gen.Pre_slots_in_range
public import proofs.«01_k».proof.Proof.GatherValue
public import proofs.«01_k».proof.Proof.KWhole

@[expose] public section

noncomputable section

namespace Cert.Proof

open Idealize.ShloMosaic Idealize.SL.Sem

theorem claim : Cert.Claim :=
  ⟨Cert.KernelIdeal.Gen.facts, Cert.ReferenceIdeal.Gen.facts, Cert.Gather.Gen.facts, Cert.GatherIdeal.Gen.facts, Cert.GatherReferenceIdeal.Gen.facts,
    Whole.Pre.facts, Cert.Pre_slots_in_range.Gen.facts,
    Whole.frame_kernel, fun m ρ _ => Whole.frame_kernel m ρ trivial,
    Whole.frame_reference, fun m ρ _ => Whole.frame_reference m ρ trivial,
    Gather.frame_bits, Gather.frame_ideal, Gather.frame_reference, fun m ρ _ => Gather.frame_reference m ρ trivial,
    Whole.algebraic, trivial, Gather.algebraic⟩

end Cert.Proof

end
